-- ==== Defs.lean ====
def Pre_Kernel [hPre_neighbours_in_range : Cert.Pre_neighbours_in_range.Facts] (m : (ℓ : Loc Cert.Kernel.nD Cert.Kernel.τ Cert.Kernel.sig) → Buf (Elt Bits) ℓ) : Prop :=
  ∀ c : Dev Cert.Kernel.nD,
    (Cert.Pre_neighbours_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_neighbours_in_range : Cert.Pre_neighbours_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_neighbours_in_range_and_spread [hPre_neighbours_in_range_and_spread : Cert.Pre_neighbours_in_range_and_spread.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_in_range_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_in_range_and_spread [hPre_neighbours_in_range_and_spread : Cert.Pre_neighbours_in_range_and_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_in_range_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WholeIdeal (m : (ℓ : Loc Cert.WholeIdeal.nD Cert.WholeIdeal.τ Cert.WholeIdeal.sig) → Buf (Elt Ideal) ℓ) : Prop :=
  True

def Pre_WholeIdeal_spread_of_both [hPre_spread_of_both : Cert.Pre_spread_of_both.Facts] (m : (ℓ : Loc Cert.WholeIdeal.nD Cert.WholeIdeal.τ Cert.WholeIdeal.sig) → Buf (Elt Ideal) ℓ) : Prop :=
  ∀ c : Dev Cert.WholeIdeal.nD,
    (Cert.Pre_spread_of_both.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_spread_of_both [hPre_spread_of_both : Cert.Pre_spread_of_both.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_spread_of_both.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1))) = (fun _ => 1#1)

def quiescent_Kernel [hKernel : Cert.Kernel.Facts] [hPre_neighbours_in_range : Cert.Pre_neighbours_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_neighbours_in_range : Cert.Pre_neighbours_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_neighbours_in_range_and_spread [hKernelIdeal : Cert.KernelIdeal.Facts] [hPre_neighbours_in_range_and_spread : Cert.Pre_neighbours_in_range_and_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_in_range_and_spread m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_neighbours_in_range_and_spread [hReferenceIdeal : Cert.ReferenceIdeal.Facts] [hPre_neighbours_in_range_and_spread : Cert.Pre_neighbours_in_range_and_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_in_range_and_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeIdeal_pre_spread_of_both [hWholeIdeal : Cert.WholeIdeal.Facts] [hPre_spread_of_both : Cert.Pre_spread_of_both.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_spread_of_both m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def quiescent_WholeReferenceIdeal_pre_spread_of_both [hWholeReferenceIdeal : Cert.WholeReferenceIdeal.Facts] [hPre_spread_of_both : Cert.Pre_spread_of_both.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_spread_of_both m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def preserves_Kernel_KernelIdeal : Prop :=
  True

def algebraic_KernelIdeal_ReferenceIdeal_pre_neighbours_in_range_and_spread [hKernelIdeal : Cert.KernelIdeal.Facts] [hReferenceIdeal : Cert.ReferenceIdeal.Facts] [hPre_neighbours_in_range_and_spread : Cert.Pre_neighbours_in_range_and_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_in_range_and_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_WholeIdeal_WholeReferenceIdeal_pre_spread_of_both [hWholeIdeal : Cert.WholeIdeal.Facts] [hWholeReferenceIdeal : Cert.WholeReferenceIdeal.Facts] [hPre_spread_of_both : Cert.Pre_spread_of_both.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_spread_of_both m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)) →
    ∃ (v0 : (c : Dev Cert.WholeIdeal.nD) → Buf (Elt Ideal) ((c.tc : Thread Cert.WholeIdeal.nD Cert.WholeIdeal.τ).loc Cert.WholeIdeal.main_v8)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v8) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v108) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1))

def Claim : Prop :=
  ∃ (hKernel : Cert.Kernel.Facts) (hKernelIdeal : Cert.KernelIdeal.Facts) (hReferenceIdeal : Cert.ReferenceIdeal.Facts) (hWholeIdeal : Cert.WholeIdeal.Facts) (hWholeReferenceIdeal : Cert.WholeReferenceIdeal.Facts) (hPre_neighbours_in_range : Cert.Pre_neighbours_in_range.Facts) (hPre_neighbours_in_range_and_spread : Cert.Pre_neighbours_in_range_and_spread.Facts) (hPre_spread_of_both : Cert.Pre_spread_of_both.Facts),
    quiescent_Kernel (hKernel := hKernel) (hPre_neighbours_in_range := hPre_neighbours_in_range)
    ∧ quiescent_KernelIdeal (hKernelIdeal := hKernelIdeal) (hPre_neighbours_in_range := hPre_neighbours_in_range)
    ∧ quiescent_KernelIdeal_pre_neighbours_in_range_and_spread (hKernelIdeal := hKernelIdeal) (hPre_neighbours_in_range_and_spread := hPre_neighbours_in_range_and_spread)
    ∧ quiescent_ReferenceIdeal (hReferenceIdeal := hReferenceIdeal)
    ∧ quiescent_ReferenceIdeal_pre_neighbours_in_range_and_spread (hReferenceIdeal := hReferenceIdeal) (hPre_neighbours_in_range_and_spread := hPre_neighbours_in_range_and_spread)
    ∧ quiescent_WholeIdeal (hWholeIdeal := hWholeIdeal)
    ∧ quiescent_WholeIdeal_pre_spread_of_both (hWholeIdeal := hWholeIdeal) (hPre_spread_of_both := hPre_spread_of_both)
    ∧ quiescent_WholeReferenceIdeal (hWholeReferenceIdeal := hWholeReferenceIdeal)
    ∧ quiescent_WholeReferenceIdeal_pre_spread_of_both (hWholeReferenceIdeal := hWholeReferenceIdeal) (hPre_spread_of_both := hPre_spread_of_both)
    ∧ preserves_Kernel_KernelIdeal
    ∧ algebraic_KernelIdeal_ReferenceIdeal_pre_neighbours_in_range_and_spread (hKernelIdeal := hKernelIdeal) (hReferenceIdeal := hReferenceIdeal) (hPre_neighbours_in_range_and_spread := hPre_neighbours_in_range_and_spread)
    ∧ algebraic_WholeIdeal_WholeReferenceIdeal_pre_spread_of_both (hWholeIdeal := hWholeIdeal) (hWholeReferenceIdeal := hWholeReferenceIdeal) (hPre_spread_of_both := hPre_spread_of_both)
-- ==== Pre_neighbours_in_range.lean ====
abbrev S4096x64 : Shape := ⟨2, ![4096, 64]⟩
abbrev S4096x8 : Shape := ⟨2, ![4096, 8]⟩
abbrev S4096x5 : Shape := ⟨2, ![4096, 5]⟩
abbrev S_ : Shape := ⟨0, ![]⟩

class Facts : Prop where
  slices_S4096x8_S4096x5_0_0 : S4096x8.Slices ![0, 0] S4096x5
  bcast_S_S4096x5 : S_.BroadcastsInDim S4096x5 (![] : Fin 0 → Fin S4096x5.rank)

variable [Facts]

def fn {F : FTy → Type} [FloatOps F] (main_arg0 : FVec F S4096x64 .f32) (main_arg1 : IVec S4096x8 32) (main_arg2 : FVec F S4096x8 .f32) : IVec S4096x5 1 :=
  let main_v0 : IVec S4096x5 32 := (extractStridedSlice S4096x5 ![0, 0] · slices_S4096x8_S4096x5_0_0) main_arg1
  let main_c : IVec S_ 32 := constantI S_ 32 0#32
  let main_v1 : IVec S4096x5 32 := broadcastInDim S4096x5 ![] bcast_S_S4096x5 main_c
  let main_v2 : IVec S4096x5 1 := cmpi .sge main_v0 main_v1
  let main_v3 : IVec S4096x5 32 := (extractStridedSlice S4096x5 ![0, 0] · slices_S4096x8_S4096x5_0_0) main_arg1
  let main_c_0 : IVec S_ 32 := constantI S_ 32 4096#32
  let main_v4 : IVec S4096x5 32 := broadcastInDim S4096x5 ![] bcast_S_S4096x5 main_c_0
  let main_v5 : IVec S4096x5 1 := cmpi .slt main_v3 main_v4
  let main_v6 : IVec S4096x5 1 := andi main_v2 main_v5
  main_v6
-- ==== Pre_neighbours_in_range_and_spread.lean ====
abbrev S4096x64 : Shape := ⟨2, ![4096, 64]⟩
abbrev S4096x8 : Shape := ⟨2, ![4096, 8]⟩
abbrev S_ : Shape := ⟨0, ![]⟩
abbrev S64 : Shape := ⟨1, ![64]⟩
abbrev S1x64 : Shape := ⟨2, ![1, 64]⟩
abbrev S4096 : Shape := ⟨1, ![4096]⟩
abbrev S1 : Shape := ⟨1, ![1]⟩
abbrev S4096x5 : Shape := ⟨2, ![4096, 5]⟩

class Facts : Prop where
  reducesTo_S4096x64_S64_d0 : S4096x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  reducesTo_S4096_S_d0 : S4096.ReducesTo [0] S_
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  slices_S4096x8_S4096x5_0_0 : S4096x8.Slices ![0, 0] S4096x5
  bcast_S_S4096x5 : S_.BroadcastsInDim S4096x5 (![] : Fin 0 → Fin S4096x5.rank)
  gather_S4096_S1_S__n_0_n_n_0_0_1_wf : GatherDims.WF S4096 S1 S_ [] [0] [] [0] [] 0 ![1]

variable [Facts]

variable {F : FTy → Type} [FloatOps F]
def comparator_f32_d0 : F .f32 → F .f32 → BitVec 1 :=
  fun l r =>
    let cst_9 := FloatOps.ofBits .f32 0x00000000#32
    let v24 := FloatOps.cmpf .oeq l cst_9
    let cst_10 := FloatOps.ofBits .f32 0x00000000#32
    let v25 := Scalar.select v24 cst_10 l
    let v26 := FloatOps.cmpf .une l l
    let cst_11 := FloatOps.ofBits .f32 0x7FC00000#32
    let v27 := Scalar.select v26 cst_11 v25
    let cst_12 := FloatOps.ofBits .f32 0x00000000#32
    let v28 := FloatOps.cmpf .oeq r cst_12
    let cst_13 := FloatOps.ofBits .f32 0x00000000#32
    let v29 := Scalar.select v28 cst_13 r
    let v30 := FloatOps.cmpf .une r r
    let cst_14 := FloatOps.ofBits .f32 0x7FC00000#32
    let v31 := Scalar.select v30 cst_14 v29
    let v32 := FloatOps.cmpfTotal .lt v27 v31
    v32
def gather_S4096_S1_S__n_0_n_n_0_0_1 : GatherDims S4096 S1 S_ where
  offsetDims := []
  collapsedSliceDims := [0]
  operandBatchingDims := []
  startIndicesBatchingDims := []
  startIndexMap := [0]
  indexVectorDim := 0
  sliceSizes := ![1]
  wf := gather_S4096_S1_S__n_0_n_n_0_0_1_wf

def fn_where {F : FTy → Type} [FloatOps F] (arg0 : IVec S1 1) (arg1 : FVec F S_ .f32) (arg2 : FVec F S4096 .f32) : FVec F S4096 .f32 :=
  let v0 : FVec F S_ .f32 := id arg1
  let v1 : IVec S4096 1 := broadcastInDim S4096 ![0] bcast_S1_S4096_0 arg0
  let v2 : FVec F S4096 .f32 := broadcastInDim S4096 ![] bcast_S_S4096 v0
  let v3 : FVec F S4096 .f32 := select v1 v2 arg2
  v3

def fn_quantile_part1 {F : FTy → Type} [FloatOps F] (v4 : FVec F S4096 .f32) (v8 : FVec F S_ .f32) (v9 : FVec F S_ .f32) (v10 : FVec F S_ .f32) (v12 : FVec F S_ .f32) (v13 : FVec F S_ .f32) : FVec F S_ .f32 :=
  let cst_8 : FVec F S_ .f32 := constant S_ .f32 0x00000000#32
  let v14 : FVec F S_ .f32 := (fun lo x hi => minimumf (maximumf x lo) hi) cst_8 v8 v13
  let v15 : IVec S_ 32 := fptosi 32 v12
  let v16 : IVec S_ 32 := fptosi 32 v14
  let v17 : IVec S1 32 := broadcastInDim S1 ![] bcast_S_S1 v15
  let v18 : FVec F S_ .f32 := (fun x i => Host.gather gather_S4096_S1_S__n_0_n_n_0_0_1 x i) v4 v17
  let v19 : IVec S1 32 := broadcastInDim S1 ![] bcast_S_S1 v16
  let v20 : FVec F S_ .f32 := (fun x i => Host.gather gather_S4096_S1_S__n_0_n_n_0_0_1 x i) v4 v19
  let v21 : FVec F S_ .f32 := mulf v18 v10
  let v22 : FVec F S_ .f32 := mulf v20 v9
  let v23 : FVec F S_ .f32 := addf v21 v22
  v23

def fn_quantile {F : FTy → Type} [FloatOps F] (arg0 : FVec F S4096 .f32) (arg1 : FVec F S_ .f32) : FVec F S_ .f32 :=
  let v0 : IVec S4096 1 := cmpf .une arg0 arg0
  let c : IVec S_ 1 := constantI S_ 1 0#1
  let v1 : IVec S_ 1 := (fun x v => Host.reduce IntOp.ori x v reducesTo_S4096_S_d0 h_S_) v0 c
  let v2 : IVec S1 1 := broadcastInDim S1 ![] bcast_S_S1 v1
  let cst : FVec F S_ .f32 := constant S_ .f32 0x7FC00000#32
  let v3 : FVec F S4096 .f32 := fn_where (F := F) v2 cst arg0
  let v4 : FVec F S4096 .f32 := (fun x => Host.sort S4096 0 comparator_f32_d0 x) v3
  let cst_0 : FVec F S_ .f32 := constant S_ .f32 0x45800000#32
  let cst_1 : FVec F S_ .f32 := constant S_ .f32 0x3F800000#32
  let v5 : FVec F S_ .f32 := subf cst_0 cst_1
  let v6 : FVec F S_ .f32 := mulf arg1 v5
  let v7 : FVec F S_ .f32 := Host.floor v6
  let v8 : FVec F S_ .f32 := Host.ceil v6
  let v9 : FVec F S_ .f32 := subf v6 v7
  let cst_2 : FVec F S_ .f32 := constant S_ .f32 0x3F800000#32
  let v10 : FVec F S_ .f32 := subf cst_2 v9
  let cst_3 : FVec F S_ .f32 := constant S_ .f32 0x45800000#32
  let cst_4 : FVec F S_ .f32 := constant S_ .f32 0x3F800000#32
  let v11 : FVec F S_ .f32 := subf cst_3 cst_4
  let cst_5 : FVec F S_ .f32 := constant S_ .f32 0x00000000#32
  let v12 : FVec F S_ .f32 := (fun lo x hi => minimumf (maximumf x lo) hi) cst_5 v7 v11
  let cst_6 : FVec F S_ .f32 := constant S_ .f32 0x45800000#32
  let cst_7 : FVec F S_ .f32 := constant S_ .f32 0x3F800000#32
  let v13 : FVec F S_ .f32 := subf cst_6 cst_7
  fn_quantile_part1 (F := F) v4 v8 v9 v10 v12 v13

def fn_part1 {F : FTy → Type} [FloatOps F] (main_v9 : FVec F S_ .f32) (main_v16 : IVec S4096x5 1) (main_cst_4 : FVec F S_ .f32) : IVec S4096x5 1 :=
  let main_v17 : IVec S_ 1 := cmpf .ogt main_v9 main_cst_4
  let main_v18 : IVec S4096x5 1 := broadcastInDim S4096x5 ![] bcast_S_S4096x5 main_v17
  let main_v19 : IVec S4096x5 1 := andi main_v16 main_v18
  let main_cst_5 : FVec F S_ .f32 := constant S_ .f32 0x7F800000#32
  let main_v20 : IVec S_ 1 := cmpf .olt main_v9 main_cst_5
  let main_v21 : IVec S4096x5 1 := broadcastInDim S4096x5 ![] bcast_S_S4096x5 main_v20
  let main_v22 : IVec S4096x5 1 := andi main_v19 main_v21
  main_v22

def fn {F : FTy → Type} [FloatOps F] (main_arg0 : FVec F S4096x64 .f32) (main_arg1 : IVec S4096x8 32) (main_arg2 : FVec F S4096x8 .f32) : IVec S4096x5 1 :=
  let main_cst : FVec F S_ .f32 := constant S_ .f32 0x00000000#32
  let main_v0 : FVec F S64 .f32 := (fun x v => Host.reduceAdd x v reducesTo_S4096x64_S64_d0 h_S_) main_arg0 main_cst
  let main_cst_0 : FVec F S_ .f32 := constant S_ .f32 0x45800000#32
  let main_v1 : FVec F S64 .f32 := broadcastInDim S64 ![] bcast_S_S64 main_cst_0
  let main_v2 : FVec F S64 .f32 := Host.divf main_v0 main_v1
  let main_v3 : FVec F S1x64 .f32 := broadcastInDim S1x64 ![1] bcast_S64_S1x64_1 main_v2
  let main_v4 : FVec F S4096x64 .f32 := broadcastInDim S4096x64 ![0, 1] bcast_S1x64_S4096x64_0_1 main_v3
  let main_v5 : FVec F S4096x64 .f32 := subf main_arg0 main_v4
  let main_v6 : FVec F S4096x64 .f32 := mulf main_v5 main_v5
  let main_cst_1 : FVec F S_ .f32 := constant S_ .f32 0x00000000#32
  let main_v7 : FVec F S4096 .f32 := (fun x v => Host.reduceAdd x v reducesTo_S4096x64_S4096_d1 h_S_) main_v6 main_cst_1
  let main_v8 : FVec F S4096 .f32 := Host.sqrt main_v7
  let main_cst_2 : FVec F S_ .f32 := constant S_ .f32 0x3F7AE148#32
  let main_v9 : FVec F S_ .f32 := fn_quantile (F := F) main_v8 main_cst_2
  let main_v10 : IVec S4096x5 32 := (extractStridedSlice S4096x5 ![0, 0] · slices_S4096x8_S4096x5_0_0) main_arg1
  let main_c : IVec S_ 32 := constantI S_ 32 0#32
  let main_v11 : IVec S4096x5 32 := broadcastInDim S4096x5 ![] bcast_S_S4096x5 main_c
  let main_v12 : IVec S4096x5 1 := cmpi .sge main_v10 main_v11
  let main_v13 : IVec S4096x5 32 := (extractStridedSlice S4096x5 ![0, 0] · slices_S4096x8_S4096x5_0_0) main_arg1
  let main_c_3 : IVec S_ 32 := constantI S_ 32 4096#32
  let main_v14 : IVec S4096x5 32 := broadcastInDim S4096x5 ![] bcast_S_S4096x5 main_c_3
  let main_v15 : IVec S4096x5 1 := cmpi .slt main_v13 main_v14
  let main_v16 : IVec S4096x5 1 := andi main_v12 main_v15
  let main_cst_4 : FVec F S_ .f32 := constant S_ .f32 0x00000000#32
  fn_part1 (F := F) main_v9 main_v16 main_cst_4
-- ==== Pre_spread_of_both.lean ====
abbrev S4096x128 : Shape := ⟨2, ![4096, 128]⟩
abbrev S4096x64 : Shape := ⟨2, ![4096, 64]⟩
abbrev S_ : Shape := ⟨0, ![]⟩
abbrev S128 : Shape := ⟨1, ![128]⟩
abbrev S1x128 : Shape := ⟨2, ![1, 128]⟩
abbrev S4096 : Shape := ⟨1, ![4096]⟩
abbrev S1 : Shape := ⟨1, ![1]⟩
abbrev S64 : Shape := ⟨1, ![64]⟩
abbrev S1x64 : Shape := ⟨2, ![1, 64]⟩

class Facts : Prop where
  reducesTo_S4096x128_S128_d0 : S4096x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  reducesTo_S4096_S_d0 : S4096.ReducesTo [0] S_
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  reducesTo_S4096x64_S64_d0 : S4096x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  gather_S4096_S1_S__n_0_n_n_0_0_1_wf : GatherDims.WF S4096 S1 S_ [] [0] [] [0] [] 0 ![1]

variable [Facts]

variable {F : FTy → Type} [FloatOps F]
def comparator_f32_d0 : F .f32 → F .f32 → BitVec 1 :=
  fun l r =>
    let cst_9 := FloatOps.ofBits .f32 0x00000000#32
    let v24 := FloatOps.cmpf .oeq l cst_9
    let cst_10 := FloatOps.ofBits .f32 0x00000000#32
    let v25 := Scalar.select v24 cst_10 l
    let v26 := FloatOps.cmpf .une l l
    let cst_11 := FloatOps.ofBits .f32 0x7FC00000#32
    let v27 := Scalar.select v26 cst_11 v25
    let cst_12 := FloatOps.ofBits .f32 0x00000000#32
    let v28 := FloatOps.cmpf .oeq r cst_12
    let cst_13 := FloatOps.ofBits .f32 0x00000000#32
    let v29 := Scalar.select v28 cst_13 r
    let v30 := FloatOps.cmpf .une r r
    let cst_14 := FloatOps.ofBits .f32 0x7FC00000#32
    let v31 := Scalar.select v30 cst_14 v29
    let v32 := FloatOps.cmpfTotal .lt v27 v31
    v32
def gather_S4096_S1_S__n_0_n_n_0_0_1 : GatherDims S4096 S1 S_ where
  offsetDims := []
  collapsedSliceDims := [0]
  operandBatchingDims := []
  startIndicesBatchingDims := []
  startIndexMap := [0]
  indexVectorDim := 0
  sliceSizes := ![1]
  wf := gather_S4096_S1_S__n_0_n_n_0_0_1_wf

def fn_where {F : FTy → Type} [FloatOps F] (arg0 : IVec S1 1) (arg1 : FVec F S_ .f32) (arg2 : FVec F S4096 .f32) : FVec F S4096 .f32 :=
  let v0 : FVec F S_ .f32 := id arg1
  let v1 : IVec S4096 1 := broadcastInDim S4096 ![0] bcast_S1_S4096_0 arg0
  let v2 : FVec F S4096 .f32 := broadcastInDim S4096 ![] bcast_S_S4096 v0
  let v3 : FVec F S4096 .f32 := select v1 v2 arg2
  v3

def fn_quantile_part1 {F : FTy → Type} [FloatOps F] (v4 : FVec F S4096 .f32) (v8 : FVec F S_ .f32) (v9 : FVec F S_ .f32) (v10 : FVec F S_ .f32) (v12 : FVec F S_ .f32) (v13 : FVec F S_ .f32) : FVec F S_ .f32 :=
  let cst_8 : FVec F S_ .f32 := constant S_ .f32 0x00000000#32
  let v14 : FVec F S_ .f32 := (fun lo x hi => minimumf (maximumf x lo) hi) cst_8 v8 v13
  let v15 : IVec S_ 32 := fptosi 32 v12
  let v16 : IVec S_ 32 := fptosi 32 v14
  let v17 : IVec S1 32 := broadcastInDim S1 ![] bcast_S_S1 v15
  let v18 : FVec F S_ .f32 := (fun x i => Host.gather gather_S4096_S1_S__n_0_n_n_0_0_1 x i) v4 v17
  let v19 : IVec S1 32 := broadcastInDim S1 ![] bcast_S_S1 v16
  let v20 : FVec F S_ .f32 := (fun x i => Host.gather gather_S4096_S1_S__n_0_n_n_0_0_1 x i) v4 v19
  let v21 : FVec F S_ .f32 := mulf v18 v10
  let v22 : FVec F S_ .f32 := mulf v20 v9
  let v23 : FVec F S_ .f32 := addf v21 v22
  v23

def fn_quantile {F : FTy → Type} [FloatOps F] (arg0 : FVec F S4096 .f32) (arg1 : FVec F S_ .f32) : FVec F S_ .f32 :=
  let v0 : IVec S4096 1 := cmpf .une arg0 arg0
  let c : IVec S_ 1 := constantI S_ 1 0#1
  let v1 : IVec S_ 1 := (fun x v => Host.reduce IntOp.ori x v reducesTo_S4096_S_d0 h_S_) v0 c
  let v2 : IVec S1 1 := broadcastInDim S1 ![] bcast_S_S1 v1
  let cst : FVec F S_ .f32 := constant S_ .f32 0x7FC00000#32
  let v3 : FVec F S4096 .f32 := fn_where (F := F) v2 cst arg0
  let v4 : FVec F S4096 .f32 := (fun x => Host.sort S4096 0 comparator_f32_d0 x) v3
  let cst_0 : FVec F S_ .f32 := constant S_ .f32 0x45800000#32
  let cst_1 : FVec F S_ .f32 := constant S_ .f32 0x3F800000#32
  let v5 : FVec F S_ .f32 := subf cst_0 cst_1
  let v6 : FVec F S_ .f32 := mulf arg1 v5
  let v7 : FVec F S_ .f32 := Host.floor v6
  let v8 : FVec F S_ .f32 := Host.ceil v6
  let v9 : FVec F S_ .f32 := subf v6 v7
  let cst_2 : FVec F S_ .f32 := constant S_ .f32 0x3F800000#32
  let v10 : FVec F S_ .f32 := subf cst_2 v9
  let cst_3 : FVec F S_ .f32 := constant S_ .f32 0x45800000#32
  let cst_4 : FVec F S_ .f32 := constant S_ .f32 0x3F800000#32
  let v11 : FVec F S_ .f32 := subf cst_3 cst_4
  let cst_5 : FVec F S_ .f32 := constant S_ .f32 0x00000000#32
  let v12 : FVec F S_ .f32 := (fun lo x hi => minimumf (maximumf x lo) hi) cst_5 v7 v11
  let cst_6 : FVec F S_ .f32 := constant S_ .f32 0x45800000#32
  let cst_7 : FVec F S_ .f32 := constant S_ .f32 0x3F800000#32
  let v13 : FVec F S_ .f32 := subf cst_6 cst_7
  fn_quantile_part1 (F := F) v4 v8 v9 v10 v12 v13

def fn_part1 {F : FTy → Type} [FloatOps F] (main_v9 : FVec F S_ .f32) (main_v16 : FVec F S4096x64 .f32) (main_cst_5 : FVec F S_ .f32) : IVec S_ 1 :=
  let main_v17 : FVec F S4096 .f32 := (fun x v => Host.reduceAdd x v reducesTo_S4096x64_S4096_d1 h_S_) main_v16 main_cst_5
  let main_v18 : FVec F S4096 .f32 := Host.sqrt main_v17
  let main_cst_6 : FVec F S_ .f32 := constant S_ .f32 0x3F7AE148#32
  let main_v19 : FVec F S_ .f32 := fn_quantile (F := F) main_v18 main_cst_6
  let main_cst_7 : FVec F S_ .f32 := constant S_ .f32 0x00000000#32
  let main_v20 : IVec S_ 1 := cmpf .ogt main_v9 main_cst_7
  let main_cst_8 : FVec F S_ .f32 := constant S_ .f32 0x7F800000#32
  let main_v21 : IVec S_ 1 := cmpf .olt main_v9 main_cst_8
  let main_v22 : IVec S_ 1 := andi main_v20 main_v21
  let main_cst_9 : FVec F S_ .f32 := constant S_ .f32 0x00000000#32
  let main_v23 : IVec S_ 1 := cmpf .ogt main_v19 main_cst_9
  let main_v24 : IVec S_ 1 := andi main_v22 main_v23
  let main_cst_10 : FVec F S_ .f32 := constant S_ .f32 0x7F800000#32
  let main_v25 : IVec S_ 1 := cmpf .olt main_v19 main_cst_10
  let main_v26 : IVec S_ 1 := andi main_v24 main_v25
  main_v26

def fn {F : FTy → Type} [FloatOps F] (main_arg0 : FVec F S4096x128 .f32) (main_arg1 : FVec F S4096x64 .f32) : IVec S_ 1 :=
  let main_cst : FVec F S_ .f32 := constant S_ .f32 0x00000000#32
  let main_v0 : FVec F S128 .f32 := (fun x v => Host.reduceAdd x v reducesTo_S4096x128_S128_d0 h_S_) main_arg0 main_cst
  let main_cst_0 : FVec F S_ .f32 := constant S_ .f32 0x45800000#32
  let main_v1 : FVec F S128 .f32 := broadcastInDim S128 ![] bcast_S_S128 main_cst_0
  let main_v2 : FVec F S128 .f32 := Host.divf main_v0 main_v1
  let main_v3 : FVec F S1x128 .f32 := broadcastInDim S1x128 ![1] bcast_S128_S1x128_1 main_v2
  let main_v4 : FVec F S4096x128 .f32 := broadcastInDim S4096x128 ![0, 1] bcast_S1x128_S4096x128_0_1 main_v3
  let main_v5 : FVec F S4096x128 .f32 := subf main_arg0 main_v4
  let main_v6 : FVec F S4096x128 .f32 := mulf main_v5 main_v5
  let main_cst_1 : FVec F S_ .f32 := constant S_ .f32 0x00000000#32
  let main_v7 : FVec F S4096 .f32 := (fun x v => Host.reduceAdd x v reducesTo_S4096x128_S4096_d1 h_S_) main_v6 main_cst_1
  let main_v8 : FVec F S4096 .f32 := Host.sqrt main_v7
  let main_cst_2 : FVec F S_ .f32 := constant S_ .f32 0x3F7AE148#32
  let main_v9 : FVec F S_ .f32 := fn_quantile (F := F) main_v8 main_cst_2
  let main_cst_3 : FVec F S_ .f32 := constant S_ .f32 0x00000000#32
  let main_v10 : FVec F S64 .f32 := (fun x v => Host.reduceAdd x v reducesTo_S4096x64_S64_d0 h_S_) main_arg1 main_cst_3
  let main_cst_4 : FVec F S_ .f32 := constant S_ .f32 0x45800000#32
  let main_v11 : FVec F S64 .f32 := broadcastInDim S64 ![] bcast_S_S64 main_cst_4
  let main_v12 : FVec F S64 .f32 := Host.divf main_v10 main_v11
  let main_v13 : FVec F S1x64 .f32 := broadcastInDim S1x64 ![1] bcast_S64_S1x64_1 main_v12
  let main_v14 : FVec F S4096x64 .f32 := broadcastInDim S4096x64 ![0, 1] bcast_S1x64_S4096x64_0_1 main_v13
  let main_v15 : FVec F S4096x64 .f32 := subf main_arg1 main_v14
  let main_v16 : FVec F S4096x64 .f32 := mulf main_v15 main_v15
  let main_cst_5 : FVec F S_ .f32 := constant S_ .f32 0x00000000#32
  fn_part1 (F := F) main_v9 main_v16 main_cst_5
-- ==== Kernel.lean ====
abbrev S4096x64 : Shape := ⟨2, ![4096, 64]⟩
abbrev S4096x8 : Shape := ⟨2, ![4096, 8]⟩
abbrev S4096x5 : Shape := ⟨2, ![4096, 5]⟩
abbrev S20480 : Shape := ⟨1, ![20480]⟩
abbrev S_ : Shape := ⟨0, ![]⟩
abbrev S4096x128 : Shape := ⟨2, ![4096, 128]⟩
abbrev S20480x128 : Shape := ⟨2, ![20480, 128]⟩
abbrev S640 : Shape := ⟨1, ![640]⟩
abbrev S640x128 : Shape := ⟨2, ![640, 128]⟩
abbrev S128x128 : Shape := ⟨2, ![128, 128]⟩
abbrev S128 : Shape := ⟨1, ![128]⟩
abbrev S4096x640 : Shape := ⟨2, ![4096, 640]⟩
abbrev S1x1 : Shape := ⟨2, ![1, 1]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S1x1x1 : Shape := ⟨3, ![1, 1, 1]⟩

abbrev nBuf : Table → Nat
  | .hbm => 12
  | .local .tc .vmem => 4
  | .local .scVector .vmem => 2
  | _ => 0

abbrev bufTy : (tb : Table) → Fin (nBuf tb) → BufTy
  | .hbm, ⟨0, _⟩ => ⟨S4096x64, .f32⟩
  | .hbm, ⟨1, _⟩ => ⟨S4096x8, .i32⟩
  | .hbm, ⟨2, _⟩ => ⟨S4096x8, .f32⟩
  | .hbm, ⟨3, _⟩ => ⟨S4096x5, .i32⟩
  | .hbm, ⟨4, _⟩ => ⟨S20480, .i32⟩
  | .hbm, ⟨5, _⟩ => ⟨S_, .f32⟩
  | .hbm, ⟨6, _⟩ => ⟨S4096x64, .f32⟩
  | .hbm, ⟨7, _⟩ => ⟨S4096x128, .f32⟩
  | .hbm, ⟨8, _⟩ => ⟨S20480x128, .f32⟩
  | .hbm, ⟨9, _⟩ => ⟨S4096x640, .f32⟩
  | .hbm, ⟨10, _⟩ => ⟨S1x1, .f32⟩
  | .hbm, ⟨11, _⟩ => ⟨S_, .f32⟩
  | .local .tc .vmem, ⟨0, _⟩ => ⟨S4096x64, .f32⟩
  | .local .tc .vmem, ⟨1, _⟩ => ⟨S4096x640, .f32⟩
  | .local .tc .vmem, ⟨2, _⟩ => ⟨S4096x8, .f32⟩
  | .local .tc .vmem, ⟨3, _⟩ => ⟨S1x1, .f32⟩
  | .local .scVector .vmem, ⟨0, _⟩ => ⟨S640, .i32⟩
  | .local .scVector .vmem, ⟨1, _⟩ => ⟨S640x128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v3_scv : Ref sig .scVector := ⟨.hbm, 7, rfl⟩
abbrev main_v1_scv : Ref sig .scVector := ⟨.hbm, 4, rfl⟩
abbrev main_v4_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_45_r1 : BitVec 32 := 0#32
  ![v2.toNat, 0]
abbrev grid1 : Pipeline.Grid := .none

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64 : Shape := ⟨2, ![4096, 64]⟩
abbrev S4096x8 : Shape := ⟨2, ![4096, 8]⟩
abbrev S_ : Shape := ⟨0, ![]⟩
abbrev S64 : Shape := ⟨1, ![64]⟩
abbrev S1x64 : Shape := ⟨2, ![1, 64]⟩
abbrev S4096 : Shape := ⟨1, ![4096]⟩
abbrev S1 : Shape := ⟨1, ![1]⟩
abbrev S4096x5 : Shape := ⟨2, ![4096, 5]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x5x1 : Shape := ⟨3, ![4096, 5, 1]⟩
abbrev S4096x5x2 : Shape := ⟨3, ![4096, 5, 2]⟩

abbrev nBuf : Space → Nat
  | .hbm => 124
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x8, .i32⟩
  | .hbm, ⟨2, _⟩ => ⟨S4096x8, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .i1⟩
  | .hbm, ⟨17, _⟩ => ⟨S_, .i1⟩
  | .hbm, ⟨18, _⟩ => ⟨S_, .i1⟩
  | .hbm, ⟨19, _⟩ => ⟨S1, .i1⟩
  | .hbm, ⟨20, _⟩ => ⟨S_, .f32⟩
  | .hbm, ⟨21, _⟩ => ⟨S_, .f32⟩
  | .hbm, ⟨22, _⟩ => ⟨S4096, .i1⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .f32⟩
  | .hbm, ⟨49, _⟩ => ⟨S1, .i32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096x5, .i32⟩
  | .hbm, ⟨55, _⟩ => ⟨S4096x1, .f32⟩
  | .hbm, ⟨56, _⟩ => ⟨S4096, .f32⟩
  | .hbm, ⟨57, _⟩ => ⟨S4096x64, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x64, .f32⟩
  | .hbm, ⟨62, _⟩ => ⟨S_, .f32⟩
  | .hbm, ⟨63, _⟩ => ⟨S4096, .f32⟩
  | .hbm, ⟨64, _⟩ => ⟨S1x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S64x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096, .i32⟩
  | .hbm, ⟨84, _⟩ => ⟨S4096x1, .i32⟩
  | .hbm, ⟨85, _⟩ => ⟨S4096x5, .i32⟩
  | .hbm, ⟨86, _⟩ => ⟨S_, .i32⟩
  | .hbm, ⟨87, _⟩ => ⟨S4096x5, .i32⟩
  | .hbm, ⟨88, _⟩ => ⟨S4096x5, .i1⟩
  | .hbm, ⟨89, _⟩ => ⟨S_, .i32⟩
  | .hbm, ⟨90, _⟩ => ⟨S4096x5, .i32⟩
  | .hbm, ⟨91, _⟩ => ⟨S4096x5, .i32⟩
  | .hbm, ⟨92, _⟩ => ⟨S4096x5, .i32⟩
  | .hbm, ⟨93, _⟩ => ⟨S_, .i32⟩
  | .hbm, ⟨94, _⟩ => ⟨S4096x5, .i32⟩
  | .hbm, ⟨95, _⟩ => ⟨S4096x5, .i1⟩
  | .hbm, ⟨96, _⟩ => ⟨S_, .i32⟩
  | .hbm, ⟨97, _⟩ => ⟨S4096x5, .i32⟩
  | .hbm, ⟨98, _⟩ => ⟨S4096x5, .i32⟩
  | .hbm, ⟨99, _⟩ => ⟨S4096x5, .i32⟩
  | .hbm, ⟨100, _⟩ => ⟨S4096x5x1, .i32⟩
  | .hbm, ⟨101, _⟩ => ⟨S4096x5x1, .i32⟩
  | .hbm, ⟨102, _⟩ => ⟨S4096x5x2, .i32⟩
  | .hbm, ⟨103, _⟩ => ⟨S4096x5, .f32⟩
  | .hbm, ⟨104, _⟩ => ⟨S4096x1, .f32⟩
  | .hbm, ⟨105, _⟩ => ⟨S4096x5, .f32⟩
  | .hbm, ⟨106, _⟩ => ⟨S_, .f32⟩
  | .hbm, ⟨107, _⟩ => ⟨S4096x5, .f32⟩
  | .hbm, ⟨108, _⟩ => ⟨S4096x5, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x5, .f32⟩
  | .hbm, ⟨114, _⟩ => ⟨S4096x5, .f32⟩
  | .hbm, ⟨115, _⟩ => ⟨S_, .f32⟩
  | .hbm, ⟨116, _⟩ => ⟨S4096, .f32⟩
  | .hbm, ⟨117, _⟩ => ⟨S4096, .f32⟩
  | .hbm, ⟨118, _⟩ => ⟨S4096, .f32⟩
  | .hbm, ⟨119, _⟩ => ⟨S4096, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_cst_1 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_cst_2 : Ref sig .tc := ⟨.hbm, 33, rfl⟩
abbrev main_call0_v10 : Ref sig .tc := ⟨.hbm, 34, rfl⟩
abbrev main_call0_cst_3 : Ref sig .tc := ⟨.hbm, 35, rfl⟩
abbrev main_call0_cst_4 : Ref sig .tc := ⟨.hbm, 36, rfl⟩
abbrev main_call0_v11 : Ref sig .tc := ⟨.hbm, 37, rfl⟩
abbrev main_call0_cst_5 : Ref sig .tc := ⟨.hbm, 38, rfl⟩
abbrev main_call0_v12 : Ref sig .tc := ⟨.hbm, 39, rfl⟩
abbrev main_call0_cst_6 : Ref sig .tc := ⟨.hbm, 40, rfl⟩
abbrev main_call0_cst_7 : Ref sig .tc := ⟨.hbm, 41, rfl⟩
abbrev main_call0_v13 : Ref sig .tc := ⟨.hbm, 42, rfl⟩
abbrev main_call0_cst_8 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_call0_v17 : Ref sig .tc := ⟨.hbm, 47, rfl⟩
abbrev main_call0_v18 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_call0_v22 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_4 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_5 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_6 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_7 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c : Ref sig .tc := ⟨.hbm, 86, rfl⟩
abbrev main_v37 : Ref sig .tc := ⟨.hbm, 87, rfl⟩
abbrev main_v38 : Ref sig .tc := ⟨.hbm, 88, rfl⟩
abbrev main_c_8 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_c_9 : Ref sig .tc := ⟨.hbm, 93, rfl⟩
abbrev main_v42 : Ref sig .tc := ⟨.hbm, 94, rfl⟩
abbrev main_v43 : Ref sig .tc := ⟨.hbm, 95, rfl⟩
abbrev main_c_10 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_11 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_12 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_13 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_14 : Ref sig .tc := ⟨.hbm, 120, rfl⟩
abbrev main_v64 : Ref sig .tc := ⟨.hbm, 121, rfl⟩
abbrev main_cst_15 : Ref sig .tc := ⟨.hbm, 122, rfl⟩
abbrev main_v65 : Ref sig .tc := ⟨.hbm, 123, rfl⟩

abbrev nD : Nat := 1
abbrev τ : Topo := Topo.v7x

variable {F : FTy → Type} [FloatOps F]
-- ==== WholeIdeal.lean ====
abbrev S4096x128 : Shape := ⟨2, ![4096, 128]⟩
abbrev S4096x64 : Shape := ⟨2, ![4096, 64]⟩
abbrev S4096x8 : Shape := ⟨2, ![4096, 8]⟩
abbrev S256x128 : Shape := ⟨2, ![256, 128]⟩
abbrev S256x8 : Shape := ⟨2, ![256, 8]⟩
abbrev S256x4096 : Shape := ⟨2, ![256, 4096]⟩
abbrev S256 : Shape := ⟨1, ![256]⟩
abbrev S256x1 : Shape := ⟨2, ![256, 1]⟩
abbrev S512x128 : Shape := ⟨2, ![512, 128]⟩
abbrev S512 : Shape := ⟨1, ![512]⟩
abbrev S256x512 : Shape := ⟨2, ![256, 512]⟩
abbrev S1x512 : Shape := ⟨2, ![1, 512]⟩
abbrev S256x5 : Shape := ⟨2, ![256, 5]⟩
abbrev S256x3 : Shape := ⟨2, ![256, 3]⟩
abbrev S4096x5 : Shape := ⟨2, ![4096, 5]⟩
abbrev S20480 : Shape := ⟨1, ![20480]⟩
abbrev S_ : Shape := ⟨0, ![]⟩
abbrev S20480x128 : Shape := ⟨2, ![20480, 128]⟩
abbrev S640 : Shape := ⟨1, ![640]⟩
abbrev S640x128 : Shape := ⟨2, ![640, 128]⟩
abbrev S128x128 : Shape := ⟨2, ![128, 128]⟩
abbrev S128 : Shape := ⟨1, ![128]⟩
abbrev S4096x640 : Shape := ⟨2, ![4096, 640]⟩
abbrev S1x1 : Shape := ⟨2, ![1, 1]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S1x1x1 : Shape := ⟨3, ![1, 1, 1]⟩

abbrev nBuf : Table → Nat
  | .hbm => 13
  | .local .tc .vmem => 12
  | .local .scVector .vmem => 2
  | _ => 0

abbrev bufTy : (tb : Table) → Fin (nBuf tb) → BufTy
  | .hbm, ⟨0, _⟩ => ⟨S4096x128, .f32⟩
  | .hbm, ⟨1, _⟩ => ⟨S4096x64, .f32⟩
  | .hbm, ⟨2, _⟩ => ⟨S4096x8, .i32⟩
  | .hbm, ⟨3, _⟩ => ⟨S4096x8, .f32⟩
  | .hbm, ⟨4, _⟩ => ⟨S4096x5, .i32⟩
  | .hbm, ⟨5, _⟩ => ⟨S20480, .i32⟩
  | .hbm, ⟨6, _⟩ => ⟨S_, .f32⟩
  | .hbm, ⟨7, _⟩ => ⟨S4096x64, .f32⟩
  | .hbm, ⟨8, _⟩ => ⟨S4096x128, .f32⟩
  | .hbm, ⟨9, _⟩ => ⟨S20480x128, .f32⟩
  | .hbm, ⟨10, _⟩ => ⟨S4096x640, .f32⟩
  | .hbm, ⟨11, _⟩ => ⟨S1x1, .f32⟩
  | .hbm, ⟨12, _⟩ => ⟨S_, .f32⟩
  | .local .tc .vmem, ⟨0, _⟩ => ⟨S256x128, .f32⟩
  | .local .tc .vmem, ⟨1, _⟩ => ⟨S256x128, .f32⟩
  | .local .tc .vmem, ⟨2, _⟩ => ⟨S4096x128, .f32⟩
  | .local .tc .vmem, ⟨3, _⟩ => ⟨S256x8, .i32⟩
  | .local .tc .vmem, ⟨4, _⟩ => ⟨S256x8, .i32⟩
  | .local .tc .vmem, ⟨5, _⟩ => ⟨S256x8, .f32⟩
  | .local .tc .vmem, ⟨6, _⟩ => ⟨S256x8, .f32⟩
  | .local .tc .vmem, ⟨7, _⟩ => ⟨S256x4096, .f32⟩
  | .local .tc .vmem, ⟨8, _⟩ => ⟨S4096x64, .f32⟩
  | .local .tc .vmem, ⟨9, _⟩ => ⟨S4096x640, .f32⟩
  | .local .tc .vmem, ⟨10, _⟩ => ⟨S4096x8, .f32⟩
  | .local .tc .vmem, ⟨11, _⟩ => ⟨S1x1, .f32⟩
  | .local .scVector .vmem, ⟨0, _⟩ => ⟨S640, .i32⟩
  | .local .scVector .vmem, ⟨1, _⟩ => ⟨S640x128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v4_scv : Ref sig .scVector := ⟨.hbm, 8, rfl⟩
abbrev main_v2_scv : Ref sig .scVector := ⟨.hbm, 5, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 10
abbrev cc2_sem1_0 : DmaSem sig := 11
abbrev cc2_sem2_0 : DmaSem sig := 12
abbrev cc2_sem3_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_45_r1 : BitVec 32 := 0#32
  ![v2.toNat, 0]
abbrev grid2 : Pipeline.Grid := .none

abbrev stage2_0 : Fin 1 → Memref sig .tc .vmem S4096x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x640 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S4096x128 : Shape := ⟨2, ![4096, 128]⟩
abbrev S4096x64 : Shape := ⟨2, ![4096, 64]⟩
abbrev S_ : Shape := ⟨0, ![]⟩
abbrev S128 : Shape := ⟨1, ![128]⟩
abbrev S1x128 : Shape := ⟨2, ![1, 128]⟩
abbrev S4096 : Shape := ⟨1, ![4096]⟩
abbrev S1 : Shape := ⟨1, ![1]⟩
abbrev S64 : Shape := ⟨1, ![64]⟩
abbrev S1x64 : Shape := ⟨2, ![1, 64]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S4096x6 : Shape := ⟨2, ![4096, 6]⟩
abbrev S4096x5 : Shape := ⟨2, ![4096, 5]⟩
abbrev S64x4096 : Shape := ⟨2, ![64, 4096]⟩
abbrev S4096x5x1 : Shape := ⟨3, ![4096, 5, 1]⟩
abbrev S4096x5x2 : Shape := ⟨3, ![4096, 5, 2]⟩

abbrev nBuf : Space → Nat
  | .hbm => 217
  | .vmem => 0
  | .smem => 0
  | _ => 0

abbrev hbmTy0_0 (i : Nat) : BufTy := match i % 128 with
  | 0 => ⟨S4096x128, .f32⟩
  | 1 => ⟨S4096x64, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S4096x128, .f32⟩
  | 9 => ⟨S4096x128, .f32⟩
  | 10 => ⟨S4096x128, .f32⟩
  | 11 => ⟨S_, .f32⟩
  | 12 => ⟨S4096, .f32⟩
  | 13 => ⟨S4096, .f32⟩
  | 14 => ⟨S_, .f32⟩
  | 15 => ⟨S4096, .i1⟩
  | 16 => ⟨S_, .i1⟩
  | 17 => ⟨S_, .i1⟩
  | 18 => ⟨S1, .i1⟩
  | 19 => ⟨S_, .f32⟩
  | 20 => ⟨S_, .f32⟩
  | 21 => ⟨S4096, .i1⟩
  | 22 => ⟨S4096, .f32⟩
  | 23 => ⟨S4096, .f32⟩
  | 24 => ⟨S4096, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .i32⟩
  | 45 => ⟨S_, .i32⟩
  | 46 => ⟨S1, .i32⟩
  | 47 => ⟨S_, .f32⟩
  | 48 => ⟨S1, .i32⟩
  | 49 => ⟨S_, .f32⟩
  | 50 => ⟨S_, .f32⟩
  | 51 => ⟨S_, .f32⟩
  | 52 => ⟨S_, .f32⟩
  | 53 => ⟨S_, .f32⟩
  | 54 => ⟨S64, .f32⟩
  | 55 => ⟨S_, .f32⟩
  | 56 => ⟨S64, .f32⟩
  | 57 => ⟨S64, .f32⟩
  | 58 => ⟨S1x64, .f32⟩
  | 59 => ⟨S4096x64, .f32⟩
  | 60 => ⟨S4096x64, .f32⟩
  | 61 => ⟨S4096x64, .f32⟩
  | 62 => ⟨S_, .f32⟩
  | 63 => ⟨S4096, .f32⟩
  | 64 => ⟨S4096, .f32⟩
  | 65 => ⟨S_, .f32⟩
  | 66 => ⟨S4096, .i1⟩
  | 67 => ⟨S_, .i1⟩
  | 68 => ⟨S_, .i1⟩
  | 69 => ⟨S1, .i1⟩
  | 70 => ⟨S_, .f32⟩
  | 71 => ⟨S_, .f32⟩
  | 72 => ⟨S4096, .i1⟩
  | 73 => ⟨S4096, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i32⟩
  | 96 => ⟨S_, .i32⟩
  | 97 => ⟨S1, .i32⟩
  | 98 => ⟨S_, .f32⟩
  | 99 => ⟨S1, .i32⟩
  | 100 => ⟨S_, .f32⟩
  | 101 => ⟨S_, .f32⟩
  | 102 => ⟨S_, .f32⟩
  | 103 => ⟨S_, .f32⟩
  | 104 => ⟨S4096x128, .f32⟩
  | 105 => ⟨S_, .f32⟩
  | 106 => ⟨S4096, .f32⟩
  | 107 => ⟨S4096x1, .f32⟩
  | 108 => ⟨S4096x128, .f32⟩
  | 109 => ⟨S_, .f32⟩
  | 110 => ⟨S4096, .f32⟩
  | 111 => ⟨S1x4096, .f32⟩
  | 112 => ⟨S4096x4096, .f32⟩
  | 113 => ⟨S4096x4096, .f32⟩
  | 114 => ⟨S4096x4096, .f32⟩
  | 115 => ⟨S128x4096, .f32⟩
  | 116 => ⟨S4096x4096, .f32⟩
  | 117 => ⟨S_, .f32⟩
  | 118 => ⟨S4096x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x128, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x6, .f32⟩
  | 4 => ⟨S4096x6, .i32⟩
  | 5 => ⟨S4096x6, .f32⟩
  | 6 => ⟨S4096x5, .f32⟩
  | 7 => ⟨S4096x5, .i32⟩
  | 8 => ⟨S4096x1, .f32⟩
  | 9 => ⟨S4096x5, .f32⟩
  | 10 => ⟨S_, .f32⟩
  | 11 => ⟨S4096x5, .f32⟩
  | 12 => ⟨S4096x5, .f32⟩
  | 13 => ⟨S4096x1, .f32⟩
  | 14 => ⟨S_, .f32⟩
  | 15 => ⟨S4096x1, .f32⟩
  | 16 => ⟨S4096x1, .f32⟩
  | 17 => ⟨S4096x5, .f32⟩
  | 18 => ⟨S4096x5, .f32⟩
  | 19 => ⟨S_, .f32⟩
  | 20 => ⟨S4096, .f32⟩
  | 21 => ⟨S4096, .f32⟩
  | 22 => ⟨S4096x64, .f32⟩
  | 23 => ⟨S_, .f32⟩
  | 24 => ⟨S4096, .f32⟩
  | 25 => ⟨S4096x1, .f32⟩
  | 26 => ⟨S4096x64, .f32⟩
  | 27 => ⟨S_, .f32⟩
  | 28 => ⟨S4096, .f32⟩
  | 29 => ⟨S1x4096, .f32⟩
  | 30 => ⟨S4096x4096, .f32⟩
  | 31 => ⟨S4096x4096, .f32⟩
  | 32 => ⟨S4096x4096, .f32⟩
  | 33 => ⟨S64x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S4096x4096, .f32⟩
  | 48 => ⟨S4096, .i32⟩
  | 49 => ⟨S4096x1, .i32⟩
  | 50 => ⟨S4096x5, .i32⟩
  | 51 => ⟨S_, .i32⟩
  | 52 => ⟨S4096x5, .i32⟩
  | 53 => ⟨S4096x5, .i1⟩
  | 54 => ⟨S_, .i32⟩
  | 55 => ⟨S4096x5, .i32⟩
  | 56 => ⟨S4096x5, .i32⟩
  | 57 => ⟨S4096x5, .i32⟩
  | 58 => ⟨S_, .i32⟩
  | 59 => ⟨S4096x5, .i32⟩
  | 60 => ⟨S4096x5, .i1⟩
  | 61 => ⟨S_, .i32⟩
  | 62 => ⟨S4096x5, .i32⟩
  | 63 => ⟨S4096x5, .i32⟩
  | 64 => ⟨S4096x5, .i32⟩
  | 65 => ⟨S4096x5x1, .i32⟩
  | 66 => ⟨S4096x5x1, .i32⟩
  | 67 => ⟨S4096x5x2, .i32⟩
  | 68 => ⟨S4096x5, .f32⟩
  | 69 => ⟨S4096x1, .f32⟩
  | 70 => ⟨S4096x5, .f32⟩
  | 71 => ⟨S_, .f32⟩
  | 72 => ⟨S4096x5, .f32⟩
  | 73 => ⟨S4096x5, .f32⟩
  | 74 => ⟨S4096x1, .f32⟩
  | 75 => ⟨S_, .f32⟩
  | 76 => ⟨S4096x1, .f32⟩
  | 77 => ⟨S4096x1, .f32⟩
  | 78 => ⟨S4096x5, .f32⟩
  | 79 => ⟨S4096x5, .f32⟩
  | 80 => ⟨S_, .f32⟩
  | 81 => ⟨S4096, .f32⟩
  | 82 => ⟨S4096, .f32⟩
  | 83 => ⟨S4096, .f32⟩
  | 84 => ⟨S4096, .f32⟩
  | 85 => ⟨S_, .f32⟩
  | 86 => ⟨S_, .f32⟩
  | 87 => ⟨S_, .f32⟩
  | 88 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_cst_1 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_cst_2 : Ref sig .tc := ⟨.hbm, 32, rfl⟩
abbrev main_call0_v10 : Ref sig .tc := ⟨.hbm, 33, rfl⟩
abbrev main_call0_cst_3 : Ref sig .tc := ⟨.hbm, 34, rfl⟩
abbrev main_call0_cst_4 : Ref sig .tc := ⟨.hbm, 35, rfl⟩
abbrev main_call0_v11 : Ref sig .tc := ⟨.hbm, 36, rfl⟩
abbrev main_call0_cst_5 : Ref sig .tc := ⟨.hbm, 37, rfl⟩
abbrev main_call0_v12 : Ref sig .tc := ⟨.hbm, 38, rfl⟩
abbrev main_call0_cst_6 : Ref sig .tc := ⟨.hbm, 39, rfl⟩
abbrev main_call0_cst_7 : Ref sig .tc := ⟨.hbm, 40, rfl⟩
abbrev main_call0_v13 : Ref sig .tc := ⟨.hbm, 41, rfl⟩
abbrev main_call0_cst_8 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_v9 : Ref sig .tc := ⟨.hbm, 52, rfl⟩
abbrev main_cst_3 : Ref sig .tc := ⟨.hbm, 53, rfl⟩
abbrev main_v10 : Ref sig .tc := ⟨.hbm, 54, rfl⟩
abbrev main_cst_4 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_5 : Ref sig .tc := ⟨.hbm, 62, rfl⟩
abbrev main_v17 : Ref sig .tc := ⟨.hbm, 63, rfl⟩
abbrev main_v18 : Ref sig .tc := ⟨.hbm, 64, rfl⟩
abbrev main_cst_6 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_cst_1 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_cst_2 : Ref sig .tc := ⟨.hbm, 83, rfl⟩
abbrev main_call1_v10 : Ref sig .tc := ⟨.hbm, 84, rfl⟩
abbrev main_call1_cst_3 : Ref sig .tc := ⟨.hbm, 85, rfl⟩
abbrev main_call1_cst_4 : Ref sig .tc := ⟨.hbm, 86, rfl⟩
abbrev main_call1_v11 : Ref sig .tc := ⟨.hbm, 87, rfl⟩
abbrev main_call1_cst_5 : Ref sig .tc := ⟨.hbm, 88, rfl⟩
abbrev main_call1_v12 : Ref sig .tc := ⟨.hbm, 89, rfl⟩
abbrev main_call1_cst_6 : Ref sig .tc := ⟨.hbm, 90, rfl⟩
abbrev main_call1_cst_7 : Ref sig .tc := ⟨.hbm, 91, rfl⟩
abbrev main_call1_v13 : Ref sig .tc := ⟨.hbm, 92, rfl⟩
abbrev main_call1_cst_8 : Ref sig .tc := ⟨.hbm, 93, rfl⟩
abbrev main_call1_v14 : Ref sig .tc := ⟨.hbm, 94, rfl⟩
abbrev main_call1_v15 : Ref sig .tc := ⟨.hbm, 95, rfl⟩
abbrev main_call1_v16 : Ref sig .tc := ⟨.hbm, 96, rfl⟩
abbrev main_call1_v17 : Ref sig .tc := ⟨.hbm, 97, rfl⟩
abbrev main_call1_v18 : Ref sig .tc := ⟨.hbm, 98, rfl⟩
abbrev main_call1_v19 : Ref sig .tc := ⟨.hbm, 99, rfl⟩
abbrev main_call1_v20 : Ref sig .tc := ⟨.hbm, 100, rfl⟩
abbrev main_call1_v21 : Ref sig .tc := ⟨.hbm, 101, rfl⟩
abbrev main_call1_v22 : Ref sig .tc := ⟨.hbm, 102, rfl⟩
abbrev main_v19 : Ref sig .tc := ⟨.hbm, 103, rfl⟩
abbrev main_v20 : Ref sig .tc := ⟨.hbm, 104, rfl⟩
abbrev main_cst_7 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_8 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_cst_9 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_cst_10 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_cst_11 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_values : Ref sig .tc := ⟨.hbm, 131, rfl⟩
abbrev main_indices : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_cst_12 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_cst_13 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_cst_14 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_cst_15 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_cst_16 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_cst_17 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_cst_18 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_cst_19 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_c : Ref sig .tc := ⟨.hbm, 179, rfl⟩
abbrev main_v80 : Ref sig .tc := ⟨.hbm, 180, rfl⟩
abbrev main_v81 : Ref sig .tc := ⟨.hbm, 181, rfl⟩
abbrev main_c_20 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_c_21 : Ref sig .tc := ⟨.hbm, 186, rfl⟩
abbrev main_v85 : Ref sig .tc := ⟨.hbm, 187, rfl⟩
abbrev main_v86 : Ref sig .tc := ⟨.hbm, 188, rfl⟩
abbrev main_c_22 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_cst_23 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_cst_24 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_cst_25 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_cst_26 : Ref sig .tc := ⟨.hbm, 213, rfl⟩
abbrev main_v107 : Ref sig .tc := ⟨.hbm, 214, rfl⟩
abbrev main_cst_27 : Ref sig .tc := ⟨.hbm, 215, rfl⟩
abbrev main_v108 : Ref sig .tc := ⟨.hbm, 216, rfl⟩

abbrev nD : Nat := 1
abbrev τ : Topo := Topo.v7x

variable {F : FTy → Type} [FloatOps F]
-- ==== Proof.Range.lean ====
/-
  What the first precondition says of the arguments: every neighbour index of the first five columns names a row.
-/
module

public import proofs.«01_k».proof.Proof.Gen.Pre_neighbours_in_range

@[expose] public section

noncomputable section

namespace Cert.Proof.Range

open Idealize.ShloMosaic

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
/-- A conjunction of two bits is one exactly if both are. -/
theorem andi_eq_one (a b : BitVec 1) : IntOp.andi a b = 1#1 ↔ a = 1#1 ∧ b = 1#1 := by
  revert a b; decide

/-- The two comparisons that say an index word names a row. -/
theorem word_lt (v : BitVec 32) (h0 : IntOp.cmpi .sge v 0#32 = 1#1) (h1 : IntOp.cmpi .slt v 4096#32 = 1#1) : v.toNat < 4096 := by
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

variable {F : FTy → Type} [FloatOps F]

section one
open Cert.Pre_neighbours_in_range Facts

/-- Under the first precondition the neighbour indices are in range. -/
theorem lt_of_range [Facts] (a0 : FVec F S4096x64 .f32) (a1 : IVec S4096x8 32) (a2 : FVec F S4096x8 .f32) (h : fn a0 a1 a2 = fun _ => 1#1) (j : S4096x5.Idx) :
    (extractStridedSlice S4096x5 ![0, 0] a1 slices_S4096x8_S4096x5_0_0 j).toNat < 4096 := by
  have e := congrFun h j
  simp only [fn, andi, cmpi, broadcastInDim, constantI, andi_eq_one] at e
  exact word_lt _ e.1 e.2
end one

end Cert.Proof.Range

end
-- ==== Proof.GatherBatch.lean ====
/-
  Several indirect gathers outstanding on one DMA semaphore: their rows are the transfers of ONE counted batch
  (Lib/Batch.lean `Batch`), numbered through all the gathers, each crediting one row's worth `N`. A gather's issue
  takes the issue rights of its own rows out of the batch (`wp_gatherBatch`); the waits are the batch's.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Three assertions regrouped: the second with the first. -/
theorem sep_swap_in (A B C : sProp 𝕄) : iprop(A ∗ B ∗ C) ⊢ iprop((B ∗ A) ∗ C) := by
  iintro ⟨HA, HB, HC⟩
  isplitr [HC]
  · isplitl [HB]; · iexact HB
    iexact HA
  · iexact HC
/-- Three assertions regrouped to the right. -/
theorem sep_swap_assoc (A B C : sProp 𝕄) : iprop((A ∗ B) ∗ C) ⊢ iprop(A ∗ B ∗ C) := by
  iintro ⟨⟨HA, HB⟩, HC⟩
  isplitl [HA]; · iexact HA
  isplitl [HB]; · iexact HB
  iexact HC
/-- The converse regrouping. -/
theorem sep_swap_out (A B C : sProp 𝕄) : iprop((B ∗ A) ∗ C) ⊢ iprop(A ∗ B ∗ C) := by
  iintro ⟨⟨HB, HA⟩, HC⟩
  isplitl [HA]; · iexact HA
  isplitl [HB]; · iexact HB
  iexact HC

theorem emp_in (A : sProp 𝕄) : A ⊢ iprop(emp ∗ A) := by
  iintro H; isplitr; · iempintro
  iexact H
theorem emp_out (A : sProp 𝕄) : iprop(emp ∗ A) ⊢ A := by
  iintro ⟨-, H⟩; iexact H

/-- The numbers pending from `j` are the `o` numbers from `j` on and those pending from `j + o`. -/
theorem bigSep_pending_add {n : ℕ} (Φ : Fin n → sProp 𝕄) (j o : ℕ) (h : j + o ≤ n) :
    bigSep (Transfers.pending j) Φ
      = iprop((bigSep Finset.univ fun i : Fin o => Φ ⟨j + i.val, by omega⟩) ∗ bigSep (Transfers.pending (j + o)) Φ) := by
  induction o with
  | zero =>
    rw [show (Finset.univ : Finset (Fin 0)) = ∅ from rfl, BI.bigSep_empty]
    exact BI.Entails.antisymm (emp_in _) (emp_out _)
  | succ o ih =>
    rw [ih (by omega), Transfers.bigSep_pending_step Φ (j + o) (by omega)]
    rw [Fin.univ_castSuccEmb, Finset.cons_eq_insert, BI.bigSep_insert (by simp), BI.bigSep_map]
    exact BI.Entails.antisymm (sep_swap_in _ _ _) (sep_swap_out _ _ _)

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The entry of the offset list (its index in the list's shape) that row `i` of the destination reads. -/
abbrev entryAt {o : ℕ} (si : Shape) (hn : si.numel = o) (i : Fin o) : si.Idx := si.rowMajor.symm (i.cast hn.symm)

/-- One indirect gather issued as the next `o` transfers of a batch (`o` its rows), every row crediting `N`: holding,
    per row, the destination's row outright, the list's entry at a share and a share of the source, the words in
    range, and the batch with `j` issued, the tile issues the gather and continues holding the batch with `j + o`
    issued; row `i`'s delivery — the destination's row written with the source's row the entry names, the entry's
    and the source's shares — is the batch's delivery `j + i`. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {n : ℕ} {D : Fin n → sProp 𝕄} (ι : Ix) (N j u : ℕ) (hj : j + s.size hg.axis' ≤ n) (hu : u ≤ j * N)
    (hN : ∀ i, (dst.slice (s.rowRect hg.axis' i) (s.stride_rowRect hg.axis' i)).view.dmaCredit = N)
    {q : Fin (s.size hg.axis') → PosShare TreeShare} {qo : PosShare TreeShare}
    {fs : Buf (Elt F) (src.view.loc c)} {fd : Buf (Elt F) (dst.view.loc c)} {fo : Buf (Elt F) (offs.view.loc c)}
    (hin : ∀ x, (offs.view.read (Elt F) fo x).toNat < s₀.size hg.axis)
    (hD : ∀ i : Fin (s.size hg.axis'),
      iprop((dst.view.loc c ↦[(dst.view.slice (s.rowRect hg.axis' i)).set]{fullShare}
              ((dst.view.slice (s.rowRect hg.axis' i)).write (Elt F) fd
                (fun x => src.view.read (Elt F) fs (hg.rowIdx (rows (offs.view.read (Elt F) fo) hn hin i) x)) Finset.univ))
          ∗ (offs.view.loc c ↦[{offs.view.emb (entryAt si hn i)}]{qo} fo) ∗ (src.view.loc c ↦[src.view.set]{q i} fs))
        ⊢ D ⟨j + i.val, by omega⟩) :
    iprop((bigSep Finset.univ fun i : Fin (s.size hg.axis') =>
            iprop((dst.view.loc c ↦[(dst.view.slice (s.rowRect hg.axis' i)).set]{fullShare} fd)
              ∗ (offs.view.loc c ↦[{offs.view.emb (entryAt si hn i)}]{qo} fo) ∗ (src.view.loc c ↦[src.view.set]{q i} fs)))
        ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ i, (rd i).dst.view.dmaCredit = s.size hg.axis' * N := by
    rw [Finset.sum_congr rfl (fun i _ => hN i), Finset.sum_const, Finset.card_univ, Fintype.card_fin, smul_eq_mul]
  unfold Transfers.Batch
  iintro ⟨HR, ⟨%γ, %γ₀, %κ, #Hinv, HI, H0, Hcred⟩⟩ Hk
  ihave HI' := (Entails.of_eq (bigSep_pending_add (fun t => count EC (γ t) 0) j (s.size hg.axis') hj)) $$ HI
  icases HI' with ⟨Ht, HI⟩
  iapply (wp_enqueueIndirectDma 𝒱 c bd Set.univ (qo := qo) (fo := fo) (rd := rd) ι _ hA hrd hsum) $$ [HR Ht]
  · have hrow : ∀ i : Fin (s.size hg.axis'), iprop(inv κ (Transfers.batchBody EC (c, SemLoc.dma sem) N D γ γ₀)
          ∗ (iprop((dst.view.loc c ↦[(dst.view.slice (s.rowRect hg.axis' i)).set]{fullShare} fd)
              ∗ (offs.view.loc c ↦[{offs.view.emb (entryAt si hn i)}]{qo} fo) ∗ (src.view.loc c ↦[src.view.set]{q i} fs))
            ∗ count EC (γ ⟨j + i.val, by omega⟩) 0))
        ⊢ iprop(S.heldEntry qo fo i ∗ (S.heldEntry qo fo i -∗ rowRes c (rd i))) := fun i => by
      iintro ⟨#Hinv, ⟨Hr, He, Hs⟩, Hγ⟩
      isplitl [He]; · iexact He
      iintro He
      unfold rowRes
      iexists q i, fs, iprop((dst.view.loc c ↦[(dst.view.slice (s.rowRect hg.axis' i)).set]{fullShare}
              ((dst.view.slice (s.rowRect hg.axis' i)).write (Elt F) fd
                (fun x => src.view.read (Elt F) fs (hg.rowIdx (rows (offs.view.read (Elt F) fo) hn hin i) x)) Finset.univ)) ∗ S.heldEntry qo fo i)
      isplitl [Hs]; · iexact Hs
      isplitl [Hr He]
      · iapply writeUpdate_frame
        isplitl [Hr]
        · iapply (pointsTo_writeUpdate c (v := dst.view.slice (s.rowRect hg.axis' i)) subset_rfl) $$ Hr
        · iexact He
      · have hcu := Transfers.batch_creditUpdate EC (g := (c, SemLoc.dma sem)) (N := N) (γ := γ) (γ₀ := γ₀) (ι := κ)
          ⟨j + i.val, by omega⟩ ((sep_swap_assoc _ _ _).trans (hD i))
        ihave Hcu := hcu $$ [Hγ]
        · isplitr; · iexact Hinv
          iexact Hγ
        rw [← hN i]
        iexact Hcu
    unfold Stream.res
    ihave H1 := Transfers.bigSep_sep_in _ _ _ $$ [HR Ht]; · isplitl [HR] <;> iassumption
    iapply (Transfers.bigSep_mono_pers Finset.univ _ _ _ fun j _ => hrow j)
    isplitr; · iexact Hinv
    iexact H1
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch

end
-- ==== Proof.KernelIdealTile.lean ====
/-
  The SparseCore call of `KernelIdeal`: 32 tasks (2 SparseCores, 16 vector subcores each). Task number `w = 2 * subcore + core`
  fetches words `640 w …` of the index list into its index scratch, gathers the 640 table rows they name into its row
  scratch by five indirect gathers of 128 rows, all outstanding on one DMA semaphore and then waited for five times, and
  copies the rows out to rows `640 w …` of the result. Stated with the VALUES: the result's row `r` is the table's row
  `idx r`.
-/
module

public import proofs.«01_k».proof.Proof.GatherBatch
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds library: inside the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The buffers the call addresses -/

abbrev tLoc (d : Dev nD) : Loc nD τ sig := (SparseCore.T d).loc main_v3
abbrev iLoc (d : Dev nD) : Loc nD τ sig := (SparseCore.T d).loc main_v1
abbrev oLoc (d : Dev nD) : Loc nD τ sig := (SparseCore.T d).loc main_v4

abbrev iV : Memref sig .scVector .hbm S20480 .i32 := Memref.whole main_v1_scv
abbrev xV : Memref sig .scVector .hbm S4096x128 .f32 := Memref.whole main_v3_scv
abbrev oV : Memref sig .scVector .hbm S20480x128 .f32 := Memref.whole main_v4_scv
abbrev sV : Memref sig .scVector .vmem S640 .i32 := Memref.whole cc0_scratch0
abbrev rV : Memref sig .scVector .vmem S640x128 .f32 := Memref.whole cc0_scratch1

theorem idiv : 32 ∣ S20480.size 0 := ⟨640, rfl⟩
theorem odiv : 32 ∣ S20480x128.size 0 := ⟨640, rfl⟩
abbrev irow (w : Fin 32) : Rect S20480 := Rect.part (s := S20480) (a₀ := 0) idiv w
abbrev orow (w : Fin 32) : Rect S20480x128 := Rect.part (s := S20480x128) (a₀ := 0) odiv w
abbrev iRowSet (w : Fin 32) : Finset S20480.Idx := ((iV).view.slice (irow w)).set
abbrev oRowSet (w : Fin 32) : Finset S20480x128.Idx := ((oV).view.slice (orow w)).set

/-- The task number of subcore `i` of SparseCore `c`. -/
abbrev wid (c : Fin 2) (i : Fin 16) : Fin 32 := ⟨2 * i.val + c.val, by omega⟩

/-- Task `w`'s share of the table. -/
abbrev xq (w : Fin 32) : PosShare TreeShare := pieceOf fullShare 32 (by decide) w

/-- The table's element at row `n` (of 4096) and column `c`. -/
def tabAt (n : ℕ) (c : Fin 128) : S4096x128.Idx := fun
  | 0 => ⟨n % 4096, Nat.mod_lt _ (by decide)⟩
  | 1 => ⟨c.val, c.isLt⟩
  | ⟨_ + 2, h⟩ => absurd h (Nat.not_lt.2 (Nat.le_add_left _ _))

/-- The index list's element `r`. -/
def listAt (r : Fin 20480) : S20480.Idx := fun
  | 0 => r
  | ⟨_ + 1, h⟩ => absurd h (Nat.not_lt.2 (Nat.le_add_left _ _))

/-- What the call computes: row `r` is the row of the table that word `r` of the index list names. -/
def gathered (tab : S4096x128.Idx → Elt F .f32) (idx : S20480.Idx → Elt F .i32) : S20480x128.Idx → Elt F .f32 :=
  fun x => tab (tabAt (idx (listAt (x 0))).toNat (x 1))

variable (tab : (d : Dev nD) → Buf (Elt F) (tLoc d)) (idx : (d : Dev nD) → Buf (Elt F) (iLoc d)) (o0 : (d : Dev nD) → Buf (Elt F) (oLoc d))

abbrev iPts (d : Dev nD) : sProp 𝕄 := iLoc d ↦{fullShare} idx d
abbrev xPts (d : Dev nD) : sProp 𝕄 := tLoc d ↦{fullShare} tab d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} idx d
abbrev xShPts (d : Dev nD) (w : Fin 32) : sProp 𝕄 := tLoc d ↦{xq w} tab d
abbrev oRowPts (d : Dev nD) (w : Fin 32) (f : Buf (Elt F) (oLoc d)) : sProp 𝕄 := oLoc d ↦[oRowSet w]{fullShare} f

/-- What task `w` is handed: its words of the index list, its share of the table, its rows of the result. -/
abbrev goW (d : Dev nD) (w : Fin 32) : sProp 𝕄 := iprop(iRowPts idx d w ∗ xShPts tab d w ∗ oRowPts d w (o0 d))
/-- What it brings back: the same, its rows of the result holding the gathered rows. -/
abbrev tdW (d : Dev nD) (w : Fin 32) : sProp 𝕄 := iprop(iRowPts idx d w ∗ xShPts tab d w ∗ oRowPts d w (gathered (tab d) (idx d)))

/-- The number of the task of a call's core and subcore. -/
abbrev widK (c : Fin ((K (F := F)).nCore 0)) (i : Fin ((K (F := F)).nSub 0)) : Fin 32 := wid (Fin.cast nCore_zero c) (Fin.cast nSub_zero i)

/-- The call hands each SparseCore its sixteen tasks' resources and takes them back. -/
def P : (K (F := F)).Pay (nD := nD) (Val := Elt F) (Name := ℕ) (U := UU) where
  st := fun q d c => match q with | 0 => bigSep Finset.univ fun i => goW tab idx o0 d (widK (F := F) c i)
  dn := fun q d c => match q with | 0 => bigSep Finset.univ fun i => tdW tab idx d (widK (F := F) c i)
  go := fun q d c i => match q with | 0 => goW tab idx o0 d (widK (F := F) c i)
  td := fun q d c i => match q with | 0 => tdW tab idx d (widK (F := F) c i)
  x := fun _ _ => iprop(emp)

instance P_storable : (P (F := F) tab idx o0).IsStorable where
  st q d c := match q with
    | 0 => (inferInstance : BI.Storable (upEmb : UEmb _ 𝕄) (bigSep Finset.univ fun i => goW tab idx o0 d (widK (F := F) c i)))
  dn q d c := match q with
    | 0 => (inferInstance : BI.Storable (upEmb : UEmb _ 𝕄) (bigSep Finset.univ fun i => tdW tab idx d (widK (F := F) c i)))
  go q d c i := match q with
    | 0 => (inferInstance : BI.Storable (upEmb : UEmb _ 𝕄) (goW tab idx o0 d (widK (F := F) c i)))
  td q d c i := match q with
    | 0 => (inferInstance : BI.Storable (upEmb : UEmb _ 𝕄) (tdW tab idx d (widK (F := F) c i)))

/-- Every word of the index list names a row of the table. -/
def PreOK : Prop := ∀ (d : Dev nD) (j : S20480.Idx), (idx d j : BitVec 32).toNat < 4096

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number. -/
abbrev wL (L : grid0.Coords) : Fin 32 := wid (L 0) (L 1)

abbrev irowK (L : grid0.Coords) : Rect S20480 := Rect.unit (s := S20480) (k0_off1 L) S640.size (k0_off1_inb L)
abbrev orowK (L : grid0.Coords) : Rect S20480x128 := Rect.unit (s := S20480x128) (k0_off2 L) S640x128.size (k0_off2_inb L)
/-- The task's words of the index list, its rows of the result and all of the table, as it addresses them. -/
abbrev iRowK (L : grid0.Coords) : Memref sig .scVector .hbm S640 .i32 := (iV).slice (irowK L) (fun _ => rfl)
abbrev oRowK (L : grid0.Coords) : Memref sig .scVector .hbm S640x128 .f32 := (oV).slice (orowK L) (fun _ => rfl)
abbrev xAllK : Memref sig .scVector .hbm S4096x128 .f32 := (xV).slice (Rect.unit (s := S4096x128) ![0, 0] S4096x128.size inb_S4096x128_S4096x128_0_0) (fun _ => rfl)

theorem irowK_eq : irowK L = irow (wL L) := by
  unfold irowK irow Rect.part Rect.block
  congr 1 <;> funext a
  · rw [k0_off1_eq]
    match a with
    | 0 => simp [Shape.partIx, Shape.partSize, Fin.val_cast]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize, Fin.val_cast]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (tLoc d)) :
    ((xV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The rows of the row scratch, the entries of the index scratch, the pieces of the table's share -/

/-- Rows `[b, b + 128)` of the row scratch and words `[b, b + 128)` of the index scratch, as a gather addresses them. -/
abbrev rWin (b : ℕ) (hb : ∀ a, (![b, 0] : Fin 2 → ℕ) a + S128x128.size a ≤ S640x128.size a) : Memref sig .scVector .vmem S128x128 .f32 :=
  (rV).slice (Rect.unit (s := S640x128) ![b, 0] S128x128.size hb) (fun _ => rfl)
abbrev sWin (b : ℕ) (hb : ∀ a, (![b] : Fin 1 → ℕ) a + S128.size a ≤ S640.size a) : Memref sig .scVector .vmem S128 .i32 :=
  (sV).slice (Rect.unit (s := S640) ![b] S128.size hb) (fun _ => rfl)

/-- Row `t` of the row scratch. -/
abbrev rRow (t : Fin 640) : Finset S640x128.Idx := (((rV).view).slice (S640x128.rowRect 0 t)).set
/-- Word `t` of the index scratch. -/
def sIx (t : Fin 640) : S640.Idx := fun
  | 0 => t
  | ⟨_ + 1, h⟩ => absurd h (Nat.not_lt.2 (Nat.le_add_left _ _))

/-- What the row scratch holds after the gathers, the index scratch holding `fl`. -/
def landedRows (tb : S4096x128.Idx → Elt F .f32) (fl : S640.Idx → Elt F .i32) : S640x128.Idx → Elt F .f32 :=
  fun x => tb (tabAt (fl (sIx (x 0)) : BitVec 32).toNat (x 1))

variable (qx : PosShare TreeShare) (tb : Buf (Elt F) (tLoc d)) (fl : Buf (Elt F) ((sV).view.loc (V d (cV L) (jV L)))) (fr : Buf (Elt F) ((rV).view.loc (V d (cV L) (jV L))))

/-- Row `t`'s resources before its gather: the row, the word naming its source, a share of the table. -/
abbrev rowPre (t : Fin 640) : sProp 𝕄 :=
  iprop(((rV).view.loc (V d (cV L) (jV L)) ↦[rRow t]{fullShare} fr) ∗ ((sV).view.loc (V d (cV L) (jV L)) ↦[{sIx t}]{fullShare} fl)
    ∗ ((xV).view.loc (V d (cV L) (jV L)) ↦{pieceOf qx 640 (by decide) t} tb))
/-- Row `t`'s resources after it: the row holding the table's row. -/
abbrev rowPost (t : Fin 640) : sProp 𝕄 := rowPre (F := F) d L qx tb fl (landedRows tb fl) t

/-- What one row's transfer credits. -/
abbrev rowCredit : ℕ := ((rV).slice (S640x128.rowRect 0 ⟨0, by decide⟩) (S640x128.stride_rowRect 0 _)).view.dmaCredit

/-- A batch of 640 rows: what the task holds of its five gathers, `j` rows issued and `u` units waited for. -/
abbrev RowBatch (j u : ℕ) : sProp 𝕄 :=
  Transfers.Batch countersEmb (V d (cV L) (jV L)) (.dma cc0_scratch2.sem) (default : HIx 1) rowCredit
    (rowPost (F := F) d L qx tb fl) j u

theorem set_xAllK : (xAllK).view.set = Finset.univ := by
  show ((xV).view.slice _).set = _
  rw [View.set_slice, show (Rect.unit (s := S4096x128) ![0, 0] S4096x128.size inb_S4096x128_S4096x128_0_0).set = Finset.univ from ?_]
  · exact View.set_whole _
  · ext i
    simp only [Finset.mem_univ, iff_true, Rect.mem_set_unit]
    intro a
    match a with
    | 0 => exact ⟨Nat.zero_le _, by simpa using (i 0).isLt⟩
    | 1 => exact ⟨Nat.zero_le _, by simpa using (i 1).isLt⟩

/-- An index is on row `k` along an axis when its coordinate there is `k`. -/
theorem mem_rowRect {s : Shape} (a : Fin s.rank) (k : Fin (s.size a)) (x : s.Idx) : x ∈ (s.rowRect a k).set ↔ x a = k := by
  refine Iff.trans (b := ∀ b, ∃ j < (if b = a then 1 else s.size b), (x b : ℕ) = (if b = a then k.val else 0) + 1 * j) (LoadRect.mem_set _) ?_
  constructor
  · intro h
    obtain ⟨j, hj, he⟩ := h a
    rw [if_pos rfl] at hj he
    exact Fin.ext (by omega)
  · intro h b
    by_cases hb : b = a
    · subst hb; exact ⟨0, by rw [if_pos rfl]; exact Nat.one_pos, by rw [if_pos rfl, h]; rfl⟩
    · exact ⟨(x b).val, by rw [if_neg hb]; exact (x b).isLt, by rw [if_neg hb]; omega⟩

theorem mem_rRow (x : S640x128.Idx) (t : Fin 640) : x ∈ rRow t ↔ x 0 = t := by
  rw [show rRow t = (S640x128.rowRect 0 t).set from View.set_slice_whole _ _]
  exact mem_rowRect (s := S640x128) 0 t x

/-- Where element `j` of the window's row `i` lies in the row scratch. -/
theorem rWin_emb (b : ℕ) (hb : ∀ a, (![b, 0] : Fin 2 → ℕ) a + S128x128.size a ≤ S640x128.size a) (y : S128x128.Idx) (a : Fin 2) :
    ((rWin b hb).view.emb y a).val = (![b, 0] : Fin 2 → ℕ) a + (y a).val := by
  show (((Rect.unit (s := S640x128) ![b, 0] S128x128.size hb).emb y) a).val = _
  rw [Rect.emb_apply]; show _ + 1 * _ = _; rw [Nat.one_mul]; rfl

/-- Row `i` of the window at `b` is row `b + i`. -/
theorem rWin_row (b : ℕ) (hb : ∀ a, (![b, 0] : Fin 2 → ℕ) a + S128x128.size a ≤ S640x128.size a) (i : Fin 128) (h : b + i.val < 640) :
    ((rWin b hb).view.slice (S128x128.rowRect 0 i)).set = rRow ⟨b + i.val, h⟩ := by
  ext x
  rw [mem_rRow, View.set_slice, Finset.mem_map]
  constructor
  · rintro ⟨y, hy, rfl⟩
    have h0 := (mem_rowRect (s := S128x128) 0 i y).mp hy
    apply Fin.ext
    refine (rWin_emb b hb y 0).trans ?_
    exact congrArg (b + ·) (congrArg Fin.val h0)
  · intro hx
    let y : S128x128.Idx := fun
      | 0 => i
      | 1 => ⟨(x 1).val, (x 1).isLt⟩
      | ⟨_ + 2, h⟩ => absurd h (Nat.not_lt.2 (Nat.le_add_left _ _))
    refine ⟨y, (mem_rowRect (s := S128x128) 0 i y).mpr rfl, ?_⟩
    funext a; apply Fin.ext; refine (rWin_emb b hb y a).trans ?_
    match a with
    | 0 => exact (congrArg Fin.val hx).symm
    | 1 => exact Nat.zero_add _

/-- Word `i` of the window at `b` is word `b + i`. -/
theorem sWin_entry (b : ℕ) (hb : ∀ a, (![b] : Fin 1 → ℕ) a + S128.size a ≤ S640.size a) (i : Fin 128) (h : b + i.val < 640) (hn : S128.numel = 128) :
    (sWin b hb).view.emb (GatherBatch.entryAt S128 hn i) = sIx ⟨b + i.val, h⟩ := by
  funext a
  match a with
  | 0 =>
    apply Fin.ext
    show (((Rect.unit (s := S640) ![b] S128.size hb).emb _) 0).val = b + i.val
    rw [Rect.emb_apply]; show b + 1 * (((S128.rowMajor.symm (i.cast hn.symm)) 0).val) = _
    rw [Nat.one_mul]
    have h1 := congrArg Fin.val (S128.rowMajor.apply_symm_apply (i.cast hn.symm))
    rw [Shape.rowMajor_val_one] at h1
    exact congrArg (b + ·) h1

/-- Where an element of the table lies, addressed through the slice that is all of it. -/
theorem xAllK_emb (y : S4096x128.Idx) : (xAllK).view.emb y = y := by
  funext a; apply Fin.ext
  show (((Rect.unit (s := S4096x128) ![0, 0] S4096x128.size inb_S4096x128_S4096x128_0_0).emb y) a).val = _
  rw [Rect.emb_apply]
  match a with
  | 0 => show 0 + 1 * _ = _; omega
  | 1 => show 0 + 1 * _ = _; omega

/-- The row a gather writes, on that row, is the table's row the list names. -/
theorem landed_row (hfl : ∀ j, (fl j : BitVec 32).toNat < 4096) (b : ℕ)
    (hbr : ∀ a, (![b, 0] : Fin 2 → ℕ) a + S128x128.size a ≤ S640x128.size a) (hbs : ∀ a, (![b] : Fin 1 → ℕ) a + S128.size a ≤ S640.size a)
    (hn : S128.numel = 128) (i : Fin 128) (h : b + i.val < 640)
    (hin : ∀ x, ((sWin b hbs).view.read (Elt F) fl x : BitVec 32).toNat < S4096x128.size gathers_S4096x128_S128x128.axis)
    (x : S640x128.Idx) (hx : x ∈ rRow ⟨b + i.val, h⟩) :
    ((rWin b hbr).view.slice (S128x128.rowRect 0 i)).write (Elt F) fr
        (fun y => (xAllK).view.read (Elt F) tb (gathers_S4096x128_S128x128.rowIdx (SparseCore.rows ((sWin b hbs).view.read (Elt F) fl) hn hin i) y)) Finset.univ x
      = landedRows tb fl x := by
  have hx0 := (mem_rRow x _).mp hx
  rw [← rWin_row b hbr i h] at hx
  obtain ⟨y, -, rfl⟩ := Finset.mem_map.mp hx
  rw [View.write_emb_of_mem _ _ (Finset.mem_univ y)]
  refine (cast_eq _ _).trans ?_
  rw [View.read_apply]
  refine (cast_eq _ _).trans ?_
  rw [xAllK_emb]
  unfold landedRows
  congr 1
  have hr : (SparseCore.rows ((sWin b hbs).view.read (Elt F) fl) hn hin i).val
      = (fl (sIx (((rWin b hbr).view.slice (S128x128.rowRect 0 i)).emb y 0)) : BitVec 32).toNat := by
    rw [hx0, ← sWin_entry b hbs i h hn]
    show ((sWin b hbs).view.read (Elt F) fl _ : BitVec 32).toNat = _
    rw [View.read_apply]; rfl
  funext a; apply Fin.ext
  match a with
  | 0 =>
    refine (congrArg Fin.val (Shape.Gathers.rowIdx_axis gathers_S4096x128_S128x128 _ y)).trans ?_
    rw [hr]
    exact (Nat.mod_eq_of_lt (hfl _)).symm
  | 1 =>
    refine (Shape.Gathers.rowIdx_of_ne gathers_S4096x128_S128x128 _ y (b := 1) (by decide)).trans ?_
    show _ = (((rWin b hbr).view.slice (S128x128.rowRect 0 i)).emb y 1).val
    refine Eq.symm ((rWin_emb b hbr _ 1).trans ?_)
    refine (Nat.zero_add _).trans ?_
    exact Shape.rowRect_emb_of_ne (s := S128x128) 0 i y (b := 1) (by decide)

theorem pts_row_in (b : ℕ) (hbr : ∀ a, (![b, 0] : Fin 2 → ℕ) a + S128x128.size a ≤ S640x128.size a) (i : Fin 128) (h : b + i.val < 640)
    (f : Buf (Elt F) ((rV).view.loc (V d (cV L) (jV L)))) :
    ((rV).view.loc (V d (cV L) (jV L)) ↦[rRow ⟨b + i.val, h⟩]{fullShare} f : sProp 𝕄)
      = (rWin b hbr).view.loc (V d (cV L) (jV L)) ↦[((rWin b hbr).view.slice (S128x128.rowRect 0 i)).set]{fullShare} f := by
  rw [rWin_row b hbr i h]
theorem pts_entry_in (b : ℕ) (hbs : ∀ a, (![b] : Fin 1 → ℕ) a + S128.size a ≤ S640.size a) (hn : S128.numel = 128) (i : Fin 128) (h : b + i.val < 640) :
    ((sV).view.loc (V d (cV L) (jV L)) ↦[{sIx ⟨b + i.val, h⟩}]{fullShare} fl : sProp 𝕄)
      = (sWin b hbs).view.loc (V d (cV L) (jV L)) ↦[{(sWin b hbs).view.emb (GatherBatch.entryAt S128 hn i)}]{fullShare} fl := by
  rw [sWin_entry b hbs i h hn]
theorem pts_piece_in (q : PosShare TreeShare) :
    ((xV).view.loc (V d (cV L) (jV L)) ↦{q} tb : sProp 𝕄) = (xAllK).view.loc (V d (cV L) (jV L)) ↦[(xAllK).view.set]{q} tb := by
  rw [set_xAllK]

/-- Entailment in each of three conjuncts. -/
theorem mono3 {A A' B B' C C' : sProp 𝕄} (hA : A ⊢ A') (hB : B ⊢ B') (hC : C ⊢ C') : iprop(A ∗ B ∗ C) ⊢ iprop(A' ∗ B' ∗ C') := by
  iintro ⟨HA, HB, HC⟩
  isplitl [HA]; · iapply hA $$ HA
  isplitl [HB]; · iapply hB $$ HB
  iapply hC $$ HC

theorem eq3 {A A' B B' C C' : sProp 𝕄} (hA : A = A') (hB : B = B') (hC : C = C') : iprop(A ∗ B ∗ C) = iprop(A' ∗ B' ∗ C') := by
  subst hA hB hC; rfl

/-- One gather: rows `[b, b + 128)` of the row scratch, issued as the next 128 transfers of the batch. -/
theorem wp_issue {defs : Defs nD τ sig (Elt F) Λ₀} {𝒱' : Variants} {bd : Option 𝒱'.V} {α : Type} {Q : α → sProp 𝕄}
    (hfl : ∀ j, (fl j : BitVec 32).toNat < 4096) (b : ℕ) (hb640 : b + 128 ≤ 640)
    {hbr : ∀ a, (![b, 0] : Fin 2 → ℕ) a + S128x128.size a ≤ S640x128.size a} {hbs : ∀ a, (![b] : Fin 1 → ℕ) a + S128.size a ≤ S640.size a}
    {hp : (V d (cV L) (jV L)).2.kind = .scVector} {hn : S128.numel = S128x128.size gathers_S4096x128_S128x128.axis'}
    {hsrc : (xAllK).view.WordExact} {he : (EltTy.f32).bits = 32} {hsp : Space.hbm = .hbm ∨ Space.hbm = .shared} {hr : S4096x128.StreamRows 0}
    {k : PUnit → Prog (TpuEff nD τ sig (Elt F) Λ₀ (V d (cV L) (jV L)).2) α} :
    iprop((bigSep (Transfers.pending b) (rowPre (F := F) d L qx tb fl fr)) ∗ RowBatch (F := F) d L qx tb fl b 0)
      ⊢ iprop((((bigSep (Transfers.pending (b + 128)) (rowPre (F := F) d L qx tb fl fr)) ∗ RowBatch (F := F) d L qx tb fl (b + 128) 0)
            -∗ wp frame (wpE defs 𝒱' (V d (cV L) (jV L)) bd) Set.univ (k ⟨⟩) Q)
          -∗ wp frame (wpE defs 𝒱' (V d (cV L) (jV L)) bd) Set.univ
              (SparseCore.enqueueIndirectGather hp xAllK (rWin b hbr) gathers_S4096x128_S128x128 (sWin b hbs) hn cc0_scratch2.sem hsrc he hsp hr >>= k) Q) := by
  have hin : ∀ x, ((sWin b hbs).view.read (Elt F) fl x : BitVec 32).toNat < S4096x128.size gathers_S4096x128_S128x128.axis := fun x => by
    rw [View.read_apply]; exact hfl _
  have hrow : ∀ i : Fin 128, b + i.val < 640 := fun i => by omega
  have h := GatherBatch.wp_gatherBatch (defs := defs) countersEmb 𝒱' (V d (cV L) (jV L)) bd (Q := Q) (src := xAllK) (dst := rWin b hbr)
    (hg := gathers_S4096x128_S128x128) (offs := sWin b hbs) (hn := hn) (sem := cc0_scratch2.sem) (hp := hp) (hsrc := hsrc) (he := he) (hsp := hsp) (hr := hr) (k := k)
    (D := rowPost (F := F) d L qx tb fl) (default : HIx 1) rowCredit b 0 hb640 (Nat.zero_le _) (fun i => rfl)
    (q := fun i => pieceOf qx 640 (by decide) ⟨b + i.val, hrow i⟩) (qo := fullShare) (fs := tb) (fd := fr) (fo := fl) hin
    (fun i => by
      refine mono3 (Entails.of_eq ?_) (Entails.of_eq (pts_entry_in d L fl b hbs hn i (hrow i)).symm) (Entails.of_eq (pts_piece_in d L tb _).symm)
      refine Eq.trans ?_ (pts_row_in d L b hbr i (hrow i) _).symm
      exact pointsTo_congr fun x hx => landed_row d L tb fl fr hfl b hbr hbs hn i (hrow i) hin x ((rWin_row b hbr i (hrow i)) ▸ hx))
  rw [GatherBatch.bigSep_pending_add _ b 128 hb640]
  iintro ⟨⟨Hnow, Hrest⟩, HB⟩ Hk
  iapply h $$ [Hnow HB]
  · isplitl [Hnow]
    · have hm : ∀ i : Fin 128, rowPre (F := F) d L qx tb fl fr ⟨b + i.val, hrow i⟩ = iprop(
          ((rWin b hbr).view.loc (V d (cV L) (jV L)) ↦[((rWin b hbr).view.slice (S128x128.rowRect 0 i)).set]{fullShare} fr)
          ∗ ((sWin b hbs).view.loc (V d (cV L) (jV L)) ↦[{(sWin b hbs).view.emb (GatherBatch.entryAt S128 hn i)}]{fullShare} fl)
          ∗ ((xAllK).view.loc (V d (cV L) (jV L)) ↦[(xAllK).view.set]{pieceOf qx 640 (by decide) ⟨b + i.val, hrow i⟩} tb)) := fun i => by
        exact eq3 (pts_row_in d L b hbr i (hrow i) fr) (pts_entry_in d L fl b hbs hn i (hrow i)) (pts_piece_in d L tb _)
      iapply (Entails.of_eq (congrArg (bigSep Finset.univ) (funext hm))) $$ Hnow
    · iexact HB
  · iintro HB
    iapply Hk
    isplitl [Hrest]
    · iexact Hrest
    · iexact HB

/-- The words of the index list the task fetches. -/
abbrev listL : S640.Idx → Elt F .i32 := (iRowK L).view.read (Elt F) (idx d)

theorem listL_lt (hpre : PreOK (F := F) idx) (j : S640.Idx) : (listL (F := F) idx d L j : BitVec 32).toNat < 4096 := by
  show ((iRowK L).view.read (Elt F) (idx d) j : BitVec 32).toNat < 4096
  rw [View.read_apply]; exact hpre d _

/-- The three buffers as 640 rows' resources. -/
theorem rows_split :
    iprop(((rV).view.loc (V d (cV L) (jV L)) ↦{fullShare} fr) ∗ ((sV).view.loc (V d (cV L) (jV L)) ↦{fullShare} fl)
        ∗ ((xV).view.loc (V d (cV L) (jV L)) ↦{qx} tb))
      = (bigSep Finset.univ (rowPre (F := F) d L qx tb fl fr) : sProp 𝕄) := by
  have h1 : ((rV).view.loc (V d (cV L) (jV L)) ↦[(rV).view.set]{fullShare} fr : sProp 𝕄) = bigSep Finset.univ fun t : Fin 640 => (rV).view.loc (V d (cV L) (jV L)) ↦[rRow t]{fullShare} fr :=
    pointsTo_rows (Ix := HIx 1) (Name := ℕ) (U := UU) (Lvl := ℕ) (V d (cV L) (jV L)) (rV).view 0 fullShare fr
  have h2 := pointsTo_entries (Ix := HIx 1) (Name := ℕ) (U := UU) (Lvl := ℕ) (V d (cV L) (jV L)) (sV).view sIx
    ⟨fun a b h => congrFun h 0, fun y => ⟨y 0, by funext a; match a with | 0 => rfl⟩⟩ fullShare fl
  have h3 := pointsTo_piecesOf (Ix := HIx 1) (Name := ℕ) (U := UU) (Lvl := ℕ) (ℓ := (xV).view.loc (V d (cV L) (jV L))) Finset.univ tb (o := 640) (by decide) qx
  rw [show (rV).view.set = Finset.univ from View.set_whole _] at h1
  rw [show (sV).view.set = Finset.univ from View.set_whole _] at h2
  refine (eq3 h1 h2 h3).trans ?_
  rw [← BI.bigSep_sep', ← BI.bigSep_sep']
  rfl

/-- The batch before its last wait, under a name. -/
@[irreducible] def LastBatch : sProp 𝕄 :=
  RowBatch (F := F) d L qx tb fl (512 + 128) (0 + 128 * rowCredit + 128 * rowCredit + 128 * rowCredit + 128 * rowCredit)
theorem lastBatch_eq : LastBatch (F := F) d L qx tb fl
    = RowBatch (F := F) d L qx tb fl (512 + 128) (0 + 128 * rowCredit + 128 * rowCredit + 128 * rowCredit + 128 * rowCredit) := by
  unfold LastBatch; rfl

/-- Where element `y` of the task's rows of the result lies. -/
theorem oRowK_emb (y : S640x128.Idx) (a : Fin 2) : ((oRowK L).view.emb y a).val = k0_off2 L a + (y a).val := by
  show (((orowK L).emb y) a).val = _
  rw [Rect.emb_apply]; show _ + 1 * _ = _; rw [Nat.one_mul]; rfl
/-- Where word `y` of the task's part of the index list lies. -/
theorem iRowK_emb (y : S640.Idx) (a : Fin 1) : ((iRowK L).view.emb y a).val = k0_off1 L a + (y a).val := by
  show (((irowK L).emb y) a).val = _
  rw [Rect.emb_apply]; show _ + 1 * _ = _; rw [Nat.one_mul]; rfl

/-- The rows the task copies out are, where they land, the gathered rows. -/
theorem out_value (y : S640x128.Idx) :
    landedRows (F := F) (tab d) (listL (F := F) idx d L) y = gathered (tab d) (idx d) ((oRowK L).view.emb y) := by
  unfold landedRows gathered
  have h1 : listL (F := F) idx d L (sIx (y 0)) = idx d (listAt ((oRowK L).view.emb y 0)) := by
    show (iRowK L).view.read (Elt F) (idx d) _ = _
    rw [View.read_apply]
    refine (cast_eq _ _).trans ?_
    congr 1
    funext a; apply Fin.ext
    match a with
    | 0 =>
      refine (iRowK_emb L _ 0).trans ?_
      refine Eq.trans ?_ (oRowK_emb L y 0).symm
      rw [k0_off1_eq, k0_off2_eq]; rfl
  rw [h1]
  congr 1
  funext a
  match a with
  | 0 => rfl
  | 1 =>
    apply Fin.ext
    refine Eq.trans ?_ (oRowK_emb L y 1).symm
    rw [k0_off2_eq]; exact (Nat.zero_add _).symm

set_option maxHeartbeats 4000000 in
/-- The task on vector subcore `(L 0, L 1)` of device `d`: the index fetch and its wait, the five gathers and their
    waits, the write-out and its wait. It brings back its rows of the result holding the table's rows its words name. -/
theorem tile_body [FloatOps F] (hF : (K (F := F)).Facts) (hpre : PreOK (F := F) idx) (O : CellTallies nD τ sig (HIx 1)) (W : Waits sig (HIx 1)) (hO : ∀ g, O g none = 0) :
    iprop(levAts (K (F := F)).L (K (F := F)).lev ∗ emp
        ∗ goW tab idx o0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_rows L xV (Memref.isWhole_whole _) iV (Memref.isWhole_whole _) oV (Memref.isWhole_whole _)
            sV (Memref.isWhole_whole _) rV (Memref.isWhole_whole _) cc0_scratch2 cc0_scoped0 cc0_scoped1)
          fun _ => iprop(tdW tab idx d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_rows_eq_skeleton]; unfold cc0__gather_rows_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hw : View.write (Elt F) (sV).view fs (tile_body.sl.dma0 idx d L) Finset.univ = listL (F := F) idx d L := by
    rw [View.write_whole_univ]; rfl
  ihave Hs'' := (Entails.of_eq (congrArg (fun f => ((sV).view.loc (V d (cV L) (jV L)) ↦{fullShare} f : sProp 𝕄)) hw)) $$ Hs'
  ihave Hrows := (Entails.of_eq (rows_split (F := F) d L (xq (wL L)) (tab d) (listL (F := F) idx d L) fr)) $$ [Hs'' Hr' Hx']
  · isplitl [Hr']; · iexact Hr'
    isplitl [Hs'']; · iexact Hs''
    iexact Hx'
  ihave Hrows := (Entails.of_eq (by rw [Transfers.pending_zero] : bigSep Finset.univ (rowPre (F := F) d L (xq (wL L)) (tab d) (listL (F := F) idx d L) fr)
    = bigSep (Transfers.pending 0) (rowPre (F := F) d L (xq (wL L)) (tab d) (listL (F := F) idx d L) fr))) $$ Hrows
  imod (Transfers.batch_alloc' countersEmb (V d (cV L) (jV L)) (default : HIx 1) rowCredit
    (rowPost (F := F) d L (xq (wL L)) (tab d) (listL (F := F) idx d L)) (E := Set.univ)) $$ HsemA with HB
  have hfl := listL_lt idx d L hpre
  iapply (wp_issue (F := F) d L (xq (wL L)) (tab d) (listL (F := F) idx d L) fr hfl 0 (by decide)) $$ [Hrows HB]
  · isplitl [Hrows]; · iexact Hrows
    iexact HB
  iintro ⟨Hrows, HB⟩
  sl_exec
  iapply (wp_issue (F := F) d L (xq (wL L)) (tab d) (listL (F := F) idx d L) fr hfl 128 (by decide)) $$ [Hrows HB]
  · isplitl [Hrows]; · iexact Hrows
    iexact HB
  iintro ⟨Hrows, HB⟩
  sl_exec
  iapply (wp_issue (F := F) d L (xq (wL L)) (tab d) (listL (F := F) idx d L) fr hfl 256 (by decide)) $$ [Hrows HB]
  · isplitl [Hrows]; · iexact Hrows
    iexact HB
  iintro ⟨Hrows, HB⟩
  sl_exec
  iapply (wp_issue (F := F) d L (xq (wL L)) (tab d) (listL (F := F) idx d L) fr hfl 384 (by decide)) $$ [Hrows HB]
  · isplitl [Hrows]; · iexact Hrows
    iexact HB
  iintro ⟨Hrows, HB⟩
  sl_exec
  iapply (wp_issue (F := F) d L (xq (wL L)) (tab d) (listL (F := F) idx d L) fr hfl 512 (by decide)) $$ [Hrows HB]
  · isplitl [Hrows]; · iexact Hrows
    iexact HB
  iintro ⟨-, HB⟩
  sl_exec
  have hq : ∀ b hb, (rWin b hb).view.dmaCredit = 128 * rowCredit := fun b hb => rfl
  iapply (Transfers.wp_waitBatchMulO countersEmb 𝒱₀ (V d (cV L) (jV L)) none (default : HIx 1) 128 (hq _ _) (j := 512 + 128) (u := 0) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit + 128 * rowCredit) (by omega)) $$ [HB HO]
  · isplitl [HB]; · iexact HB
    isplitl [HO]; · iexact HO
    iapply (Transfers.MayWaits.elim (SemLoc.dma cc0_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit + 128 * rowCredit + 128 * rowCredit) (by omega)) $$ [HB HO]
  · isplitl [HB]; · iexact HB
    isplitl [HO]; · iexact HO
    iapply (Transfers.MayWaits.elim (SemLoc.dma cc0_scratch2.sem)) $$ Hmw
  iintro ⟨HB, HO⟩
  ihave HB := (Entails.of_eq (lastBatch_eq (F := F) d L (xq (wL L)) (tab d) (listL (F := F) idx d L)).symm) $$ HB
  sl_exec
  ihave HB := (Entails.of_eq (lastBatch_eq (F := F) d L (xq (wL L)) (tab d) (listL (F := F) idx d L))) $$ HB
  iapply (Transfers.wp_waitBatchAllO countersEmb 𝒱₀ (V d (cV L) (jV L)) none (default : HIx 1) (hq _ _) (N := rowCredit) (D := rowPost (F := F) d L (xq (wL L)) (tab d) (listL (F := F) idx d L)) (by decide) (u := 0 + 128 * rowCredit + 128 * rowCredit + 128 * rowCredit + 128 * rowCredit) (by omega)) $$ [HB HO]
  · isplitl [HB]; · iexact HB
    isplitl [HO]; · iexact HO
    iapply (Transfers.MayWaits.elim (SemLoc.dma cc0_scratch2.sem)) $$ Hmw
  iintro ⟨HD, HsemA, HO⟩
  ihave HD := (Entails.of_eq (rows_split (F := F) d L (xq (wL L)) (tab d) (listL (F := F) idx d L) (landedRows (tab d) (listL (F := F) idx d L))).symm) $$ HD
  icases HD with ⟨Hr3, Hs3, Hx3⟩
  generalize hG : landedRows (F := F) (tab d) (listL (F := F) idx d L) = G
  sl_exec
  sl_step
  isplitl [Hi' Hx3 Ho']
  · isplitl [Hi']; · iapply (Entails.of_eq (pts_iRowK (F := F) d L _)); iexact Hi'
    isplitl [Hx3]; · iexact Hx3
    iapply (Entails.of_eq ((pointsTo_congr (fun x hx => by
      obtain ⟨y, -, rfl⟩ := Finset.mem_map.mp hx
      have hr := View.read_writes_cons_emb (oRowK L).view (Val := Elt F) (o0 d) (Rect.whole S640x128) (tile_body.sl.dma0_1 G) [] y
      rw [Rect.emb_whole_apply, View.read_apply] at hr
      refine ((cast_eq _ _).symm.trans hr).trans ?_
      refine Eq.trans ?_ (out_value tab idx d L y)
      rw [hG]; rfl)).trans (pts_oRowK (F := F) d L (gathered (tab d) (idx d))))) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of the task on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__gather_rows (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl [FloatOps F] (hF : (K (F := F)).Facts) (hpre : PreOK (F := F) idx) : (K (F := F)).TileObl (D (F := F)) 𝒱 (P tab idx o0) v₀ 0 := by
  intro d c i O W hO _ _
  simp only [show (P (F := F) tab idx o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx o0 d (coordsV ⟨_, hci.1⟩ ⟨_, hci.2⟩) hF hpre O W hO).trans (wp_mono frame _ _ fun _ => obl_post)

end Tile

/-- A SparseCore's operands are its tasks' and its results theirs. -/
theorem vecSplit : (K (F := F)).VecSplit' (P tab idx o0) 0 := by
  intro d c
  show (bigSep Finset.univ fun i => goW tab idx o0 d (widK (F := F) c i)) ⊢ |={Set.univ}=> iprop(
      (bigSep Finset.univ fun i => goW tab idx o0 d (widK (F := F) c i))
      ∗ ((bigSep Finset.univ fun i => tdW tab idx d (widK (F := F) c i)) -∗ bigSep Finset.univ fun i => tdW tab idx d (widK (F := F) c i)))
  iintro H; imodintro
  isplitl [H]; · iexact H
  iintro H; iexact H

/-! ## The tasks' resources are the whole arrays -/

theorem iRowSet_eq (i : Fin 32) : iRowSet i = (irow i).set := View.set_slice_whole _ _
theorem oRowSet_eq (i : Fin 32) : oRowSet i = (orow i).set := View.set_slice_whole _ _
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) : (iPts idx d : sProp 𝕄) = bigSep Finset.univ fun w : Fin 32 => iRowPts idx d w := by
  unfold iPts iRowPts
  rw [← pointsTo_biUnion Finset.univ (ℓ := iLoc d) iRowSet fun i _ j _ h => by rw [iRowSet_eq, iRowSet_eq]; exact Rect.part_disjoint idiv h, irows_cover]
theorem oPts_rows (d : Dev nD) (f : Buf (Elt F) (oLoc d)) : (oPts d f : sProp 𝕄) = bigSep Finset.univ fun w : Fin 32 => oRowPts d w f := by
  unfold oPts oRowPts
  rw [← pointsTo_biUnion Finset.univ (ℓ := oLoc d) oRowSet fun i _ j _ h => by rw [oRowSet_eq, oRowSet_eq]; exact Rect.part_disjoint odiv h, orows_cover]
theorem xPts_shares (d : Dev nD) : (xPts tab d : sProp 𝕄) = bigSep Finset.univ fun w : Fin 32 => xShPts tab d w :=
  pointsTo_piecesOf Finset.univ (tab d) (by decide) fullShare

/-- The 32 tasks, by SparseCore and subcore. -/
theorem bigSep_tasks (Φ : Fin 32 → sProp 𝕄) :
    (bigSep Finset.univ fun c : Fin ((K (F := F)).nCore 0) => bigSep Finset.univ fun i : Fin ((K (F := F)).nSub 0) => Φ (widK (F := F) c i))
      = bigSep Finset.univ Φ := by
  let e : Fin 2 × Fin 16 ≃ Fin 32 := Equiv.ofBijective (fun p => wid p.1 p.2) (by decide)
  exact ((BI.bigSep_univ_equiv e Φ).trans (BI.bigSep_univ_prod _)).symm

/-- Everything the call takes, from the three arrays whole. -/
theorem st_eq (d : Dev nD) : (bigSep Finset.univ fun c : Fin ((K (F := F)).nCore 0) => (P (F := F) tab idx o0).st 0 d c)
    = (iprop(iPts idx d ∗ xPts tab d ∗ oPts d (o0 d)) : sProp 𝕄) := by
  refine (bigSep_tasks (F := F) (fun w => goW tab idx o0 d w)).trans ?_
  rw [BI.bigSep_sep', BI.bigSep_sep', iPts_rows, xPts_shares, oPts_rows]
/-- Everything it brings back: the result holds the gathered rows. -/
theorem dn_eq (d : Dev nD) : (bigSep Finset.univ fun c : Fin ((K (F := F)).nCore 0) => (P (F := F) tab idx o0).dn 0 d c)
    = (iprop(iPts idx d ∗ xPts tab d ∗ oPts d (gathered (tab d) (idx d))) : sProp 𝕄) := by
  refine (bigSep_tasks (F := F) (fun w => tdW tab idx d w)).trans ?_
  rw [BI.bigSep_sep', BI.bigSep_sep', iPts_rows, xPts_shares, oPts_rows]

end Cert.Proof.KernelIdealRun

end
-- ==== Proof.KernelIdealLoss.lean ====
/-
  The loss call of `KernelIdeal` (a gridless TensorCore region): its body run by the executor with the value it stores, its proof
  data and its region over the thread state "every unscoped buffer at a valuation".
-/
module

public import proofs.«01_k».proof.Proof.KernelIdealTile
public import proofs.«01_k».proof.Proof.Gen.KernelIdeal.Launch
public import Idealize.ShloMosaic.Lib.Pipeline.RegionsLoop
public import Idealize.ShloMosaic.Lib.Pipeline.ValueKit.Geometry
public import Idealize.ShloMosaic.Lib.VecWindow
public import Idealize.ShloMosaic.Lib.Writes
public import Idealize.ShloMosaic.Lib.Tactic

@[expose] public section

noncomputable section

namespace Cert.Proof.KernelIdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The value of the loss call -/

/-- Columns `k … k + 63` of the gathered rows' array. -/
def colsAt (k : Fin 2 → ℕ) (h : ∀ a, k a + S4096x64.size a ≤ S4096x640.size a) (g : S4096x640.Idx → F .f32) : FVec F S4096x64 .f32 :=
  fun x => g ((Rect.unit (s := S4096x640) k S4096x64.size h).emb x)

/-- The first column of the given LID values. -/
def col0 (l : S4096x8.Idx → F .f32) : FVec F S4096x1 .f32 :=
  fun x => l ((Rect.unit (s := S4096x8) ![0, 0] S4096x1.size inb_S4096x8_S4096x1_0_0).emb x)

/-- What the loss call stores, of its three arrays. -/
def lossVal (z : S4096x64.Idx → F .f32) (g : S4096x640.Idx → F .f32) (l : S4096x8.Idx → F .f32) : FVec F S1x1 .f32 :=
  k1_pay1 (k1_pay3 z (colsAt ![0, 0] inb_S4096x640_S4096x64_0_0 g)) (k1_pay4 z (colsAt ![0, 128] inb_S4096x640_S4096x64_0_128 g))
    (k1_pay5 z (k1_pay2 z) (colsAt ![0, 256] inb_S4096x640_S4096x64_0_256 g)) (k1_pay6 z (k1_pay2 z) (colsAt ![0, 384] inb_S4096x640_S4096x64_0_384 g))
    (k1_pay8 z (colsAt ![0, 512] inb_S4096x640_S4096x64_0_512 g)) (k1_pay9 (k1_pay2 z) (colsAt ![0, 512] inb_S4096x640_S4096x64_0_512 g)) (col0 l)

/-- The loss body, from its four staging buffers: the result's holds the loss's value after it. -/
theorem lossRun (c : Dev nD) (z : S4096x64.Idx → F .f32) (g : S4096x640.Idx → F .f32) (l : S4096x8.Idx → F .f32) (f3 : Bf (F := F) c (stage1_3 0))
   (E : Set ℕ) (Q : PUnit → sProp 𝕄) :
        iprop(pt c (stage1_0 0) z ∗ pt c (stage1_1 0) g ∗ pt c (stage1_2 0) l ∗ pt c (stage1_3 0) f3
            ∗ (iprop(pt c (stage1_0 0) z ∗ pt c (stage1_1 0) g ∗ pt c (stage1_2 0) l ∗ pt c (stage1_3 0) (lossVal z g l)) -∗ Q ⟨⟩))
          ⊢ wp frame (wpE (defs₀ (F := F)) Variants.none c none) E
              (cc1__lid_loss_body (stage1_0 0) (hstage1_0 0) (stage1_1 0) (hstage1_1 0) (stage1_2 0) (hstage1_2 0) (stage1_3 0) (hstage1_3 0)) Q := by
  rw [cc1__lid_loss_body_eq_skeleton]
  unfold cc1__lid_loss_body_skel
  rw [k1_part1_eq_skeleton, k1_part2_eq_skeleton]
  unfold k1_part1_skel k1_part2_skel
  iintro ⟨H0, H1, H2, H3, Hk⟩
  sl_exec!
  sl_step
  iapply Hk
  isplitl [H0]; · iexact H0
  isplitl [H1]; · iexact H1
  isplitl [H2]; · iexact H2
  rw [show (stage1_3 0).view.writes (Elt F) (stage1_3 0).view.junk (lossRun.sl.H3_1 z g l) = lossVal z g l from by
    have ez : View.readAt (Elt F) (stage1_0 0).view (Rect.unit ![0, 0] S4096x64.size inb_S4096x64_S4096x64_0_0).toLoadRect z = z :=
      Memref.readAt_unit_zero (Elt F) cc1_stg0_0 (by decide) _ z
    unfold lossRun.sl.H3_1 lossVal
    rw [ez]
    funext y
    have h := View.read_writes_cons_emb (Val := Elt F) (stage1_3 0).view (stage1_3 0).view.junk (Rect.unit (s := S1x1) ![0, 0] S1x1.size inb_S1x1_S1x1_0_0)
      (lossVal z g l) [] y
    rw [Rect.emb_unit_full] at h
    exact h]
  iexact H3

/-! ## The proof data, at an entry valuation -/

variable (V : (c : Dev nD) → (b : Ref sig .tc) → Buf (Elt F) ((c : Thread nD τ).loc b))

/-- The windows' blocks as the fetches stage them: the arrays at the entry valuation. -/
abbrev stg0 (c : Dev nD) : (cfg1.win 0).block.Idx → Elt F (cfg1.win 0).elt := ((cfg1.win 0).blk t1_0).view.read (Elt F) (V c main_arg0)
abbrev stg1 (c : Dev nD) : (cfg1.win 1).block.Idx → Elt F (cfg1.win 1).elt := ((cfg1.win 1).blk t1_0).view.read (Elt F) (V c main_v5)
abbrev stg2 (c : Dev nD) : (cfg1.win 2).block.Idx → Elt F (cfg1.win 2).elt := ((cfg1.win 2).blk t1_0).view.read (Elt F) (V c main_arg2)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

-- what the core owes meanwhile (nothing at the copies' own index), and a bound on the levels of the waits it has recorded
variable (O : Dev nD → CellTallies nD τ sig (HIx 1)) (b : ℕ)

/-- The proof data of the loss region entered at valuation `V`. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => lossVal (stg0 V c) (stg1 V c) (stg2 V c)
  Φ _ := Φc c
  q _ := fullShare
  owed _ := O c
  recorded _ := {p | (K (F := F)).lev (SparseCore.T c, p.1) p.2 ≤ b}

variable (adm : (p : Fin 1) → (pcfgs (F := F) p).Adm)

/-- The one region's proof data. -/
def pdats : (p : Fin 1) → (c : Dev nD) → Dat τ (Elt F) (HIx 1) ℕ UU ℕ (Pipeline.pin (pcfgs (F := F)) adm p) c
  | ⟨0, _⟩ => fun c => dat V O b c

theorem before_0 (c : Dev nD) (d : (cfg1.win 0).block.Idx → Elt F (cfg1.win 0).elt) : (dat V O b c).before 0 t1_0 d = stg0 V c := by
  unfold Dat.before; rw [if_pos (by decide)]; rfl
theorem before_1 (c : Dev nD) (d : (cfg1.win 1).block.Idx → Elt F (cfg1.win 1).elt) : (dat V O b c).before 1 t1_0 d = stg1 V c := by
  unfold Dat.before; rw [if_pos (by decide)]; rfl
theorem before_2 (c : Dev nD) (d : (cfg1.win 2).block.Idx → Elt F (cfg1.win 2).elt) : (dat V O b c).before 2 t1_0 d = stg2 V c := by
  unfold Dat.before; rw [if_pos (by decide)]; rfl

/-- The loss body at its one point, from the staged blocks to the stored value. -/
theorem body_obligation (c : Dev nD) : BodyObligation (dat V O b c) (defs₀ (F := F)) 𝒱₀ none Set.univ := fun t => by
  obtain rfl := fin_N1 t
  rw [bigSep_W1, bigSep_W1]
  simp only [owns_whole_eq]
  rw [show (dat V O b c).Φ t1_0.castSucc = Φc c from rfl, show (dat V O b c).Φ t1_0.succ = Φc c from rfl,
    show (dat V O b c).owesAt none t1_0.succ = (dat V O b c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0; subst hf1; subst hf2
  iapply (lossRun c (stg0 V c) (stg1 V c) (stg2 V c) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-! ## The region over the thread state -/

/-- The TensorCore's unscoped references. -/
def ucRefs : Finset (DevRef τ sig) := (StableHlo.tcRefs τ sig).filter fun b => ¬ b.isScoped

omit [FloatOps F] in
/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The stored value as the arrays hold it: of the arrays at the entry valuation. -/
theorem arrAt_out (c : Dev nD) : (dat V O b c).arrAt 3 cfg1.N = lossVal (V c main_arg0) (V c main_v5) (V c main_arg2) := by
  refine (dat V O b c).arrAt_eq_of_after_last 3 t1_0 (by decide +kernel) _ fun j => ?_
  blk_simp
  have e0 : stg0 V c = V c main_arg0 := by
    funext x
    refine congrArg (V c main_arg0) (funext fun a => Fin.ext ?_)
    exact Pipeline.Window.rect_emb_val_of_index_zero (cfg1.win 0) t1_0 a (show (cfg1.win 0).index t1_0 a = 0 from by revert a; decide +kernel) x
  have e1 : stg1 V c = V c main_v5 := by
    funext x
    refine congrArg (V c main_v5) (funext fun a => Fin.ext ?_)
    exact Pipeline.Window.rect_emb_val_of_index_zero (cfg1.win 1) t1_0 a (show (cfg1.win 1).index t1_0 a = 0 from by revert a; decide +kernel) x
  have e2 : stg2 V c = V c main_arg2 := by
    funext x
    refine congrArg (V c main_arg2) (funext fun a => Fin.ext ?_)
    exact Pipeline.Window.rect_emb_val_of_index_zero (cfg1.win 2) t1_0 a (show (cfg1.win 2).index t1_0 a = 0 from by revert a; decide +kernel) x
  dsimp only [dat]
  rw [e0, e1, e2]

-- the valuation the region leaves: the loss's array at the value, the rest as entered
variable (Vp : (c : Dev nD) → (b : Ref sig .tc) → Buf (Elt F) ((c : Thread nD τ).loc b))

/-- What the core owes, with its recorded waits' levels at most `b`. -/
abbrev owing (c : Dev nD) : sProp 𝕄 := iprop(∃ W, ⌜(K (F := F)).WBelow (SparseCore.T c) W b⌝ ∗ owes (c : Thread nD τ) (O c) W)

set_option backward.isDefEq.respectTransparency.types false in
/-- The loss region, from the unscoped buffers at `V` to them at `Vp`. -/
def reg (hO : ∀ c g, O c g none = 0) (hVp_out : ∀ c, Vp c main_v6 = lossVal (V c main_arg0) (V c main_v5) (V c main_arg2))
    (hVp_ne : ∀ c (r : Ref sig .tc), r ≠ main_v6 → Vp c r = V c r) :
    Pipeline.RegionSeg (pcfgs (F := F)) adm (pdats V O b adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V O b c).loose
  hwaits c := Pipeline.cellsWaits_intro _ _ _ 0 c fun w s t => (K (F := F)).mayWait_none _ (hO c)
  pre c := iprop(unscopedBufs c (V c) ∗ owing O b c)
  post c := iprop(unscopedBufs c (Vp c) ∗ owing O b c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V O b adm) (launch1).win (launch1).arr_whole c
      ((pdats V O b adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b adm 0 c).Φ 0 = Φc c from rfl]
    iintro ⟨-, -, Hr⟩; iexact Hr
  hout c := by
    rw [Pipeline.ownSems0_none, show (pdats V O b adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V O b adm) ((pdats V O b adm 0 c).share_full fun _ => rfl) (V c) (Vp c) ((pdats V O b adm 0 c).arrAt · cfg1.N)
      (fun w => by
        fin_cases w
        · exact ((pdats V O b adm 0 c).arrAt_in 0 rfl _).trans (hVp_ne c main_arg0 (by decide)).symm
        · exact ((pdats V O b adm 0 c).arrAt_in 1 rfl _).trans (hVp_ne c main_v5 (by decide)).symm
        · exact ((pdats V O b adm 0 c).arrAt_in 2 rfl _).trans (hVp_ne c main_arg2 (by decide)).symm
        · exact (arrAt_out V O b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.KernelIdealRun

end
-- ==== Proof.KernelIdealMain.lean ====
/-
  The run of `KernelIdeal`: its @main — host operations, the SparseCore call, a reshape, the loss call, a reshape — stepped
  from the launch memory, every unscoped buffer carried at a valuation, and the launch. Stated with the values: the final
  memory's unscoped buffers are the valuation `Wend` computed from the launch memory.
-/
module

public import proofs.«01_k».proof.Proof.KernelIdealLoss
public import Idealize.ShloMosaic.Lib.StableHlo.RunRead

@[expose] public section

noncomputable section

namespace Cert.Proof.KernelIdealRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 1) (Elt F) ℕ UU ℕ

/-! ## @main as host operations around the two calls -/

/-- The host operations before the SparseCore call. -/
abbrev hostOps0 : List (HloOp τ sig (Elt F)) :=
  [(StableHlo.unary main_arg1 main_v0 ((extractStridedSlice S4096x5 ![0, 0] · slices_S4096x8_S4096x5_0_0) : (⟨S4096x8, .i32⟩ : BufTy).Contents (Elt F) → (⟨S4096x5, .i32⟩ : BufTy).Contents (Elt F))),
    (StableHlo.reshape main_v0 main_v1 (rfl : (.i32 : EltTy) = .i32) shapeCasts_S4096x5_S20480),
    (StableHlo.nullary main_cst (constant S_ .f32 0x00000000#32)),
    (StableHlo.unary main_cst main_v2 (broadcastInDim S4096x64 ![] bcast_S_S4096x64 : (⟨S_, .f32⟩ : BufTy).Contents (Elt F) → (⟨S4096x64, .f32⟩ : BufTy).Contents (Elt F))),
    (StableHlo.binary main_arg0 main_v2 main_v3 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)))]

/-- The host operations between the SparseCore call and the loss. -/
abbrev hostOps1 : List (HloOp τ sig (Elt F)) :=
  [(StableHlo.reshape main_v4 main_v5 (rfl : (.f32 : EltTy) = .f32) shapeCasts_S20480x128_S4096x640)]

/-- The host operations after the loss. -/
abbrev hostOps2 : List (HloOp τ sig (Elt F)) :=
  [(StableHlo.reshape main_v6 main_v7 (rfl : (.f32 : EltTy) = .f32) shapeCasts_S1x1_S_)]

theorem main_eq (d : Dev nD) : main (F := F) d =
    (StableHlo.seq hostOps0 >>= fun _ => sc.run d 0 >>= fun _ => StableHlo.seq hostOps1 >>= fun _ =>
      Prog.lift (.customCall (SparseCore.inner (Pipeline.entry 0)) ()) >>= fun _ => StableHlo.seq hostOps2) := by
  simp only [main, StableHlo.seq, bind_assoc, pure_bind]

/-! ## The valuations along @main -/

variable (m : (ℓ : Loc nD τ sig) → Buf (Elt F) ℓ)

/-- The launch memory, on device `d`. -/
abbrev Wini (d : Dev nD) : Valuation τ sig (Elt F) := fun b => m (d, b)
/-- After the first host operations. -/
abbrev W1 (d : Dev nD) : Valuation τ sig (Elt F) := after hostOps0 (Wini m d)
/-- The SparseCore call's table, index list and its result before the call. -/
abbrev tabM (d : Dev nD) : Buf (Elt F) (tLoc d) := W1 m d main_v3
abbrev idxM (d : Dev nD) : Buf (Elt F) (iLoc d) := W1 m d main_v1
abbrev outM (d : Dev nD) : Buf (Elt F) (oLoc d) := W1 m d main_v4
/-- After the SparseCore call. -/
def W2 (d : Dev nD) : Valuation τ sig (Elt F) := Function.update (W1 m d) (Proc.devRef .tc main_v4) (gathered (tabM m d) (idxM m d))
/-- After the reshape. -/
abbrev W3 (d : Dev nD) : Valuation τ sig (Elt F) := after hostOps1 (W2 m d)
/-- After the loss call. -/
def W4 (d : Dev nD) : Valuation τ sig (Elt F) :=
  Function.update (W3 m d) (Proc.devRef .tc main_v6) (lossVal (W3 m d main_arg0) (W3 m d main_v5) (W3 m d main_arg2))
/-- At the end. -/
abbrev Wend (d : Dev nD) : Valuation τ sig (Elt F) := after hostOps2 (W4 m d)

theorem W4_out (d : Dev nD) : W4 m d main_v6 = lossVal (W3 m d main_arg0) (W3 m d main_v5) (W3 m d main_arg2) := Function.update_self ..
theorem W4_ne (d : Dev nD) (b : Ref sig .tc) (h : b ≠ main_v6) : W4 m d b = W3 m d b :=
  Function.update_of_ne (StableHlo.devRef_ne_of_ne h) ..

/-! ## The unscoped buffers around the SparseCore call -/

/-- The buffers the SparseCore call addresses. -/
def scRefs : Finset (DevRef τ sig) := {Proc.devRef .tc main_v1, Proc.devRef .tc main_v3, Proc.devRef .tc main_v4}
theorem scRefs_sub : scRefs ⊆ ucRefs := by decide +kernel

omit [FloatOps F] in
theorem held_scRefs (d : Dev nD) (W : Valuation τ sig (Elt F)) :
    (held (d : Thread nD τ) scRefs W : sProp 𝕄)
      = iprop((iLoc d ↦{fullShare} W main_v1) ∗ (tLoc d ↦{fullShare} W main_v3) ∗ oLoc d ↦{fullShare} W main_v4) := by
  unfold StableHlo.held scRefs
  rw [SparseCore.bigSep_insert' (by decide), SparseCore.bigSep_insert' (by decide), bigSep_singleton]

omit [FloatOps F] in
theorem held_ucRefs_split (d : Dev nD) (W : Valuation τ sig (Elt F)) :
    (held (d : Thread nD τ) ucRefs W : sProp 𝕄)
      = iprop(held (d : Thread nD τ) scRefs W ∗ held (d : Thread nD τ) (ucRefs \ scRefs) W) := by
  unfold StableHlo.held
  exact bigSep_sdiff_split scRefs_sub

omit [FloatOps F] in
theorem held_rest_congr (d : Dev nD) (W W' : Valuation τ sig (Elt F)) (h : ∀ b, b ∉ scRefs → W' b = W b) :
    (held (d : Thread nD τ) (ucRefs \ scRefs) W : sProp 𝕄) = held (d : Thread nD τ) (ucRefs \ scRefs) W' := by
  unfold StableHlo.held
  exact bigSep_congr fun b hb => by rw [h b (Finset.mem_sdiff.mp hb).2]

/-- After the SparseCore call, the buffers it was handed and the rest make the unscoped buffers at the next valuation. -/
theorem held_after_call (d : Dev nD) :
    (iprop((iPts (idxM m) d ∗ xPts (tabM m) d ∗ oPts d (gathered (tabM m d) (idxM m d))) ∗ held (d : Thread nD τ) (ucRefs \ scRefs) (W1 m d)) : sProp 𝕄)
      = held (d : Thread nD τ) ucRefs (W2 m d) := by
  rw [held_ucRefs_split d (W2 m d), held_scRefs, held_rest_congr d (W1 m d) (W2 m d) fun b hb =>
    Function.update_of_ne (fun h => hb (by rw [h]; unfold scRefs; simp)) ..]
  rw [show W2 m d main_v1 = idxM m d from Function.update_of_ne (StableHlo.devRef_ne_of_ne (by decide)) ..,
    show W2 m d main_v3 = tabM m d from Function.update_of_ne (StableHlo.devRef_ne_of_ne (by decide)) ..,
    show W2 m d main_v4 = gathered (tabM m d) (idxM m d) from Function.update_self ..]

/-! ## The launch element of the certificate's ghost state -/

/-- The region has no prefetched table. -/
abbrev admK (p : Fin 1) : (pcfgs (F := F) p).Adm := (cfgs p).toPCfg_adm
abbrev pinned : Fin 1 → Pipeline.Cfg sig Λ₀ := Pipeline.pin (pcfgs (F := F)) admK

theorem pin_inj : Function.Injective (Pipeline.cellOf (nD := nD) (τ := τ) (pinned (F := F))) := cellOf_inj

def u₀ : UU := (initOf (K (F := F)).hsCells (K (F := F)).hsToks,
  (initOf (Pipeline.cells (pinned (F := F)) (pin_inj (F := F))) (Pipeline.launchToks (pinned (F := F)) (pin_inj (F := F))), 1))

/-- What @main on device `d` is dealt for its region. -/
abbrev G (d : Dev nD) : sProp 𝕄 :=
  iprop(Pipeline.cellsGhost (pinned (F := F)) EP 0 d ∗ Pipeline.toksInit (pinned (F := F)) EP 0 d)

omit [FloatOps F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem sub0 : ∀ op ∈ (hostOps0 (F := F)), op.bufs ⊆ ucRefs := by
  intro op h
  fin_cases h <;> refine sub_ucRefs _ ?_ <;> simp only [StableHlo.unary_bufs, StableHlo.nullary_bufs, StableHlo.binary_bufs, StableHlo.reshape_bufs] <;> decide
theorem sub1 : ∀ op ∈ (hostOps1 (F := F)), op.bufs ⊆ ucRefs := by
  intro op h; fin_cases h <;> refine sub_ucRefs _ ?_ <;> simp only [StableHlo.reshape_bufs] <;> decide
theorem sub2 : ∀ op ∈ (hostOps2 (F := F)), op.bufs ⊆ ucRefs := by
  intro op h; fin_cases h <;> refine sub_ucRefs _ ?_ <;> simp only [StableHlo.reshape_bufs] <;> decide
theorem fresh0 : ∀ op ∈ (hostOps0 (F := F)), op.fresh = ∅ := by intro op h; fin_cases h <;> rfl
theorem fresh1 : ∀ op ∈ (hostOps1 (F := F)), op.fresh = ∅ := by intro op h; fin_cases h <;> rfl
theorem fresh2 : ∀ op ∈ (hostOps2 (F := F)), op.fresh = ∅ := by intro op h; fin_cases h <;> rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) (tabM m) (idxM m) (outM m)).x q thr) := by
  unfold u₀
  iintro Hu
  ihave H := (ownU_pair (initOf (K (F := F)).hsCells (K (F := F)).hsToks)
    ((initOf (Pipeline.cells (pinned (F := F)) (pin_inj (F := F))) (Pipeline.launchToks (pinned (F := F)) (pin_inj (F := F))), (1 : Counters)) : UP × Counters)) $$ Hu
  icases H with ⟨HH, HR⟩
  have hpair : (BI.own (embR ((initOf (Pipeline.cells (pinned (F := F)) (pin_inj (F := F))) (Pipeline.launchToks (pinned (F := F)) (pin_inj (F := F))), (1 : Counters)) : UP × Counters)) : sProp 𝕄)
      ⊢ iprop(BI.own (EP (initOf (Pipeline.cells (pinned (F := F)) (pin_inj (F := F))) (Pipeline.launchToks (pinned (F := F)) (pin_inj (F := F)))))
        ∗ BI.own (((Emb.inr : Emb Counters (UP × Counters)).trans embR : Emb Counters 𝕄) (1 : Counters))) :=
    by unfold EP; exact own_pair_emb (A := UP) (B := Counters) (embR : Emb (UP × Counters) 𝕄) _ _
  ihave H' := hpair $$ HR -- (initOf (Pipeline.cells (pinned (F := F)) (pin_inj (F := F))) (Pipeline.launchToks (pinned (F := F)) (pin_inj (F := F)))) (1 : Counters)) $$ HR
  icases H' with ⟨HP, -⟩
  imod (Pipeline.fund_ghost (pinned (F := F)) EP (pin_inj (F := F))) $$ HP with ⟨Hg, Ht⟩
  imodintro
  isplitl [HH]; · iexact HH
  isplitl [Hg Ht]
  · rw [bigSep_sep']
    isplitl [Hg]
    · rw [show (bigSep Finset.univ fun d : Dev nD => Pipeline.cellsGhost (pinned (F := F)) EP 0 d : sProp 𝕄)
        = bigSep Finset.univ fun d : Dev nD => bigSep Finset.univ fun p : Fin 1 => Pipeline.cellsGhost (pinned (F := F)) EP p d from
          bigSep_congr fun d _ => (bigSep_univ_of_subsingleton (Φ := fun p : Fin 1 => (Pipeline.cellsGhost (pinned (F := F)) EP p d : sProp 𝕄)) (0 : Fin 1)).symm]
      iexact Hg
    · rw [show (bigSep Finset.univ fun d : Dev nD => Pipeline.toksInit (pinned (F := F)) EP 0 d : sProp 𝕄)
        = bigSep Finset.univ fun d : Dev nD => bigSep Finset.univ fun p : Fin 1 => Pipeline.toksInit (pinned (F := F)) EP p d from
          bigSep_congr fun d _ => (bigSep_univ_of_subsingleton (Φ := fun p : Fin 1 => (Pipeline.toksInit (pinned (F := F)) EP p d : sProp 𝕄)) (0 : Fin 1)).symm]
      iexact Ht
  rw [show (bigSep Finset.univ fun thr : Thread nD τ => bigSep Finset.univ fun q : Fin 1 => (P (F := F) (tabM m) (idxM m) (outM m)).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## @main on the TensorCore -/

theorem owes_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

set_option backward.isDefEq.respectTransparency.types false in
/-- A line of host operations over the unscoped buffers, run to its end. -/
theorem line (d : Dev nD) (ops : List (HloOp τ sig (Elt F))) (h : ∀ op ∈ ops, op.bufs ⊆ ucRefs) (hf : ∀ op ∈ ops, op.fresh = ∅)
    (V : Valuation τ sig (Elt F)) (Φ : PUnit → sProp 𝕄) :
    iprop((boundary (SparseCore.T d : Thread nD τ) ∗ held (d : Thread nD τ) ucRefs V)
        ∗ ((boundary (SparseCore.T d : Thread nD τ) ∗ held (d : Thread nD τ) ucRefs (after ops V)) -∗ Φ ⟨⟩))
      ⊢ wp frame (wpE ((K (F := F)).defs (D (F := F))) 𝒱 (SparseCore.T d) none) Set.univ (StableHlo.seq ops) Φ := by
  have h0 := StableHlo.wp_seq (defs := (K (F := F)).defs (D (F := F))) 𝒱 none Set.univ d ucRefs (fun _ => .ret ⟨⟩) (K := Φ) ops h hf V
  rw [show (StableHlo.seq ops >>= fun _ => .ret ⟨⟩ : Prog (TpuEff nD τ sig (Elt F) _ .tc) PUnit) = StableHlo.seq ops from bind_pure _] at h0
  iintro ⟨Hs, Hk⟩
  iapply h0 $$ Hs
  iintro Hs
  rw [wp_ret]
  imodintro
  iapply Hk; iexact Hs

abbrev FIN (d : Dev nD) : sProp 𝕄 := held (d : Thread nD τ) ucRefs (Wend m d)

variable (ρ : Dev nD → PrngReg)

set_option backward.isDefEq.respectTransparency.types false in
/-- @main on device `d`'s TensorCore, from the launch memory to the final valuation. -/
theorem hmain (κ : GSem nD τ sig → ℕ) (d : Dev nD) :
    iprop((K (F := F)).ctx EH (P (F := F) (tabM m) (idxM m) (outM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  rw [show (unscopedBufs d (fun b => m ((SparseCore.T d).loc b)) : sProp 𝕄) = held (d : Thread nD τ) ucRefs (Wini m d) from
    unscopedBufs_held d (Wini m d)]
  iintro ⟨#Hctx, Hst, ⟨Hb, Hu, Hts, -⟩, ⟨Hcg, Htk⟩⟩
  iapply (line d hostOps0 sub0 fresh0 (Wini m d))
  isplitl [Hb Hu]
  · isplitl [Hb]; · iexact Hb
    iexact Hu
  iintro ⟨Hb, Hu⟩
  ihave Hu' := (Entails.of_eq ((held_ucRefs_split d (W1 m d)).trans (by rw [held_scRefs]))) $$ Hu
  icases Hu' with ⟨⟨Hi, Hx, Ho⟩, Hrest⟩
  iapply ((K (F := F)).wp_run (D (F := F)) 𝒱 (EH := EH) (P := P (F := F) (tabM m) (idxM m) (outM m)) κ d 0) $$ [Hst Hi Hx Ho Hb Hts Hrest Hcg Htk]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (tabM m) (idxM m) (outM m) d)) $$ Hdn
  icases Hdn' with ⟨Hi, Hx, Ho⟩
  ihave Hu := (Entails.of_eq (held_after_call m d)) $$ [Hi Hx Ho Hrest]
  · isplitl [Hi Hx Ho]
    · isplitl [Hi]; · iexact Hi
      isplitl [Hx]; · iexact Hx
      iexact Ho
    iexact Hrest
  iapply (line d hostOps1 sub1 fresh1 (W2 m d))
  isplitl [Hb Hu]
  · isplitl [Hb]; · iexact Hb
    iexact Hu
  iintro ⟨Hb, Hu⟩
  unfold SparseCore.Cfg.tcSt
  icases Hst with ⟨HO, Hst⟩
  iapply ((K (F := F)).wp_liftProg (D (F := F)) 𝒱 (SparseCore.T d) Set.univ none (.op (.customCall (Pipeline.entry 0) ()) .ret))
  iapply (Pipeline.RegionSeg.wp (pcfgs (F := F)) admK _ none pin_inj EP defs₀ 𝒱₀ (K (F := F)).L (K (F := F)).lev
    (reg (fun c b => W3 m c b) (fun c => (K (F := F)).Otc c 1) 8 admK (fun c b => W4 m c b) (fun c g => owes_none c 1 g) (W4_out m) (W4_ne m)) d none (by simp) .ret _)
  isplitl [Hst Hts]
  · iintro ⟨Hb, Hpost⟩
    unfold reg
    icases Hpost with ⟨Hu, HO⟩
    rw [wp_ret]
    imodintro
    iapply (line d hostOps2 sub2 fresh2 (W4 m d))
    isplitl [Hb Hu]
    · isplitl [Hb]; · iexact Hb
      iapply (Entails.of_eq (unscopedBufs_held d (W4 m d))); iexact Hu
    iintro ⟨Hb, Hu⟩
    isplitl [HO Hst]
    · isplitl [HO]; · iexact HO
      iexact Hst
    isplitl [Hu]; · iexact Hu
    isplitl [Hb]; · iexact Hb
    iexact Hts
  isplitl [Hb]; · iexact Hb
  isplitl [Hu HO]
  · unfold reg
    isplitl [Hu]
    · iapply (Entails.of_eq (unscopedBufs_held d (W3 m d)).symm); iexact Hu
    iexact HO
  isplitr
  · iapply ((K (F := F)).ctx_levAts κ); iexact Hctx
  isplitl [Hcg]; · iexact Hcg
  iexact Htk

/-! ## The final memory, and the launch -/

/-- Every unscoped buffer holds the final valuation's contents. -/
def fq (d : Dev nD) (s' : Phys nD τ sig (Elt F)) : Prop := ∀ b ∈ ucRefs, s'.mem.mem (d, b) = Wend m d b

theorem hfin (d : Dev nD) (s' : Phys nD τ sig (Elt F)) : iprop(FIN m d ∗ SI s') ⊢ (⌜fq m d s'⌝ : sProp 𝕄) := by
  unfold fq
  have one : ∀ j : {b // b ∈ ucRefs}, iprop(FIN m d ∗ SI s') ⊢ (⌜s'.mem.mem (d, j.1) = Wend m d j.1⌝ : sProp 𝕄) := fun j => by
    have h1 : FIN m d ⊢ ((d, j.1) ↦{fullShare} Wend m d j.1 : sProp 𝕄) := bigSep_elim (Φ := fun b => ((d, b) ↦{fullShare} Wend m d b : sProp 𝕄)) j.2
    iintro ⟨HF, HSI⟩
    ihave HF' := h1 $$ HF
    ihave H := (SI_pointsTo_agree (st := s') (ℓ := (d, j.1)) (I := Finset.univ) (q := fullShare) (f := Wend m d j.1)) $$ [HSI HF']
    · isplitl [HSI] <;> iassumption
    icases H with %h2
    ipureintro; exact funext fun i => h2 i (Finset.mem_univ i)
  exact ((Laws.forall_intro one).trans Laws.pure_forall.2).trans (Laws.pure_mono fun all b hb => all ⟨b, hb⟩)

/-- The final memory of the run: on every device the unscoped buffers at the final valuation, the semaphores at zero. -/
def QC : PUnit × MemSt nD τ sig (Elt F) → Prop := fun r => (∀ d : Dev nD, ∀ b ∈ ucRefs, r.2.mem (d, b) = Wend m d b) ∧ r.2.sem = fun _ => 0

/-- From a launch memory whose index list is in range, the program runs to the final valuation. -/
theorem run_main [∀ e, Nonempty (Elt F e)] (hpre : PreOK (idxM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabM m) (idxM m) (outM m)) (A := ∅) facts v₀
    (fun q hq => match q with | 0 => nomatch hq)
    (fun q _ => match q with | 0 => tileObl (tabM m) (idxM m) (outM m) facts hpre)
    (fun q _ => match q with | 0 => SparseCore.Cfg.VecSplit.of_plain (vecSplit (tabM m) (idxM m) (outM m)))
    m ρ main (G (F := F)) (FIN m) (u₀ (F := F)) (sep_elim_left.trans (hu₀ m)) (hmain m ρ) (fq m) (hfin m) (QC m) (fun _ h hz => ⟨h, hz⟩)

/-! ## What the final valuation holds -/

theorem mem_ucRefs (r : Ref sig .tc) (h : r.isScoped = false) : Proc.devRef (τ := τ) .tc r ∈ ucRefs :=
  Finset.mem_filter.mpr ⟨Finset.mem_map_of_mem _ (Finset.mem_univ r), fun h' => Bool.false_ne_true (h.symm.trans h')⟩

theorem W1_arg0 (d : Dev nD) : W1 m d main_arg0 = m ((d : Thread nD τ).loc main_arg0) := by
  unfold W1 hostOps0; after_reads_simp
theorem W1_arg1 (d : Dev nD) : W1 m d main_arg1 = m ((d : Thread nD τ).loc main_arg1) := by
  unfold W1 hostOps0; after_reads_simp
theorem W1_arg2 (d : Dev nD) : W1 m d main_arg2 = m ((d : Thread nD τ).loc main_arg2) := by
  unfold W1 hostOps0; after_reads_simp

/-- A buffer written neither by the SparseCore call nor by the reshape after it. -/
theorem W3_ne (d : Dev nD) (b : Ref sig .tc) (h4 : b ≠ main_v4) (h5 : b ≠ main_v5) : W3 m d b = W1 m d b := by
  unfold W3 hostOps1
  rw [StableHlo.after_cons, StableHlo.after_nil]
  exact (StableHlo.reshape_result_ne (h := h5) ..).trans (Function.update_of_ne (StableHlo.devRef_ne_of_ne h4) ..)

theorem Wend_ne (d : Dev nD) (b : Ref sig .tc) (h4 : b ≠ main_v4) (h5 : b ≠ main_v5) (h6 : b ≠ main_v6) (h7 : b ≠ main_v7) :
    Wend m d b = W1 m d b := by
  unfold Wend hostOps2
  rw [StableHlo.after_cons, StableHlo.after_nil]
  exact (StableHlo.reshape_result_ne (h := h7) ..).trans ((W4_ne m d b h6).trans (W3_ne m d b h4 h5))

/-- The arguments are kept. -/
theorem Wend_arg0 (d : Dev nD) : Wend m d main_arg0 = m ((d : Thread nD τ).loc main_arg0) :=
  (Wend_ne m d main_arg0 (by decide) (by decide) (by decide) (by decide)).trans (W1_arg0 m d)
theorem Wend_arg1 (d : Dev nD) : Wend m d main_arg1 = m ((d : Thread nD τ).loc main_arg1) :=
  (Wend_ne m d main_arg1 (by decide) (by decide) (by decide) (by decide)).trans (W1_arg1 m d)
theorem Wend_arg2 (d : Dev nD) : Wend m d main_arg2 = m ((d : Thread nD τ).loc main_arg2) :=
  (Wend_ne m d main_arg2 (by decide) (by decide) (by decide) (by decide)).trans (W1_arg2 m d)

/-- The table: `Z` beside 64 columns of zeros. -/
abbrev tabVal (z : S4096x64.Idx → F .f32) : FVec F S4096x128 .f32 :=
  concatenate S4096x128 1 [⟨S4096x64, z⟩, ⟨S4096x64, broadcastInDim S4096x64 ![] bcast_S_S4096x64 (constant S_ .f32 0x00000000#32 : FVec F S_ .f32)⟩]
    concatenates_S4096x64_S4096x64_S4096x128_d1
/-- The index list: the first five columns of the neighbour indices, flattened. -/
abbrev idxVal (i8 : S4096x8.Idx → Elt F .i32) : IVec S20480 32 :=
  shapeCast S20480 (extractStridedSlice S4096x5 ![0, 0] i8 slices_S4096x8_S4096x5_0_0) shapeCasts_S4096x5_S20480

/-- What the program leaves as its result. -/
def resVal (z : S4096x64.Idx → F .f32) (i8 : S4096x8.Idx → Elt F .i32) (l : S4096x8.Idx → F .f32) : FVec F S_ .f32 :=
  shapeCast S_ (lossVal z (shapeCast S4096x640 (gathered (F := F) (tabVal z) (idxVal (F := F) i8)) shapeCasts_S20480x128_S4096x640) l) shapeCasts_S1x1_S_

theorem idxM_eq (d : Dev nD) : idxM m d = idxVal (F := F) (m ((d : Thread nD τ).loc main_arg1)) := by
  unfold idxM W1 hostOps0; after_reads_simp; rfl
theorem tabM_eq (d : Dev nD) : tabM m d = tabVal (m ((d : Thread nD τ).loc main_arg0)) := by
  unfold tabM W1 hostOps0; after_reads_simp; rfl
theorem Wend_out (d : Dev nD) : Wend m d main_v7
    = resVal (m ((d : Thread nD τ).loc main_arg0)) (m ((d : Thread nD τ).loc main_arg1)) (m ((d : Thread nD τ).loc main_arg2)) := by
  have h5 : W3 m d main_v5 = shapeCast S4096x640 (gathered (F := F) (tabM m d) (idxM m d)) shapeCasts_S20480x128_S4096x640 := by
    unfold W3 hostOps1; after_reads_simp
    rw [show W2 m d main_v4 = gathered (tabM m d) (idxM m d) from Function.update_self ..]; rfl
  unfold Wend hostOps2; after_reads_simp
  rw [W4_out, h5, W3_ne m d main_arg0 (by decide) (by decide), W3_ne m d main_arg2 (by decide) (by decide), W1_arg0, W1_arg2, tabM_eq, idxM_eq]
  rfl

end Cert.Proof.KernelIdealRun

end
-- ==== Proof.KernelIdealEnd.lean ====
/-
  What the run of `KernelIdeal` leaves, in the words of its claims: the arguments kept, the result `resVal` of the
  arguments, the semaphores at zero.
-/
module

public import proofs.«01_k».proof.Proof.KernelIdealMain

@[expose] public section

noncomputable section

namespace Cert.Proof.KernelIdealRun

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The index list is in range once the first five columns of the neighbour indices are. -/
theorem preOK_of (h : ∀ (d : Dev nD) (j : S4096x5.Idx),
    (extractStridedSlice S4096x5 ![0, 0] (m ((d : Thread nD τ).loc main_arg1)) slices_S4096x8_S4096x5_0_0 j : BitVec 32).toNat < 4096) :
    PreOK (F := F) (idxM m) := fun d j => by
  rw [idxM_eq]; exact h d _

/-- What the run leaves on device `d`: the result, and the arguments kept. -/
theorem QC_reads {r : PUnit × MemSt nD τ sig (Elt F)} (h : QC m r) (d : Dev nD) :
    r.2.mem ((d : Thread nD τ).loc main_v7)
        = resVal (m ((d : Thread nD τ).loc main_arg0)) (m ((d : Thread nD τ).loc main_arg1)) (m ((d : Thread nD τ).loc main_arg2))
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2) :=
  ⟨(h.1 d _ (mem_ucRefs main_v7 rfl)).trans (Wend_out m d), (h.1 d _ (mem_ucRefs main_arg0 rfl)).trans (Wend_arg0 m d),
    (h.1 d _ (mem_ucRefs main_arg1 rfl)).trans (Wend_arg1 m d), (h.1 d _ (mem_ucRefs main_arg2 rfl)).trans (Wend_arg2 m d)⟩

variable [∀ e, Nonempty (Elt F e)]

/-- The run ends with the arguments kept and every semaphore at zero. -/
theorem run_frame (hpre : PreOK (F := F) (idxM m)) :
    θ_run (Cert.KernelIdeal.defs (F := F)) (Cert.KernelIdeal.threads (F := F)) ⟨m, fun _ => 0, ρ⟩ (fun r => (∀ d : Dev nD,
      r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)) ∧ r.2.sem = fun _ => 0) :=
  (θ_run _ _ _).mono (fun _ h => ⟨fun d => (QC_reads m h d).2, h.2⟩) (run_main m ρ hpre)

/-- The run ends with the result computed from the arguments, and the arguments kept. -/
theorem run_value (hpre : PreOK (F := F) (idxM m)) :
    θ_run (Cert.KernelIdeal.defs (F := F)) (Cert.KernelIdeal.threads (F := F)) ⟨m, fun _ => 0, ρ⟩ (fun r => ∀ d : Dev nD,
      r.2.mem ((d : Thread nD τ).loc main_v7)
        = resVal (m ((d : Thread nD τ).loc main_arg0)) (m ((d : Thread nD τ).loc main_arg1)) (m ((d : Thread nD τ).loc main_arg2))
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)) :=
  (θ_run _ _ _).mono (fun _ h d => QC_reads m h d) (run_main m ρ hpre)

end Cert.Proof.KernelIdealRun

end
-- ==== Proof.Lid.lean ====
/-
  The arithmetic of one row: the local dimension as the kernel computes it from the five logarithms, and as the reference
  computes it from the five normalised distances, over the extended reals.
-/
module

public import Idealize.ShloMosaic.Lib.Pointwise
public import Idealize.ShloMosaic.Lib.IdealHost
public import Mathlib.Analysis.SpecialFunctions.Log.Basic

@[expose] public section

noncomputable section

namespace Cert.Proof.Lid

open Idealize.ShloMosaic

/-- A number above zero, possibly infinite. -/
theorem pos_cases {d : EReal} (h : 0 < d) : d = ⊤ ∨ ∃ r : ℝ, 0 < r ∧ d = (r : EReal) := by
  induction d using EReal.rec with
  | bot => exact absurd h (by simp)
  | top => exact .inl rfl
  | coe r => exact .inr ⟨r, by exact_mod_cast h, rfl⟩

theorem div_coe (x : EReal) {n : ℝ} (h : 0 < n) : Ideal.div x (n : EReal) = x * ((n⁻¹ : ℝ) : EReal) := by
  unfold Ideal.div
  rw [if_neg (by exact_mod_cast h.ne'), ← EReal.coe_inv]

theorem top_div {n : ℝ} (h : 0 < n) : Ideal.div ⊤ (n : EReal) = ⊤ := by
  rw [div_coe _ h, EReal.top_mul_coe_of_pos (inv_pos.mpr h)]
theorem bot_div {n : ℝ} (h : 0 < n) : Ideal.div ⊥ (n : EReal) = ⊥ := by
  rw [div_coe _ h, EReal.bot_mul_coe_of_pos (inv_pos.mpr h)]
theorem coe_div (x : ℝ) {n : ℝ} (h : 0 < n) : Ideal.div (x : EReal) (n : EReal) = ((x / n : ℝ) : EReal) := by
  rw [div_coe _ h, ← EReal.coe_mul, div_eq_mul_inv]

theorem log_coe {r : ℝ} (h : 0 < r) : Ideal.log (r : EReal) = (Real.log r : EReal) := by
  show (if r ≤ 0 then ⊥ else (Real.log r : EReal)) = _
  rw [if_neg h.not_ge]

/-- The logarithm of a positive number is a real or `⊤`, and dividing the number by a positive real takes that real's
    logarithm off it. -/
theorem log_cases {d : EReal} (h : 0 < d) {n : ℝ} (hn : 0 < n) :
    (Ideal.log d = ⊤ ∧ Ideal.log (Ideal.div d (n : EReal)) = ⊤)
      ∨ ∃ a : ℝ, Ideal.log d = (a : EReal) ∧ Ideal.log (Ideal.div d (n : EReal)) = ((a - Real.log n : ℝ) : EReal) := by
  rcases pos_cases h with rfl | ⟨r, hr, rfl⟩
  · exact .inl ⟨rfl, by rw [top_div hn]; rfl⟩
  · exact .inr ⟨Real.log r, log_coe hr, by rw [coe_div r hn, log_coe (div_pos hr hn), Real.log_div hr.ne' hn.ne']⟩

/-- The kernel's local dimension of a row from the logarithms of its five distances. -/
def kernelLid (L five : EReal) (a0 a1 a2 a3 a4 : EReal) : EReal :=
  Ideal.div (0 - (a0 + a1 + a2 + a3 + a4 - five * a4)) L

/-- The reference's local dimension of a row from the logarithms of its five normalised distances. -/
def refLid (L : EReal) (b : Fin 5 → EReal) : EReal :=
  -(0 + ∑ j : Fin 5, (Ideal.div (b j) L - Ideal.div (b 4) L))

/-- The two agree on distances above zero and a normaliser above zero and below infinity. -/
theorem kernelLid_eq_refLid {L five n : EReal} (hL : ∃ r : ℝ, 0 < r ∧ L = (r : EReal)) (h5 : five = ((5 : ℝ) : EReal))
    (hn : ∃ r : ℝ, 0 < r ∧ n = (r : EReal)) (d : Fin 5 → EReal) (hd : ∀ j, 0 < d j) :
    kernelLid L five (Ideal.log (d 0)) (Ideal.log (d 1)) (Ideal.log (d 2)) (Ideal.log (d 3)) (Ideal.log (d 4))
      = refLid L (fun j => Ideal.log (Ideal.div (d j) n)) := by
  obtain ⟨L, hL, rfl⟩ := hL
  obtain ⟨n, hn, rfl⟩ := hn
  subst h5
  simp only [kernelLid, refLid, Fin.sum_univ_five]
  rcases log_cases (hd 4) hn with ⟨e4, f4⟩ | ⟨a4, e4, f4⟩ <;>
  rcases log_cases (hd 0) hn with ⟨e0, f0⟩ | ⟨a0, e0, f0⟩ <;>
  rcases log_cases (hd 1) hn with ⟨e1, f1⟩ | ⟨a1, e1, f1⟩ <;>
  rcases log_cases (hd 2) hn with ⟨e2, f2⟩ | ⟨a2, e2, f2⟩ <;>
  rcases log_cases (hd 3) hn with ⟨e3, f3⟩ | ⟨a3, e3, f3⟩ <;>
  simp only [e0, e1, e2, e3, e4, f0, f1, f2, f3, f4, top_div hL, coe_div _ hL, EReal.coe_mul_top_of_pos (show (0 : ℝ) < 5 by norm_num)]
  all_goals first
    | (simp only [sub_eq_add_neg, EReal.neg_top, EReal.neg_bot, EReal.add_bot, EReal.bot_add, EReal.top_add_top, EReal.top_add_coe,
        EReal.coe_add_top, zero_add, ← EReal.coe_neg, ← EReal.coe_add, ← EReal.coe_mul, coe_div _ hL, top_div hL, bot_div hL]
       try (congr 1; field_simp; ring))

end Cert.Proof.Lid

end
-- ==== Proof.KernelRead.lean ====
/-
  The kernel's result read as a formula over the entries of its arguments.
-/
module

public import proofs.«01_k».proof.Proof.KernelIdealEnd
public import proofs.«01_k».proof.Proof.Lid

@[expose] public section

noncomputable section

namespace Cert.Proof.Lid

open Cert.KernelIdeal Cert.KernelIdeal.Gen
open Idealize.ShloMosaic
open Cert.Proof.KernelIdealRun (lossVal colsAt col0 resVal gathered tabVal idxVal)

/-- The distance of row `i` to row `k`, and the floor under it, as both programs compute it before they normalise. -/
def dist (z : S4096x64.Idx → EReal) (i k : Fin 4096) : EReal :=
  Ideal.sqrt (max (∑ x, z (ix2 i x) * z (ix2 i x) + ∑ x, z (ix2 k x) * z (ix2 k x)
      - Ideal.ofBits FTy.f32 0x40000000#32 * ∑ x, z (ix2 i x) * z (ix2 k x)) (Ideal.ofBits FTy.f32 0x2B8CBCCC#32))
    + Ideal.ofBits FTy.f32 0x33D6BF95#32

/-- The row that neighbour `j` of row `i` names. -/
def nb (i8 : S4096x8.Idx → BitVec 32) (i : Fin 4096) (j : Fin 5) : Fin 4096 :=
  ⟨(i8 (ix2 i ⟨j.val, by omega⟩)).toNat % 4096, Nat.mod_lt _ (by decide)⟩

theorem colsAt_apply (k : Fin 2 → ℕ) (h : ∀ a, k a + S4096x64.size a ≤ S4096x640.size a) (g : S4096x640.Idx → EReal)
    (i : Fin 4096) (x : Fin 64) (hk : k 0 = 0) :
    colsAt (F := Ideal) k h g (ix2 i x) = g (ix2 i ⟨k 1 + x.val, (Nat.add_lt_add_left x.isLt _).trans_le (h 1)⟩) := by
  unfold colsAt
  congr 1
  funext a; refine Fin.ext ?_
  match a with
  | ⟨0, _⟩ => show k 0 + 1 * i.val = i.val; omega
  | ⟨1, _⟩ => show k 1 + 1 * x.val = k 1 + x.val; omega

theorem col0_apply (l : S4096x8.Idx → EReal) (i : Fin 4096) (x : Fin 1) : col0 (F := Ideal) l (ix2 i x) = l (ix2 i 0) := by
  unfold col0
  congr 1
  funext a; refine Fin.ext ?_
  match a with
  | ⟨0, _⟩ => show 0 + 1 * i.val = i.val; omega
  | ⟨1, _⟩ => show 0 + 1 * x.val = 0; omega

theorem tabAt_eq (n : ℕ) (c : Fin 128) : KernelIdealRun.tabAt n c = ix2 ⟨n % 4096, Nat.mod_lt _ (by decide)⟩ c := by
  funext a
  match a with
  | ⟨0, _⟩ => rfl
  | ⟨1, _⟩ => rfl
theorem listAt_eq (r : Fin 20480) : KernelIdealRun.listAt r = ix1 r := by
  funext a
  match a with
  | ⟨0, _⟩ => rfl

/-- Columns `128 j` to `128 j + 64` of a row's five gathered rows are the row of `z` that neighbour `j` names. -/
theorem gathered_apply (z : S4096x64.Idx → EReal) (i8 : S4096x8.Idx → BitVec 32) (i : Fin 4096) (j : Fin 5) (x : Fin 64) (h) :
    shapeCast S4096x640 (gathered (F := Ideal) (tabVal (F := Ideal) z) (idxVal (F := Ideal) i8)) shapeCasts_S20480x128_S4096x640
      (ix2 i ⟨128 * j.val + x.val, h⟩) = z (ix2 (nb i8 i j) x) := by
  have e1 : ((128 * j.val + x.val) % 128) = x.val := by omega
  have e2 : (i.val * 5 + (128 * j.val + x.val) / 128) / 5 = i.val := by omega
  have e3 : (i.val * 5 + (128 * j.val + x.val) / 128) % 5 = j.val := by omega
  pointwise [gathered, tabVal, idxVal, tabAt_eq, listAt_eq]
  simp only [e1, e2, e3, dif_pos x.isLt]
  rfl

/-- The loss as a formula, from the local dimensions of X and the neighbours of each row. -/
def lossOf (z : S4096x64.Idx → EReal) (nbr : Fin 4096 → Fin 5 → Fin 4096) (lx : Fin 4096 → EReal) : EReal :=
  Ideal.div (∑ i : Fin 4096,
    (lx i - kernelLid (Ideal.ofBits FTy.f32 0x40135D8E#32) (Ideal.ofBits FTy.f32 0x40A00000#32) (Ideal.log (dist z i (nbr i 0)))
        (Ideal.log (dist z i (nbr i 1))) (Ideal.log (dist z i (nbr i 2))) (Ideal.log (dist z i (nbr i 3))) (Ideal.log (dist z i (nbr i 4))))
      * (lx i - kernelLid (Ideal.ofBits FTy.f32 0x40135D8E#32) (Ideal.ofBits FTy.f32 0x40A00000#32) (Ideal.log (dist z i (nbr i 0)))
        (Ideal.log (dist z i (nbr i 1))) (Ideal.log (dist z i (nbr i 2))) (Ideal.log (dist z i (nbr i 3))) (Ideal.log (dist z i (nbr i 4)))))
    (Ideal.ofBits FTy.f32 0x48480000#32)

set_option maxHeartbeats 1000000 in
/-- The loss call's result, where its second operand holds each row's five neighbours at columns `128 j`. -/
theorem lossVal_apply (z : S4096x64.Idx → EReal) (g : S4096x640.Idx → EReal) (l : S4096x8.Idx → EReal) (nbr : Fin 4096 → Fin 5 → Fin 4096)
    (hg : ∀ i j (x : Fin 64) h, g (ix2 i ⟨128 * j.val + x.val, h⟩) = z (ix2 (nbr i j) x)) :
    lossVal (F := Ideal) z g l (ix2 0 0) = lossOf z nbr fun i => l (ix2 i 0) := by
  have h0 : ∀ i (x : Fin 64) h, g (ix2 i ⟨x.val, h⟩) = z (ix2 (nbr i 0) x) := fun i x h => by rw [← hg i 0 x (by omega)]; simp
  have h1 : ∀ i (x : Fin 64) h, g (ix2 i ⟨128 + x.val, h⟩) = z (ix2 (nbr i 1) x) := fun i x h => hg i 1 x h
  have h2 : ∀ i (x : Fin 64) h, g (ix2 i ⟨256 + x.val, h⟩) = z (ix2 (nbr i 2) x) := fun i x h => hg i 2 x h
  have h3 : ∀ i (x : Fin 64) h, g (ix2 i ⟨384 + x.val, h⟩) = z (ix2 (nbr i 3) x) := fun i x h => hg i 3 x h
  have h4 : ∀ i (x : Fin 64) h, g (ix2 i ⟨512 + x.val, h⟩) = z (ix2 (nbr i 4) x) := fun i x h => hg i 4 x h
  pointwise [lossVal, k1_pay1, k1_pay2, k1_pay3, k1_pay4, k1_pay5, k1_pay6, k1_pay7, k1_pay8, k1_pay9, colsAt_apply, col0_apply]
  simp only [h0, h1, h2, h3, h4]
  unfold lossOf
  congr 1
  refine Finset.sum_congr rfl fun i _ => ?_
  rw [Fin.sum_univ_one]
  rfl

theorem resVal_apply (z : S4096x64.Idx → EReal) (i8 : S4096x8.Idx → BitVec 32) (l : S4096x8.Idx → EReal) (o : S_.Idx) :
    resVal (F := Ideal) z i8 l o = lossOf z (nb i8) fun i => l (ix2 i 0) := by
  unfold resVal
  rw [← lossVal_apply z _ l (nb i8) (gathered_apply z i8)]
  unfold shapeCast
  refine congrArg _ ((eq_ix2 _).trans ?_)
  congr 1 <;> exact Subsingleton.elim _ _

end Cert.Proof.Lid

end
-- ==== Proof.Spread.lean ====
/-
  What the second precondition says of the arguments: every neighbour index of the first five columns names a row, and
  the normaliser of the distances is positive and below infinity.
-/
module

public import proofs.«01_k».proof.Proof.Range
public import proofs.«01_k».proof.Proof.Gen.Pre_neighbours_in_range_and_spread

@[expose] public section

noncomputable section

namespace Cert.Proof.Range

open Idealize.ShloMosaic

variable {F : FTy → Type} [FloatOps F]

open Cert.Pre_neighbours_in_range_and_spread Facts

/-- The normaliser of the distances, as the second precondition states it. -/
def spreadVal [Facts] (a0 : FVec F S4096x64 .f32) : FVec F S_ .f32 :=
  let mean : FVec F S64 .f32 := Host.divf (Host.reduceAdd a0 (constant S_ .f32 0x00000000#32) reducesTo_S4096x64_S64_d0 h_S_)
    (broadcastInDim S64 ![] bcast_S_S64 (constant S_ .f32 0x45800000#32 : FVec F S_ .f32))
  let dev : FVec F S4096x64 .f32 := subf a0 (broadcastInDim S4096x64 ![0, 1] bcast_S1x64_S4096x64_0_1 (broadcastInDim S1x64 ![1] bcast_S64_S1x64_1 mean))
  fn_quantile (Host.sqrt (Host.reduceAdd (mulf dev dev) (constant S_ .f32 0x00000000#32) reducesTo_S4096x64_S4096_d1 h_S_)) (constant S_ .f32 0x3F7AE148#32)

theorem fn_eq [Facts] (a0 : FVec F S4096x64 .f32) (a1 : IVec S4096x8 32) (a2 : FVec F S4096x8 .f32) :
    fn a0 a1 a2 = fn_part1 (spreadVal a0) (andi
      (cmpi .sge (extractStridedSlice S4096x5 ![0, 0] a1 slices_S4096x8_S4096x5_0_0) (broadcastInDim S4096x5 ![] bcast_S_S4096x5 (constantI S_ 32 0#32)))
      (cmpi .slt (extractStridedSlice S4096x5 ![0, 0] a1 slices_S4096x8_S4096x5_0_0) (broadcastInDim S4096x5 ![] bcast_S_S4096x5 (constantI S_ 32 4096#32))))
      (constant S_ .f32 0x00000000#32) := rfl

/-- Under the second precondition the neighbour indices are in range, and the normaliser is positive and below infinity. -/
theorem of_spread [Facts] (a0 : FVec F S4096x64 .f32) (a1 : IVec S4096x8 32) (a2 : FVec F S4096x8 .f32) (h : fn a0 a1 a2 = fun _ => 1#1) :
    (∀ j : S4096x5.Idx, (extractStridedSlice S4096x5 ![0, 0] a1 slices_S4096x8_S4096x5_0_0 j).toNat < 4096)
      ∧ (∀ i : S_.Idx, cmpf (F := F) .ogt (spreadVal a0) (constant S_ .f32 0x00000000#32) i = 1#1)
      ∧ ∀ i : S_.Idx, cmpf (F := F) .olt (spreadVal a0) (constant S_ .f32 0x7F800000#32) i = 1#1 := by
  rw [fn_eq] at h
  have e : ∀ j : S4096x5.Idx, _ := fun j => congrFun h j
  simp only [fn_part1, andi, andi_eq_one] at e
  refine ⟨fun j => word_lt _ (e j).1.1.1 (e j).1.1.2, fun i => ?_, fun i => ?_⟩
  · have := (e (fun d => ⟨0, by fin_cases d <;> decide⟩)).1.2
    rw [broadcastInDim] at this
    rwa [show i = _ from Subsingleton.elim _ _]
  · have := (e (fun d => ⟨0, by fin_cases d <;> decide⟩)).2
    rw [broadcastInDim] at this
    rwa [show i = _ from Subsingleton.elim _ _]

end Cert.Proof.Range

end
-- ==== Proof.ReferenceRead.lean ====
/-
  The reference's result: its composed term split at the normaliser of the distances, and the rest read as a formula over
  the entries of its arguments.
-/
module

public import proofs.«01_k».proof.Proof.Gen.ReferenceIdeal.Run
public import proofs.«01_k».proof.Proof.Spread
public import Idealize.ShloMosaic.Lib.Tactic.WordOmega
public import proofs.«01_k».proof.Proof.KernelRead

@[expose] public section

noncomputable section

namespace Cert.Proof.RefRead

open Cert.ReferenceIdeal Cert.ReferenceIdeal.Gen
open Idealize.ShloMosaic
open Idealize.ShloMosaic.TcCoe

/-- The pair of start indices of each gathered distance: the row, and the row its neighbour index names. -/
def starts (i8 : IVec S4096x8 32) : IVec S4096x5x2 32 :=
  let rows : IVec S4096x5 32 := broadcastInDim S4096x5 ![0, 1] bcast_S4096x1_S4096x5_0_1 (broadcastInDim S4096x1 ![0] bcast_S4096_S4096x1_0 (iotaInDim S4096 32 0))
  let idx : IVec S4096x5 32 := extractStridedSlice S4096x5 ![0, 0] i8 slices_S4096x8_S4096x5_0_0
  let zero : IVec S4096x5 32 := broadcastInDim S4096x5 ![] bcast_S_S4096x5 (constantI S_ 32 0#32)
  let many : IVec S4096x5 32 := broadcastInDim S4096x5 ![] bcast_S_S4096x5 (constantI S_ 32 4096#32)
  concatenate S4096x5x2 2 [⟨S4096x5x1, broadcastInDim S4096x5x1 ![0, 1] bcast_S4096x5_S4096x5x1_0_1 (select (cmpi .slt rows zero) (addi rows many) rows)⟩,
    ⟨S4096x5x1, broadcastInDim S4096x5x1 ![0, 1] bcast_S4096x5_S4096x5x1_0_1 (select (cmpi .slt idx zero) (addi idx many) idx)⟩]
    concatenates_S4096x5x1_S4096x5x1_S4096x5x2_d2

/-- The normalised distances of all pairs of rows. -/
def dists (z : FVec Ideal S4096x64 .f32) (n : FVec Ideal S_ .f32) : FVec Ideal S4096x4096 .f32 :=
  let sq : FVec Ideal S4096 .f32 := Host.reduceAdd (mulf z z) (constant S_ .f32 0x00000000#32) reducesTo_S4096x64_S4096_d1 h_S_
  Host.divf (addf (Host.sqrt (maximumf (subf (addf (broadcastInDim S4096x4096 ![0, 1] bcast_S4096x1_S4096x4096_0_1 (broadcastInDim S4096x1 ![0] bcast_S4096_S4096x1_0 sq))
      (broadcastInDim S4096x4096 ![0, 1] bcast_S1x4096_S4096x4096_0_1 (broadcastInDim S1x4096 ![1] bcast_S4096_S1x4096_1 sq)))
      (mulf (broadcastInDim S4096x4096 ![] bcast_S_S4096x4096 (constant S_ .f32 0x40000000#32))
        (Host.dotGeneral dot_S4096x64_S64x4096_S4096x4096_1_0_0_1_n_n none z (transpose S64x4096 [1, 0] z transposes_S4096x64_S64x4096_1_0))))
      (broadcastInDim S4096x4096 ![] bcast_S_S4096x4096 (constant S_ .f32 0x2B8CBCCC#32))))
    (broadcastInDim S4096x4096 ![] bcast_S_S4096x4096 (constant S_ .f32 0x33D6BF95#32)))
    (broadcastInDim S4096x4096 ![] bcast_S_S4096x4096 n)

/-- The loss from each row's five gathered distances and the local dimensions of X. -/
def tail (e : FVec Ideal S4096x5 .f32) (l : FVec Ideal S4096x8 .f32) : FVec Ideal S_ .f32 :=
  let diff : FVec Ideal S4096 .f32 := subf (shapeCast _ (extractStridedSlice S4096x1 ![0, 0] l slices_S4096x8_S4096x1_0_0) shapeCasts_S4096x1_S4096)
    (Host.negf (Host.reduceAdd (subf (Host.divf (Host.log e) (broadcastInDim S4096x5 ![] bcast_S_S4096x5 (constant S_ .f32 0x40135D8E#32)))
      (broadcastInDim S4096x5 ![0, 1] bcast_S4096x1_S4096x5_0_1 (Host.divf (Host.log (extractStridedSlice S4096x1 ![0, 4] e slices_S4096x5_S4096x1_0_4))
        (broadcastInDim S4096x1 ![] bcast_S_S4096x1 (constant S_ .f32 0x40135D8E#32)))))
      (constant S_ .f32 0x00000000#32) reducesTo_S4096x5_S4096_d1 h_S_))
  Host.divf (Host.reduceAdd (mulf diff diff) (constant S_ .f32 0x00000000#32) reducesTo_S4096_S_d0 h_S_) (constant S_ .f32 0x48480000#32)

set_option maxRecDepth 8192 in
/-- The reference's composed term is those parts, its normaliser the one the precondition speaks of. -/
theorem res_eq (m : (ℓ : Loc nD τ sig) → Buf (Elt Ideal) ℓ) (c : Dev nD) : Cert.ReferenceIdeal.Value.res_main_v65 m c
    = tail (Host.gather gather_S4096x4096_S4096x5x2_S4096x5_n_01_n_n_01_2_11
        (dists (m ((c : Thread nD τ).loc main_arg0)) (Range.spreadVal (F := Ideal) (m ((c : Thread nD τ).loc main_arg0))))
        (starts (m ((c : Thread nD τ).loc main_arg1)))) (m ((c : Thread nD τ).loc main_arg2)) := by
  unfold Cert.ReferenceIdeal.Value.res_main_v65
  rfl

/-- An entry of the normalised distances. -/
theorem dists_apply (z : FVec Ideal S4096x64 .f32) (n : FVec Ideal S_ .f32) (i k : Fin 4096) :
    dists z n (ix2 i k) = Ideal.div (Lid.dist z i k) (n ix0) := by
  pointwise [dists]
  rfl

theorem starts_row (i8 : IVec S4096x8 32) (i : Fin 4096) (j : Fin 5) : (starts i8 (ix3 i j 0)).toInt.toNat = i.val := by
  pointwise [starts]
  have := i.isLt
  word_omega

theorem starts_col (i8 : IVec S4096x8 32) (i : Fin 4096) (j : Fin 5) (h : (i8 (ix2 i ⟨j.val, by omega⟩)).toNat < 4096) :
    (starts i8 (ix3 i j 1)).toInt.toNat = (i8 (ix2 i ⟨j.val, by omega⟩)).toNat := by
  pointwise [starts]
  word_omega

/-- The gather takes, for row `i` and neighbour `j`, the entry its pair of start indices names, where they are in range. -/
theorem gather_apply (x : FVec Ideal S4096x4096 .f32) (idx : IVec S4096x5x2 32) (i : Fin 4096) (j : Fin 5) (r c : Fin 4096)
    (hr : (idx (ix3 i j 0)).toInt.toNat = r.val) (hc : (idx (ix3 i j 1)).toInt.toNat = c.val) :
    Host.gather gather_S4096x4096_S4096x5x2_S4096x5_n_01_n_n_01_2_11 x idx (ix2 i j) = x (ix2 r c) := by
  have side (a : Fin 2) : gather_S4096x4096_S4096x5x2_S4096x5_n_01_n_n_01_2_11.batchCoord (ix2 i j) a = 0
      ∧ gather_S4096x4096_S4096x5x2_S4096x5_n_01_n_n_01_2_11.offCoord (ix2 i j) a = 0 :=
    ⟨GatherDims.batchCoord_eq_zero _ _ _ List.not_mem_nil,
      GatherDims.offCoord_eq_zero _ _ _ fun h => ((GatherDims.mem_sKept _ _).mp h).1 (show a ∈ [0, 1] by fin_cases a <;> decide)⟩
  have pos (b : Fin 2) (hb : b ∈ gather_S4096x4096_S4096x5x2_S4096x5_n_01_n_n_01_2_11.startIndexMap) :
      gather_S4096x4096_S4096x5x2_S4096x5_n_01_n_n_01_2_11.siIdx (ix2 i j)
        ⟨List.idxOf b gather_S4096x4096_S4096x5x2_S4096x5_n_01_n_n_01_2_11.startIndexMap, List.idxOf_lt_length_iff.2 hb⟩ = ix3 i j b := by
    funext e; refine Fin.ext ?_
    fin_cases b <;> match e with
    | ⟨0, _⟩ => rfl
    | ⟨1, _⟩ => rfl
    | ⟨2, _⟩ => rfl
  have st (b : Fin 2) (v : Fin 4096) (hv : (idx (ix3 i j b)).toInt.toNat = v.val) :
      gather_S4096x4096_S4096x5x2_S4096x5_n_01_n_n_01_2_11.start (ix2 i j) idx b = v.val := by
    unfold GatherDims.start
    have hb : b ∈ gather_S4096x4096_S4096x5x2_S4096x5_n_01_n_n_01_2_11.startIndexMap := (show b ∈ [0, 1] by fin_cases b <;> decide)
    rw [dif_pos hb, pos b hb, hv]
    have := v.isLt
    fin_cases b <;> exact min_eq_left (show v.val ≤ 4096 - 1 by omega)
  unfold Host.gather
  congr 1
  funext a; refine Fin.ext ?_
  show gather_S4096x4096_S4096x5x2_S4096x5_n_01_n_n_01_2_11.start (ix2 i j) idx a
    + gather_S4096x4096_S4096x5x2_S4096x5_n_01_n_n_01_2_11.batchCoord (ix2 i j) a
    + gather_S4096x4096_S4096x5x2_S4096x5_n_01_n_n_01_2_11.offCoord (ix2 i j) a = _
  rw [(side a).1, (side a).2]
  match a with
  | ⟨0, _⟩ => exact st 0 r hr
  | ⟨1, _⟩ => exact st 1 c hc

/-- The loss from the rows' gathered distances, as a formula. -/
theorem tail_apply (e : FVec Ideal S4096x5 .f32) (l : FVec Ideal S4096x8 .f32) (o : S_.Idx) :
    tail e l o = Ideal.div (∑ i : Fin 4096,
      (l (ix2 i 0) - Lid.refLid (Ideal.ofBits FTy.f32 0x40135D8E#32) fun j => Ideal.log (e (ix2 i j)))
        * (l (ix2 i 0) - Lid.refLid (Ideal.ofBits FTy.f32 0x40135D8E#32) fun j => Ideal.log (e (ix2 i j))))
      (Ideal.ofBits FTy.f32 0x48480000#32) := by
  pointwise [tail, Lid.refLid]

/-! ## The constants -/

/-- A word with a clear sign bit and an exponent field neither empty nor full denotes a positive real. -/
theorem ofBits_normal (b : BitVec 32) (x f : ℕ) (hs : b.extractLsb' 31 1 = 0#1) (hx : (b.extractLsb' 23 8).toNat = x)
    (hf : (b.extractLsb' 0 23).toNat = f) (h0 : x ≠ 0) (h1 : x ≠ 255) :
    Ideal.ofBits FTy.f32 b = (((2 ^ 23 + f : ℕ) * (2 : ℝ) ^ ((x : ℤ) - 127 - 23) : ℝ) : EReal) := by
  show Ideal.ieee 8 23 b = _
  unfold Ideal.ieee
  simp only [show 8 + 23 = 31 from rfl, hs, hx, hf]
  rw [if_neg (by omega), if_neg h0]
  norm_num

theorem ofBits_pos (b : BitVec 32) (hs : b.extractLsb' 31 1 = 0#1) (h0 : (b.extractLsb' 23 8).toNat ≠ 0)
    (h1 : (b.extractLsb' 23 8).toNat ≠ 255) : ∃ r : ℝ, 0 < r ∧ Ideal.ofBits FTy.f32 b = (r : EReal) :=
  ⟨_, by positivity, ofBits_normal b _ _ hs rfl rfl h0 h1⟩

theorem ln10_pos : ∃ r : ℝ, 0 < r ∧ Ideal.ofBits FTy.f32 0x40135D8E#32 = (r : EReal) :=
  ofBits_pos _ (by decide) (by decide) (by decide)
theorem five_eq : Ideal.ofBits FTy.f32 0x40A00000#32 = ((5 : ℝ) : EReal) := by
  rw [ofBits_normal _ 129 2097152 (by decide) (by decide) (by decide) (by decide) (by decide)]
  norm_num
theorem floor_pos : 0 < Ideal.ofBits FTy.f32 0x33D6BF95#32 := by
  obtain ⟨r, hr, e⟩ := ofBits_pos 0x33D6BF95#32 (by decide) (by decide) (by decide)
  rw [e]; exact_mod_cast hr
theorem under_pos : 0 < Ideal.ofBits FTy.f32 0x2B8CBCCC#32 := by
  obtain ⟨r, hr, e⟩ := ofBits_pos 0x2B8CBCCC#32 (by decide) (by decide) (by decide)
  rw [e]; exact_mod_cast hr
theorem top_eq : Ideal.ofBits FTy.f32 0x7F800000#32 = ⊤ := by
  show Ideal.ieee 8 23 (0x7F800000#32 : BitVec 32) = ⊤
  unfold Ideal.ieee
  simp only [show (BitVec.extractLsb' (8 + 23) 1 0x7F800000#32 == 1#1) = false from by decide,
    show (BitVec.extractLsb' 23 8 0x7F800000#32).toNat = 255 from by decide, show (BitVec.extractLsb' 0 23 0x7F800000#32).toNat = 0 from by decide]
  norm_num

theorem sqrt_nonneg {x : EReal} (h : 0 < x) : 0 ≤ Ideal.sqrt x := by
  rcases Lid.pos_cases h with rfl | ⟨r, hr, rfl⟩
  · exact le_top
  · show (0 : EReal) ≤ (if r < 0 then ⊥ else (Real.sqrt r : EReal))
    rw [if_neg hr.not_gt]
    exact_mod_cast Real.sqrt_nonneg r

/-- A distance is above zero, whatever the rows hold. -/
theorem dist_pos (z : S4096x64.Idx → EReal) (i k : Fin 4096) : 0 < Lid.dist z i k :=
  lt_of_lt_of_le floor_pos (le_add_of_nonneg_left (sqrt_nonneg (lt_max_of_lt_right under_pos)))

/-- A normaliser above zero and below infinity is a positive real. -/
theorem real_of (n : FVec Ideal S_ .f32) (h0 : ∀ i, cmpf (F := Ideal) .ogt n (constant S_ .f32 0x00000000#32) i = 1#1)
    (h1 : ∀ i, cmpf (F := Ideal) .olt n (constant S_ .f32 0x7F800000#32) i = 1#1) : ∃ r : ℝ, 0 < r ∧ n ix0 = (r : EReal) := by
  have bit (p : Prop) [Decidable p] (h : BitVec.ofBool (decide p) = 1#1) : p := by
    by_contra hp
    rw [decide_eq_false hp] at h
    exact absurd h (by decide)
  have a : 0 < n ix0 := by
    have := h0 ix0
    pointwise at this
    exact bit _ this
  have b : n ix0 < ⊤ := by
    have : BitVec.ofBool (decide (n ix0 < Ideal.ofBits FTy.f32 0x7F800000#32)) = 1#1 := h1 ix0
    rw [top_eq] at this
    exact bit _ this
  rcases Lid.pos_cases a with e | e
  · exact absurd (e ▸ b) (lt_irrefl _)
  · exact e

/-- Where the indices name rows and the normaliser is a positive real, the reference's result is the loss the kernel
    computes from the distances it does not normalise. -/
theorem res_apply (z : FVec Ideal S4096x64 .f32) (i8 : IVec S4096x8 32) (l : FVec Ideal S4096x8 .f32) (n : FVec Ideal S_ .f32)
    (hi : ∀ i (j : Fin 5), (i8 (ix2 i ⟨j.val, by omega⟩)).toNat < 4096) (hn : ∃ r : ℝ, 0 < r ∧ n ix0 = (r : EReal)) (o : S_.Idx) :
    tail (Host.gather gather_S4096x4096_S4096x5x2_S4096x5_n_01_n_n_01_2_11 (dists z n) (starts i8)) l o
      = Lid.lossOf z (Lid.nb i8) fun i => l (ix2 i 0) := by
  rw [tail_apply]
  have g (i : Fin 4096) (j : Fin 5) : Host.gather gather_S4096x4096_S4096x5x2_S4096x5_n_01_n_n_01_2_11 (dists z n) (starts i8) (ix2 i j)
      = Ideal.div (Lid.dist z i (Lid.nb i8 i j)) (n ix0) := by
    rw [gather_apply _ _ i j i (Lid.nb i8 i j) (starts_row i8 i j)
      ((starts_col i8 i j (hi i j)).trans (Nat.mod_eq_of_lt (hi i j)).symm), dists_apply]
  simp only [g]
  have k (i : Fin 4096) := Lid.kernelLid_eq_refLid ln10_pos five_eq hn (fun j => Lid.dist z i (Lid.nb i8 i j)) fun j => dist_pos z i _
  simp only [← k]
  rfl

end Cert.Proof.RefRead

end
-- ==== Proof.WholeTile.lean ====
/-
  The SparseCore call of `WholeIdeal`: 32 tasks (2 SparseCores, 16 vector subcores each). Task number `w = 2 * subcore + core`
  fetches words `640 w …` of the index list into its index scratch, gathers the 640 table rows they name into its row
  scratch by five indirect gathers of 128 rows, all outstanding on one DMA semaphore and then waited for five times, and
  copies the rows out to rows `640 w …` of the result. Stated with the VALUES: the result's row `r` is the table's row
  `idx r`.
-/
module

public import proofs.«01_k».proof.Proof.GatherBatch
public import proofs.«01_k».proof.Proof.Gen.WholeIdeal
public import proofs.«01_k».proof.Proof.Gen.WholeIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.WholeRun

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds library: inside the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The buffers the call addresses -/

abbrev tLoc (d : Dev nD) : Loc nD τ sig := (SparseCore.T d).loc main_v4
abbrev iLoc (d : Dev nD) : Loc nD τ sig := (SparseCore.T d).loc main_v2
abbrev oLoc (d : Dev nD) : Loc nD τ sig := (SparseCore.T d).loc main_v5

abbrev iV : Memref sig .scVector .hbm S20480 .i32 := Memref.whole main_v2_scv
abbrev xV : Memref sig .scVector .hbm S4096x128 .f32 := Memref.whole main_v4_scv
abbrev oV : Memref sig .scVector .hbm S20480x128 .f32 := Memref.whole main_v5_scv
abbrev sV : Memref sig .scVector .vmem S640 .i32 := Memref.whole cc1_scratch0
abbrev rV : Memref sig .scVector .vmem S640x128 .f32 := Memref.whole cc1_scratch1

theorem idiv : 32 ∣ S20480.size 0 := ⟨640, rfl⟩
theorem odiv : 32 ∣ S20480x128.size 0 := ⟨640, rfl⟩
abbrev irow (w : Fin 32) : Rect S20480 := Rect.part (s := S20480) (a₀ := 0) idiv w
abbrev orow (w : Fin 32) : Rect S20480x128 := Rect.part (s := S20480x128) (a₀ := 0) odiv w
abbrev iRowSet (w : Fin 32) : Finset S20480.Idx := ((iV).view.slice (irow w)).set
abbrev oRowSet (w : Fin 32) : Finset S20480x128.Idx := ((oV).view.slice (orow w)).set

/-- The task number of subcore `i` of SparseCore `c`. -/
abbrev wid (c : Fin 2) (i : Fin 16) : Fin 32 := ⟨2 * i.val + c.val, by omega⟩

/-- Task `w`'s share of the table. -/
abbrev xq (w : Fin 32) : PosShare TreeShare := pieceOf fullShare 32 (by decide) w

/-- The table's element at row `n` (of 4096) and column `c`. -/
def tabAt (n : ℕ) (c : Fin 128) : S4096x128.Idx := fun
  | 0 => ⟨n % 4096, Nat.mod_lt _ (by decide)⟩
  | 1 => ⟨c.val, c.isLt⟩
  | ⟨_ + 2, h⟩ => absurd h (Nat.not_lt.2 (Nat.le_add_left _ _))

/-- The index list's element `r`. -/
def listAt (r : Fin 20480) : S20480.Idx := fun
  | 0 => r
  | ⟨_ + 1, h⟩ => absurd h (Nat.not_lt.2 (Nat.le_add_left _ _))

/-- What the call computes: row `r` is the row of the table that word `r` of the index list names. -/
def gathered (tab : S4096x128.Idx → Elt F .f32) (idx : S20480.Idx → Elt F .i32) : S20480x128.Idx → Elt F .f32 :=
  fun x => tab (tabAt (idx (listAt (x 0))).toNat (x 1))

variable (tab : (d : Dev nD) → Buf (Elt F) (tLoc d)) (idx : (d : Dev nD) → Buf (Elt F) (iLoc d)) (o0 : (d : Dev nD) → Buf (Elt F) (oLoc d))

abbrev iPts (d : Dev nD) : sProp 𝕄 := iLoc d ↦{fullShare} idx d
abbrev xPts (d : Dev nD) : sProp 𝕄 := tLoc d ↦{fullShare} tab d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} idx d
abbrev xShPts (d : Dev nD) (w : Fin 32) : sProp 𝕄 := tLoc d ↦{xq w} tab d
abbrev oRowPts (d : Dev nD) (w : Fin 32) (f : Buf (Elt F) (oLoc d)) : sProp 𝕄 := oLoc d ↦[oRowSet w]{fullShare} f

/-- What task `w` is handed: its words of the index list, its share of the table, its rows of the result. -/
abbrev goW (d : Dev nD) (w : Fin 32) : sProp 𝕄 := iprop(iRowPts idx d w ∗ xShPts tab d w ∗ oRowPts d w (o0 d))
/-- What it brings back: the same, its rows of the result holding the gathered rows. -/
abbrev tdW (d : Dev nD) (w : Fin 32) : sProp 𝕄 := iprop(iRowPts idx d w ∗ xShPts tab d w ∗ oRowPts d w (gathered (tab d) (idx d)))

/-- The number of the task of a call's core and subcore. -/
abbrev widK (c : Fin ((K (F := F)).nCore 0)) (i : Fin ((K (F := F)).nSub 0)) : Fin 32 := wid (Fin.cast nCore_zero c) (Fin.cast nSub_zero i)

/-- The call hands each SparseCore its sixteen tasks' resources and takes them back. -/
def P : (K (F := F)).Pay (nD := nD) (Val := Elt F) (Name := ℕ) (U := UU) where
  st := fun q d c => match q with | 0 => bigSep Finset.univ fun i => goW tab idx o0 d (widK (F := F) c i)
  dn := fun q d c => match q with | 0 => bigSep Finset.univ fun i => tdW tab idx d (widK (F := F) c i)
  go := fun q d c i => match q with | 0 => goW tab idx o0 d (widK (F := F) c i)
  td := fun q d c i => match q with | 0 => tdW tab idx d (widK (F := F) c i)
  x := fun _ _ => iprop(emp)

instance P_storable : (P (F := F) tab idx o0).IsStorable where
  st q d c := match q with
    | 0 => (inferInstance : BI.Storable (upEmb : UEmb _ 𝕄) (bigSep Finset.univ fun i => goW tab idx o0 d (widK (F := F) c i)))
  dn q d c := match q with
    | 0 => (inferInstance : BI.Storable (upEmb : UEmb _ 𝕄) (bigSep Finset.univ fun i => tdW tab idx d (widK (F := F) c i)))
  go q d c i := match q with
    | 0 => (inferInstance : BI.Storable (upEmb : UEmb _ 𝕄) (goW tab idx o0 d (widK (F := F) c i)))
  td q d c i := match q with
    | 0 => (inferInstance : BI.Storable (upEmb : UEmb _ 𝕄) (tdW tab idx d (widK (F := F) c i)))

/-- Every word of the index list names a row of the table. -/
def PreOK : Prop := ∀ (d : Dev nD) (j : S20480.Idx), (idx d j : BitVec 32).toNat < 4096

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's number. -/
abbrev wL (L : grid1.Coords) : Fin 32 := wid (L 0) (L 1)

abbrev irowK (L : grid1.Coords) : Rect S20480 := Rect.unit (s := S20480) (k1_off1 L) S640.size (k1_off1_inb L)
abbrev orowK (L : grid1.Coords) : Rect S20480x128 := Rect.unit (s := S20480x128) (k1_off2 L) S640x128.size (k1_off2_inb L)
/-- The task's words of the index list, its rows of the result and all of the table, as it addresses them. -/
abbrev iRowK (L : grid1.Coords) : Memref sig .scVector .hbm S640 .i32 := (iV).slice (irowK L) (fun _ => rfl)
abbrev oRowK (L : grid1.Coords) : Memref sig .scVector .hbm S640x128 .f32 := (oV).slice (orowK L) (fun _ => rfl)
abbrev xAllK : Memref sig .scVector .hbm S4096x128 .f32 := (xV).slice (Rect.unit (s := S4096x128) ![0, 0] S4096x128.size inb_S4096x128_S4096x128_0_0) (fun _ => rfl)

theorem irowK_eq : irowK L = irow (wL L) := by
  unfold irowK irow Rect.part Rect.block
  congr 1 <;> funext a
  · rw [k1_off1_eq]
    match a with
    | 0 => simp [Shape.partIx, Shape.partSize, Fin.val_cast]; omega
  · match a with
    | 0 => simp [Shape.partSize]
theorem orowK_eq : orowK L = orow (wL L) := by
  unfold orowK orow Rect.part Rect.block
  congr 1 <;> funext a
  · rw [k1_off2_eq]
    match a with
    | 0 => simp [Shape.partIx, Shape.partSize, Fin.val_cast]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (tLoc d)) :
    ((xV).view.loc (V d (cV L) (jV L)) ↦{q} f : sProp 𝕄) = tLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The rows of the row scratch, the entries of the index scratch, the pieces of the table's share -/

/-- Rows `[b, b + 128)` of the row scratch and words `[b, b + 128)` of the index scratch, as a gather addresses them. -/
abbrev rWin (b : ℕ) (hb : ∀ a, (![b, 0] : Fin 2 → ℕ) a + S128x128.size a ≤ S640x128.size a) : Memref sig .scVector .vmem S128x128 .f32 :=
  (rV).slice (Rect.unit (s := S640x128) ![b, 0] S128x128.size hb) (fun _ => rfl)
abbrev sWin (b : ℕ) (hb : ∀ a, (![b] : Fin 1 → ℕ) a + S128.size a ≤ S640.size a) : Memref sig .scVector .vmem S128 .i32 :=
  (sV).slice (Rect.unit (s := S640) ![b] S128.size hb) (fun _ => rfl)

/-- Row `t` of the row scratch. -/
abbrev rRow (t : Fin 640) : Finset S640x128.Idx := (((rV).view).slice (S640x128.rowRect 0 t)).set
/-- Word `t` of the index scratch. -/
def sIx (t : Fin 640) : S640.Idx := fun
  | 0 => t
  | ⟨_ + 1, h⟩ => absurd h (Nat.not_lt.2 (Nat.le_add_left _ _))

/-- What the row scratch holds after the gathers, the index scratch holding `fl`. -/
def landedRows (tb : S4096x128.Idx → Elt F .f32) (fl : S640.Idx → Elt F .i32) : S640x128.Idx → Elt F .f32 :=
  fun x => tb (tabAt (fl (sIx (x 0)) : BitVec 32).toNat (x 1))

variable (qx : PosShare TreeShare) (tb : Buf (Elt F) (tLoc d)) (fl : Buf (Elt F) ((sV).view.loc (V d (cV L) (jV L)))) (fr : Buf (Elt F) ((rV).view.loc (V d (cV L) (jV L))))

/-- Row `t`'s resources before its gather: the row, the word naming its source, a share of the table. -/
abbrev rowPre (t : Fin 640) : sProp 𝕄 :=
  iprop(((rV).view.loc (V d (cV L) (jV L)) ↦[rRow t]{fullShare} fr) ∗ ((sV).view.loc (V d (cV L) (jV L)) ↦[{sIx t}]{fullShare} fl)
    ∗ ((xV).view.loc (V d (cV L) (jV L)) ↦{pieceOf qx 640 (by decide) t} tb))
/-- Row `t`'s resources after it: the row holding the table's row. -/
abbrev rowPost (t : Fin 640) : sProp 𝕄 := rowPre (F := F) d L qx tb fl (landedRows tb fl) t

/-- What one row's transfer credits. -/
abbrev rowCredit : ℕ := ((rV).slice (S640x128.rowRect 0 ⟨0, by decide⟩) (S640x128.stride_rowRect 0 _)).view.dmaCredit

/-- A batch of 640 rows: what the task holds of its five gathers, `j` rows issued and `u` units waited for. -/
abbrev RowBatch (j u : ℕ) : sProp 𝕄 :=
  Transfers.Batch countersEmb (V d (cV L) (jV L)) (.dma cc1_scratch2.sem) (default : HIx 1) rowCredit
    (rowPost (F := F) d L qx tb fl) j u

theorem set_xAllK : (xAllK).view.set = Finset.univ := by
  show ((xV).view.slice _).set = _
  rw [View.set_slice, show (Rect.unit (s := S4096x128) ![0, 0] S4096x128.size inb_S4096x128_S4096x128_0_0).set = Finset.univ from ?_]
  · exact View.set_whole _
  · ext i
    simp only [Finset.mem_univ, iff_true, Rect.mem_set_unit]
    intro a
    match a with
    | 0 => exact ⟨Nat.zero_le _, by simpa using (i 0).isLt⟩
    | 1 => exact ⟨Nat.zero_le _, by simpa using (i 1).isLt⟩

/-- An index is on row `k` along an axis when its coordinate there is `k`. -/
theorem mem_rowRect {s : Shape} (a : Fin s.rank) (k : Fin (s.size a)) (x : s.Idx) : x ∈ (s.rowRect a k).set ↔ x a = k := by
  refine Iff.trans (b := ∀ b, ∃ j < (if b = a then 1 else s.size b), (x b : ℕ) = (if b = a then k.val else 0) + 1 * j) (LoadRect.mem_set _) ?_
  constructor
  · intro h
    obtain ⟨j, hj, he⟩ := h a
    rw [if_pos rfl] at hj he
    exact Fin.ext (by omega)
  · intro h b
    by_cases hb : b = a
    · subst hb; exact ⟨0, by rw [if_pos rfl]; exact Nat.one_pos, by rw [if_pos rfl, h]; rfl⟩
    · exact ⟨(x b).val, by rw [if_neg hb]; exact (x b).isLt, by rw [if_neg hb]; omega⟩

theorem mem_rRow (x : S640x128.Idx) (t : Fin 640) : x ∈ rRow t ↔ x 0 = t := by
  rw [show rRow t = (S640x128.rowRect 0 t).set from View.set_slice_whole _ _]
  exact mem_rowRect (s := S640x128) 0 t x

/-- Where element `j` of the window's row `i` lies in the row scratch. -/
theorem rWin_emb (b : ℕ) (hb : ∀ a, (![b, 0] : Fin 2 → ℕ) a + S128x128.size a ≤ S640x128.size a) (y : S128x128.Idx) (a : Fin 2) :
    ((rWin b hb).view.emb y a).val = (![b, 0] : Fin 2 → ℕ) a + (y a).val := by
  show (((Rect.unit (s := S640x128) ![b, 0] S128x128.size hb).emb y) a).val = _
  rw [Rect.emb_apply]; show _ + 1 * _ = _; rw [Nat.one_mul]; rfl

/-- Row `i` of the window at `b` is row `b + i`. -/
theorem rWin_row (b : ℕ) (hb : ∀ a, (![b, 0] : Fin 2 → ℕ) a + S128x128.size a ≤ S640x128.size a) (i : Fin 128) (h : b + i.val < 640) :
    ((rWin b hb).view.slice (S128x128.rowRect 0 i)).set = rRow ⟨b + i.val, h⟩ := by
  ext x
  rw [mem_rRow, View.set_slice, Finset.mem_map]
  constructor
  · rintro ⟨y, hy, rfl⟩
    have h0 := (mem_rowRect (s := S128x128) 0 i y).mp hy
    apply Fin.ext
    refine (rWin_emb b hb y 0).trans ?_
    exact congrArg (b + ·) (congrArg Fin.val h0)
  · intro hx
    let y : S128x128.Idx := fun
      | 0 => i
      | 1 => ⟨(x 1).val, (x 1).isLt⟩
      | ⟨_ + 2, h⟩ => absurd h (Nat.not_lt.2 (Nat.le_add_left _ _))
    refine ⟨y, (mem_rowRect (s := S128x128) 0 i y).mpr rfl, ?_⟩
    funext a; apply Fin.ext; refine (rWin_emb b hb y a).trans ?_
    match a with
    | 0 => exact (congrArg Fin.val hx).symm
    | 1 => exact Nat.zero_add _

/-- Word `i` of the window at `b` is word `b + i`. -/
theorem sWin_entry (b : ℕ) (hb : ∀ a, (![b] : Fin 1 → ℕ) a + S128.size a ≤ S640.size a) (i : Fin 128) (h : b + i.val < 640) (hn : S128.numel = 128) :
    (sWin b hb).view.emb (GatherBatch.entryAt S128 hn i) = sIx ⟨b + i.val, h⟩ := by
  funext a
  match a with
  | 0 =>
    apply Fin.ext
    show (((Rect.unit (s := S640) ![b] S128.size hb).emb _) 0).val = b + i.val
    rw [Rect.emb_apply]; show b + 1 * (((S128.rowMajor.symm (i.cast hn.symm)) 0).val) = _
    rw [Nat.one_mul]
    have h1 := congrArg Fin.val (S128.rowMajor.apply_symm_apply (i.cast hn.symm))
    rw [Shape.rowMajor_val_one] at h1
    exact congrArg (b + ·) h1

/-- Where an element of the table lies, addressed through the slice that is all of it. -/
theorem xAllK_emb (y : S4096x128.Idx) : (xAllK).view.emb y = y := by
  funext a; apply Fin.ext
  show (((Rect.unit (s := S4096x128) ![0, 0] S4096x128.size inb_S4096x128_S4096x128_0_0).emb y) a).val = _
  rw [Rect.emb_apply]
  match a with
  | 0 => show 0 + 1 * _ = _; omega
  | 1 => show 0 + 1 * _ = _; omega

/-- The row a gather writes, on that row, is the table's row the list names. -/
theorem landed_row (hfl : ∀ j, (fl j : BitVec 32).toNat < 4096) (b : ℕ)
    (hbr : ∀ a, (![b, 0] : Fin 2 → ℕ) a + S128x128.size a ≤ S640x128.size a) (hbs : ∀ a, (![b] : Fin 1 → ℕ) a + S128.size a ≤ S640.size a)
    (hn : S128.numel = 128) (i : Fin 128) (h : b + i.val < 640)
    (hin : ∀ x, ((sWin b hbs).view.read (Elt F) fl x : BitVec 32).toNat < S4096x128.size gathers_S4096x128_S128x128.axis)
    (x : S640x128.Idx) (hx : x ∈ rRow ⟨b + i.val, h⟩) :
    ((rWin b hbr).view.slice (S128x128.rowRect 0 i)).write (Elt F) fr
        (fun y => (xAllK).view.read (Elt F) tb (gathers_S4096x128_S128x128.rowIdx (SparseCore.rows ((sWin b hbs).view.read (Elt F) fl) hn hin i) y)) Finset.univ x
      = landedRows tb fl x := by
  have hx0 := (mem_rRow x _).mp hx
  rw [← rWin_row b hbr i h] at hx
  obtain ⟨y, -, rfl⟩ := Finset.mem_map.mp hx
  rw [View.write_emb_of_mem _ _ (Finset.mem_univ y)]
  refine (cast_eq _ _).trans ?_
  rw [View.read_apply]
  refine (cast_eq _ _).trans ?_
  rw [xAllK_emb]
  unfold landedRows
  congr 1
  have hr : (SparseCore.rows ((sWin b hbs).view.read (Elt F) fl) hn hin i).val
      = (fl (sIx (((rWin b hbr).view.slice (S128x128.rowRect 0 i)).emb y 0)) : BitVec 32).toNat := by
    rw [hx0, ← sWin_entry b hbs i h hn]
    show ((sWin b hbs).view.read (Elt F) fl _ : BitVec 32).toNat = _
    rw [View.read_apply]; rfl
  funext a; apply Fin.ext
  match a with
  | 0 =>
    refine (congrArg Fin.val (Shape.Gathers.rowIdx_axis gathers_S4096x128_S128x128 _ y)).trans ?_
    rw [hr]
    exact (Nat.mod_eq_of_lt (hfl _)).symm
  | 1 =>
    refine (Shape.Gathers.rowIdx_of_ne gathers_S4096x128_S128x128 _ y (b := 1) (by decide)).trans ?_
    show _ = (((rWin b hbr).view.slice (S128x128.rowRect 0 i)).emb y 1).val
    refine Eq.symm ((rWin_emb b hbr _ 1).trans ?_)
    refine (Nat.zero_add _).trans ?_
    exact Shape.rowRect_emb_of_ne (s := S128x128) 0 i y (b := 1) (by decide)

theorem pts_row_in (b : ℕ) (hbr : ∀ a, (![b, 0] : Fin 2 → ℕ) a + S128x128.size a ≤ S640x128.size a) (i : Fin 128) (h : b + i.val < 640)
    (f : Buf (Elt F) ((rV).view.loc (V d (cV L) (jV L)))) :
    ((rV).view.loc (V d (cV L) (jV L)) ↦[rRow ⟨b + i.val, h⟩]{fullShare} f : sProp 𝕄)
      = (rWin b hbr).view.loc (V d (cV L) (jV L)) ↦[((rWin b hbr).view.slice (S128x128.rowRect 0 i)).set]{fullShare} f := by
  rw [rWin_row b hbr i h]
theorem pts_entry_in (b : ℕ) (hbs : ∀ a, (![b] : Fin 1 → ℕ) a + S128.size a ≤ S640.size a) (hn : S128.numel = 128) (i : Fin 128) (h : b + i.val < 640) :
    ((sV).view.loc (V d (cV L) (jV L)) ↦[{sIx ⟨b + i.val, h⟩}]{fullShare} fl : sProp 𝕄)
      = (sWin b hbs).view.loc (V d (cV L) (jV L)) ↦[{(sWin b hbs).view.emb (GatherBatch.entryAt S128 hn i)}]{fullShare} fl := by
  rw [sWin_entry b hbs i h hn]
theorem pts_piece_in (q : PosShare TreeShare) :
    ((xV).view.loc (V d (cV L) (jV L)) ↦{q} tb : sProp 𝕄) = (xAllK).view.loc (V d (cV L) (jV L)) ↦[(xAllK).view.set]{q} tb := by
  rw [set_xAllK]

/-- Entailment in each of three conjuncts. -/
theorem mono3 {A A' B B' C C' : sProp 𝕄} (hA : A ⊢ A') (hB : B ⊢ B') (hC : C ⊢ C') : iprop(A ∗ B ∗ C) ⊢ iprop(A' ∗ B' ∗ C') := by
  iintro ⟨HA, HB, HC⟩
  isplitl [HA]; · iapply hA $$ HA
  isplitl [HB]; · iapply hB $$ HB
  iapply hC $$ HC

theorem eq3 {A A' B B' C C' : sProp 𝕄} (hA : A = A') (hB : B = B') (hC : C = C') : iprop(A ∗ B ∗ C) = iprop(A' ∗ B' ∗ C') := by
  subst hA hB hC; rfl

/-- One gather: rows `[b, b + 128)` of the row scratch, issued as the next 128 transfers of the batch. -/
theorem wp_issue {defs : Defs nD τ sig (Elt F) Λ₀} {𝒱' : Variants} {bd : Option 𝒱'.V} {α : Type} {Q : α → sProp 𝕄}
    (hfl : ∀ j, (fl j : BitVec 32).toNat < 4096) (b : ℕ) (hb640 : b + 128 ≤ 640)
    {hbr : ∀ a, (![b, 0] : Fin 2 → ℕ) a + S128x128.size a ≤ S640x128.size a} {hbs : ∀ a, (![b] : Fin 1 → ℕ) a + S128.size a ≤ S640.size a}
    {hp : (V d (cV L) (jV L)).2.kind = .scVector} {hn : S128.numel = S128x128.size gathers_S4096x128_S128x128.axis'}
    {hsrc : (xAllK).view.WordExact} {he : (EltTy.f32).bits = 32} {hsp : Space.hbm = .hbm ∨ Space.hbm = .shared} {hr : S4096x128.StreamRows 0}
    {k : PUnit → Prog (TpuEff nD τ sig (Elt F) Λ₀ (V d (cV L) (jV L)).2) α} :
    iprop((bigSep (Transfers.pending b) (rowPre (F := F) d L qx tb fl fr)) ∗ RowBatch (F := F) d L qx tb fl b 0)
      ⊢ iprop((((bigSep (Transfers.pending (b + 128)) (rowPre (F := F) d L qx tb fl fr)) ∗ RowBatch (F := F) d L qx tb fl (b + 128) 0)
            -∗ wp frame (wpE defs 𝒱' (V d (cV L) (jV L)) bd) Set.univ (k ⟨⟩) Q)
          -∗ wp frame (wpE defs 𝒱' (V d (cV L) (jV L)) bd) Set.univ
              (SparseCore.enqueueIndirectGather hp xAllK (rWin b hbr) gathers_S4096x128_S128x128 (sWin b hbs) hn cc1_scratch2.sem hsrc he hsp hr >>= k) Q) := by
  have hin : ∀ x, ((sWin b hbs).view.read (Elt F) fl x : BitVec 32).toNat < S4096x128.size gathers_S4096x128_S128x128.axis := fun x => by
    rw [View.read_apply]; exact hfl _
  have hrow : ∀ i : Fin 128, b + i.val < 640 := fun i => by omega
  have h := GatherBatch.wp_gatherBatch (defs := defs) countersEmb 𝒱' (V d (cV L) (jV L)) bd (Q := Q) (src := xAllK) (dst := rWin b hbr)
    (hg := gathers_S4096x128_S128x128) (offs := sWin b hbs) (hn := hn) (sem := cc1_scratch2.sem) (hp := hp) (hsrc := hsrc) (he := he) (hsp := hsp) (hr := hr) (k := k)
    (D := rowPost (F := F) d L qx tb fl) (default : HIx 1) rowCredit b 0 hb640 (Nat.zero_le _) (fun i => rfl)
    (q := fun i => pieceOf qx 640 (by decide) ⟨b + i.val, hrow i⟩) (qo := fullShare) (fs := tb) (fd := fr) (fo := fl) hin
    (fun i => by
      refine mono3 (Entails.of_eq ?_) (Entails.of_eq (pts_entry_in d L fl b hbs hn i (hrow i)).symm) (Entails.of_eq (pts_piece_in d L tb _).symm)
      refine Eq.trans ?_ (pts_row_in d L b hbr i (hrow i) _).symm
      exact pointsTo_congr fun x hx => landed_row d L tb fl fr hfl b hbr hbs hn i (hrow i) hin x ((rWin_row b hbr i (hrow i)) ▸ hx))
  rw [GatherBatch.bigSep_pending_add _ b 128 hb640]
  iintro ⟨⟨Hnow, Hrest⟩, HB⟩ Hk
  iapply h $$ [Hnow HB]
  · isplitl [Hnow]
    · have hm : ∀ i : Fin 128, rowPre (F := F) d L qx tb fl fr ⟨b + i.val, hrow i⟩ = iprop(
          ((rWin b hbr).view.loc (V d (cV L) (jV L)) ↦[((rWin b hbr).view.slice (S128x128.rowRect 0 i)).set]{fullShare} fr)
          ∗ ((sWin b hbs).view.loc (V d (cV L) (jV L)) ↦[{(sWin b hbs).view.emb (GatherBatch.entryAt S128 hn i)}]{fullShare} fl)
          ∗ ((xAllK).view.loc (V d (cV L) (jV L)) ↦[(xAllK).view.set]{pieceOf qx 640 (by decide) ⟨b + i.val, hrow i⟩} tb)) := fun i => by
        exact eq3 (pts_row_in d L b hbr i (hrow i) fr) (pts_entry_in d L fl b hbs hn i (hrow i)) (pts_piece_in d L tb _)
      iapply (Entails.of_eq (congrArg (bigSep Finset.univ) (funext hm))) $$ Hnow
    · iexact HB
  · iintro HB
    iapply Hk
    isplitl [Hrest]
    · iexact Hrest
    · iexact HB

/-- The words of the index list the task fetches. -/
abbrev listL : S640.Idx → Elt F .i32 := (iRowK L).view.read (Elt F) (idx d)

theorem listL_lt (hpre : PreOK (F := F) idx) (j : S640.Idx) : (listL (F := F) idx d L j : BitVec 32).toNat < 4096 := by
  show ((iRowK L).view.read (Elt F) (idx d) j : BitVec 32).toNat < 4096
  rw [View.read_apply]; exact hpre d _

/-- The three buffers as 640 rows' resources. -/
theorem rows_split :
    iprop(((rV).view.loc (V d (cV L) (jV L)) ↦{fullShare} fr) ∗ ((sV).view.loc (V d (cV L) (jV L)) ↦{fullShare} fl)
        ∗ ((xV).view.loc (V d (cV L) (jV L)) ↦{qx} tb))
      = (bigSep Finset.univ (rowPre (F := F) d L qx tb fl fr) : sProp 𝕄) := by
  have h1 : ((rV).view.loc (V d (cV L) (jV L)) ↦[(rV).view.set]{fullShare} fr : sProp 𝕄) = bigSep Finset.univ fun t : Fin 640 => (rV).view.loc (V d (cV L) (jV L)) ↦[rRow t]{fullShare} fr :=
    pointsTo_rows (Ix := HIx 1) (Name := ℕ) (U := UU) (Lvl := ℕ) (V d (cV L) (jV L)) (rV).view 0 fullShare fr
  have h2 := pointsTo_entries (Ix := HIx 1) (Name := ℕ) (U := UU) (Lvl := ℕ) (V d (cV L) (jV L)) (sV).view sIx
    ⟨fun a b h => congrFun h 0, fun y => ⟨y 0, by funext a; match a with | 0 => rfl⟩⟩ fullShare fl
  have h3 := pointsTo_piecesOf (Ix := HIx 1) (Name := ℕ) (U := UU) (Lvl := ℕ) (ℓ := (xV).view.loc (V d (cV L) (jV L))) Finset.univ tb (o := 640) (by decide) qx
  rw [show (rV).view.set = Finset.univ from View.set_whole _] at h1
  rw [show (sV).view.set = Finset.univ from View.set_whole _] at h2
  refine (eq3 h1 h2 h3).trans ?_
  rw [← BI.bigSep_sep', ← BI.bigSep_sep']
  rfl

/-- The batch before its last wait, under a name. -/
@[irreducible] def LastBatch : sProp 𝕄 :=
  RowBatch (F := F) d L qx tb fl (512 + 128) (0 + 128 * rowCredit + 128 * rowCredit + 128 * rowCredit + 128 * rowCredit)
theorem lastBatch_eq : LastBatch (F := F) d L qx tb fl
    = RowBatch (F := F) d L qx tb fl (512 + 128) (0 + 128 * rowCredit + 128 * rowCredit + 128 * rowCredit + 128 * rowCredit) := by
  unfold LastBatch; rfl

/-- Where element `y` of the task's rows of the result lies. -/
theorem oRowK_emb (y : S640x128.Idx) (a : Fin 2) : ((oRowK L).view.emb y a).val = k1_off2 L a + (y a).val := by
  show (((orowK L).emb y) a).val = _
  rw [Rect.emb_apply]; show _ + 1 * _ = _; rw [Nat.one_mul]; rfl
/-- Where word `y` of the task's part of the index list lies. -/
theorem iRowK_emb (y : S640.Idx) (a : Fin 1) : ((iRowK L).view.emb y a).val = k1_off1 L a + (y a).val := by
  show (((irowK L).emb y) a).val = _
  rw [Rect.emb_apply]; show _ + 1 * _ = _; rw [Nat.one_mul]; rfl

/-- The rows the task copies out are, where they land, the gathered rows. -/
theorem out_value (y : S640x128.Idx) :
    landedRows (F := F) (tab d) (listL (F := F) idx d L) y = gathered (tab d) (idx d) ((oRowK L).view.emb y) := by
  unfold landedRows gathered
  have h1 : listL (F := F) idx d L (sIx (y 0)) = idx d (listAt ((oRowK L).view.emb y 0)) := by
    show (iRowK L).view.read (Elt F) (idx d) _ = _
    rw [View.read_apply]
    refine (cast_eq _ _).trans ?_
    congr 1
    funext a; apply Fin.ext
    match a with
    | 0 =>
      refine (iRowK_emb L _ 0).trans ?_
      refine Eq.trans ?_ (oRowK_emb L y 0).symm
      rw [k1_off1_eq, k1_off2_eq]; rfl
  rw [h1]
  congr 1
  funext a
  match a with
  | 0 => rfl
  | 1 =>
    apply Fin.ext
    refine Eq.trans ?_ (oRowK_emb L y 1).symm
    rw [k1_off2_eq]; exact (Nat.zero_add _).symm

set_option maxHeartbeats 4000000 in
/-- The task on vector subcore `(L 0, L 1)` of device `d`: the index fetch and its wait, the five gathers and their
    waits, the write-out and its wait. It brings back its rows of the result holding the table's rows its words name. -/
theorem tile_body [FloatOps F] (hF : (K (F := F)).Facts) (hpre : PreOK (F := F) idx) (O : CellTallies nD τ sig (HIx 1)) (W : Waits sig (HIx 1)) (hO : ∀ g, O g none = 0) :
    iprop(levAts (K (F := F)).L (K (F := F)).lev ∗ emp
        ∗ goW tab idx o0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_rows L xV (Memref.isWhole_whole _) iV (Memref.isWhole_whole _) oV (Memref.isWhole_whole _)
            sV (Memref.isWhole_whole _) rV (Memref.isWhole_whole _) cc1_scratch2 cc1_scoped0 cc1_scoped1)
          fun _ => iprop(tdW tab idx d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_rows_eq_skeleton]; unfold cc1__gather_rows_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hw : View.write (Elt F) (sV).view fs (tile_body.sl.dma0 idx d L) Finset.univ = listL (F := F) idx d L := by
    rw [View.write_whole_univ]; rfl
  ihave Hs'' := (Entails.of_eq (congrArg (fun f => ((sV).view.loc (V d (cV L) (jV L)) ↦{fullShare} f : sProp 𝕄)) hw)) $$ Hs'
  ihave Hrows := (Entails.of_eq (rows_split (F := F) d L (xq (wL L)) (tab d) (listL (F := F) idx d L) fr)) $$ [Hs'' Hr' Hx']
  · isplitl [Hr']; · iexact Hr'
    isplitl [Hs'']; · iexact Hs''
    iexact Hx'
  ihave Hrows := (Entails.of_eq (by rw [Transfers.pending_zero] : bigSep Finset.univ (rowPre (F := F) d L (xq (wL L)) (tab d) (listL (F := F) idx d L) fr)
    = bigSep (Transfers.pending 0) (rowPre (F := F) d L (xq (wL L)) (tab d) (listL (F := F) idx d L) fr))) $$ Hrows
  imod (Transfers.batch_alloc' countersEmb (V d (cV L) (jV L)) (default : HIx 1) rowCredit
    (rowPost (F := F) d L (xq (wL L)) (tab d) (listL (F := F) idx d L)) (E := Set.univ)) $$ HsemA with HB
  have hfl := listL_lt idx d L hpre
  iapply (wp_issue (F := F) d L (xq (wL L)) (tab d) (listL (F := F) idx d L) fr hfl 0 (by decide)) $$ [Hrows HB]
  · isplitl [Hrows]; · iexact Hrows
    iexact HB
  iintro ⟨Hrows, HB⟩
  sl_exec
  iapply (wp_issue (F := F) d L (xq (wL L)) (tab d) (listL (F := F) idx d L) fr hfl 128 (by decide)) $$ [Hrows HB]
  · isplitl [Hrows]; · iexact Hrows
    iexact HB
  iintro ⟨Hrows, HB⟩
  sl_exec
  iapply (wp_issue (F := F) d L (xq (wL L)) (tab d) (listL (F := F) idx d L) fr hfl 256 (by decide)) $$ [Hrows HB]
  · isplitl [Hrows]; · iexact Hrows
    iexact HB
  iintro ⟨Hrows, HB⟩
  sl_exec
  iapply (wp_issue (F := F) d L (xq (wL L)) (tab d) (listL (F := F) idx d L) fr hfl 384 (by decide)) $$ [Hrows HB]
  · isplitl [Hrows]; · iexact Hrows
    iexact HB
  iintro ⟨Hrows, HB⟩
  sl_exec
  iapply (wp_issue (F := F) d L (xq (wL L)) (tab d) (listL (F := F) idx d L) fr hfl 512 (by decide)) $$ [Hrows HB]
  · isplitl [Hrows]; · iexact Hrows
    iexact HB
  iintro ⟨-, HB⟩
  sl_exec
  have hq : ∀ b hb, (rWin b hb).view.dmaCredit = 128 * rowCredit := fun b hb => rfl
  iapply (Transfers.wp_waitBatchMulO countersEmb 𝒱₀ (V d (cV L) (jV L)) none (default : HIx 1) 128 (hq _ _) (j := 512 + 128) (u := 0) (by omega)) $$ [HB HO]
  · isplitl [HB]; · iexact HB
    isplitl [HO]; · iexact HO
    iapply (Transfers.MayWaits.elim (SemLoc.dma cc1_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit) (by omega)) $$ [HB HO]
  · isplitl [HB]; · iexact HB
    isplitl [HO]; · iexact HO
    iapply (Transfers.MayWaits.elim (SemLoc.dma cc1_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit + 128 * rowCredit) (by omega)) $$ [HB HO]
  · isplitl [HB]; · iexact HB
    isplitl [HO]; · iexact HO
    iapply (Transfers.MayWaits.elim (SemLoc.dma cc1_scratch2.sem)) $$ Hmw
  iintro ⟨HB, HO⟩
  sl_exec
  iapply (Transfers.wp_waitBatchMulO countersEmb 𝒱₀ (V d (cV L) (jV L)) none (default : HIx 1) 128 (hq _ _) (j := 512 + 128) (u := 0 + 128 * rowCredit + 128 * rowCredit + 128 * rowCredit) (by omega)) $$ [HB HO]
  · isplitl [HB]; · iexact HB
    isplitl [HO]; · iexact HO
    iapply (Transfers.MayWaits.elim (SemLoc.dma cc1_scratch2.sem)) $$ Hmw
  iintro ⟨HB, HO⟩
  ihave HB := (Entails.of_eq (lastBatch_eq (F := F) d L (xq (wL L)) (tab d) (listL (F := F) idx d L)).symm) $$ HB
  sl_exec
  ihave HB := (Entails.of_eq (lastBatch_eq (F := F) d L (xq (wL L)) (tab d) (listL (F := F) idx d L))) $$ HB
  iapply (Transfers.wp_waitBatchAllO countersEmb 𝒱₀ (V d (cV L) (jV L)) none (default : HIx 1) (hq _ _) (N := rowCredit) (D := rowPost (F := F) d L (xq (wL L)) (tab d) (listL (F := F) idx d L)) (by decide) (u := 0 + 128 * rowCredit + 128 * rowCredit + 128 * rowCredit + 128 * rowCredit) (by omega)) $$ [HB HO]
  · isplitl [HB]; · iexact HB
    isplitl [HO]; · iexact HO
    iapply (Transfers.MayWaits.elim (SemLoc.dma cc1_scratch2.sem)) $$ Hmw
  iintro ⟨HD, HsemA, HO⟩
  ihave HD := (Entails.of_eq (rows_split (F := F) d L (xq (wL L)) (tab d) (listL (F := F) idx d L) (landedRows (tab d) (listL (F := F) idx d L))).symm) $$ HD
  icases HD with ⟨Hr3, Hs3, Hx3⟩
  generalize hG : landedRows (F := F) (tab d) (listL (F := F) idx d L) = G
  sl_exec
  sl_step
  isplitl [Hi' Hx3 Ho']
  · isplitl [Hi']; · iapply (Entails.of_eq (pts_iRowK (F := F) d L _)); iexact Hi'
    isplitl [Hx3]; · iexact Hx3
    iapply (Entails.of_eq ((pointsTo_congr (fun x hx => by
      obtain ⟨y, -, rfl⟩ := Finset.mem_map.mp hx
      have hr := View.read_writes_cons_emb (oRowK L).view (Val := Elt F) (o0 d) (Rect.whole S640x128) (tile_body.sl.dma0_1 G) [] y
      rw [Rect.emb_whole_apply, View.read_apply] at hr
      refine ((cast_eq _ _).symm.trans hr).trans ?_
      refine Eq.trans ?_ (out_value tab idx d L y)
      rw [hG]; rfl)).trans (pts_oRowK (F := F) d L (gathered (tab d) (idx d))))) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of the task on core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__gather_rows (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl [FloatOps F] (hF : (K (F := F)).Facts) (hpre : PreOK (F := F) idx) : (K (F := F)).TileObl (D (F := F)) 𝒱 (P tab idx o0) v₀ 0 := by
  intro d c i O W hO _ _
  simp only [show (P (F := F) tab idx o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx o0 d (coordsV ⟨_, hci.1⟩ ⟨_, hci.2⟩) hF hpre O W hO).trans (wp_mono frame _ _ fun _ => obl_post)

end Tile

/-- A SparseCore's operands are its tasks' and its results theirs. -/
theorem vecSplit : (K (F := F)).VecSplit' (P tab idx o0) 0 := by
  intro d c
  show (bigSep Finset.univ fun i => goW tab idx o0 d (widK (F := F) c i)) ⊢ |={Set.univ}=> iprop(
      (bigSep Finset.univ fun i => goW tab idx o0 d (widK (F := F) c i))
      ∗ ((bigSep Finset.univ fun i => tdW tab idx d (widK (F := F) c i)) -∗ bigSep Finset.univ fun i => tdW tab idx d (widK (F := F) c i)))
  iintro H; imodintro
  isplitl [H]; · iexact H
  iintro H; iexact H

/-! ## The tasks' resources are the whole arrays -/

theorem iRowSet_eq (i : Fin 32) : iRowSet i = (irow i).set := View.set_slice_whole _ _
theorem oRowSet_eq (i : Fin 32) : oRowSet i = (orow i).set := View.set_slice_whole _ _
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) : (iPts idx d : sProp 𝕄) = bigSep Finset.univ fun w : Fin 32 => iRowPts idx d w := by
  unfold iPts iRowPts
  rw [← pointsTo_biUnion Finset.univ (ℓ := iLoc d) iRowSet fun i _ j _ h => by rw [iRowSet_eq, iRowSet_eq]; exact Rect.part_disjoint idiv h, irows_cover]
theorem oPts_rows (d : Dev nD) (f : Buf (Elt F) (oLoc d)) : (oPts d f : sProp 𝕄) = bigSep Finset.univ fun w : Fin 32 => oRowPts d w f := by
  unfold oPts oRowPts
  rw [← pointsTo_biUnion Finset.univ (ℓ := oLoc d) oRowSet fun i _ j _ h => by rw [oRowSet_eq, oRowSet_eq]; exact Rect.part_disjoint odiv h, orows_cover]
theorem xPts_shares (d : Dev nD) : (xPts tab d : sProp 𝕄) = bigSep Finset.univ fun w : Fin 32 => xShPts tab d w :=
  pointsTo_piecesOf Finset.univ (tab d) (by decide) fullShare

/-- The 32 tasks, by SparseCore and subcore. -/
theorem bigSep_tasks (Φ : Fin 32 → sProp 𝕄) :
    (bigSep Finset.univ fun c : Fin ((K (F := F)).nCore 0) => bigSep Finset.univ fun i : Fin ((K (F := F)).nSub 0) => Φ (widK (F := F) c i))
      = bigSep Finset.univ Φ := by
  let e : Fin 2 × Fin 16 ≃ Fin 32 := Equiv.ofBijective (fun p => wid p.1 p.2) (by decide)
  exact ((BI.bigSep_univ_equiv e Φ).trans (BI.bigSep_univ_prod _)).symm

/-- Everything the call takes, from the three arrays whole. -/
theorem st_eq (d : Dev nD) : (bigSep Finset.univ fun c : Fin ((K (F := F)).nCore 0) => (P (F := F) tab idx o0).st 0 d c)
    = (iprop(iPts idx d ∗ xPts tab d ∗ oPts d (o0 d)) : sProp 𝕄) := by
  refine (bigSep_tasks (F := F) (fun w => goW tab idx o0 d w)).trans ?_
  rw [BI.bigSep_sep', BI.bigSep_sep', iPts_rows, xPts_shares, oPts_rows]
/-- Everything it brings back: the result holds the gathered rows. -/
theorem dn_eq (d : Dev nD) : (bigSep Finset.univ fun c : Fin ((K (F := F)).nCore 0) => (P (F := F) tab idx o0).dn 0 d c)
    = (iprop(iPts idx d ∗ xPts tab d ∗ oPts d (gathered (tab d) (idx d))) : sProp 𝕄) := by
  refine (bigSep_tasks (F := F) (fun w => tdW tab idx d w)).trans ?_
  rw [BI.bigSep_sep', BI.bigSep_sep', iPts_rows, xPts_shares, oPts_rows]

end Cert.Proof.WholeRun

end
-- ==== Proof.WholeTopk.lean ====
/-
  The neighbour call of `WholeIdeal` (a TensorCore pipeline of 16 blocks of 256 rows): its body run by the executor with the
  values it stores, its proof data and its region over the thread state "every unscoped buffer at a valuation".
-/
module

public import proofs.«01_k».proof.Proof.WholeTile
public import proofs.«01_k».proof.Proof.Gen.WholeIdeal.Launch
public import Idealize.ShloMosaic.Lib.Pipeline.RegionsLoop
public import Idealize.ShloMosaic.Lib.Pipeline.ValueKit.Geometry
public import Idealize.ShloMosaic.Lib.VecWindow
public import Idealize.ShloMosaic.Lib.Writes
public import Idealize.ShloMosaic.Lib.WritesUnit
public import Idealize.ShloMosaic.Lib.Tactic

@[expose] public section

noncomputable section

namespace Cert.Proof.WholeRun

open Cert.WholeIdeal Cert.WholeIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The values of the neighbour call -/

theorem inb_rows (k : Fin 4096) : ∀ a, (![512 * (k.val / 512), 0] : Fin 2 → ℕ) a + S512x128.size a ≤ S4096x128.size a := fun
  | 0 => by show 512 * (k.val / 512) + 512 ≤ 4096; omega
  | 1 => by show 0 + 128 ≤ 128; omega

/-- A column of the distances, in the block of 512 that holds it. -/
def inBlock (y : S256x4096.Idx) : S256x512.Idx := fun
  | 0 => y 0
  | 1 => ⟨(y 1).val % 512, Nat.mod_lt _ (by decide)⟩
  | ⟨_ + 2, h⟩ => absurd h (Nat.not_lt.2 (Nat.le_add_left _ _))

/-- The squared distances of the block's rows `xr` to all rows `xf`, clamped below. -/
def dmat (xr : S256x128.Idx → Elt F .f32) (xf : S4096x128.Idx → Elt F .f32) : S256x4096.Idx → Elt F .f32 := fun y =>
  k0_pay4 (F := F) xr (VecWindow.window xf ![512 * ((y 1).val / 512), 0] S512x128.size (inb_rows (y 1))) (inBlock y)

/-- The columns' numbers. -/
abbrev cols : IVec S256x4096 32 := iota .tc S256x4096 32 [1] iota_S256x4096_d1_w32
/-- A row's least value. -/
abbrev minOf (d : S256x4096.Idx → Elt F .f32) : FVec F S256x1 .f32 := k0_pay16 (F := F) d
/-- The first column of a row that holds its least value. -/
abbrev argOf (d : S256x4096.Idx → Elt F .f32) : IVec S256x1 32 := k0_pay17 (F := F) cols d (minOf d)
/-- The values with each row's first least one replaced by infinity. -/
abbrev nxt (d : S256x4096.Idx → Elt F .f32) : S256x4096.Idx → Elt F .f32 := k0_pay18 (F := F) cols d (minOf d)

/-- The five nearest rows' numbers (the nearest, the row itself, left out), beside three columns of zeros. -/
def idxBlk (d : S256x4096.Idx → Elt F .f32) : S256x8.Idx → Elt F .i32 :=
  k0_pay1 (argOf (nxt d)) (argOf (nxt (nxt d))) (argOf (nxt (nxt (nxt d)))) (argOf (nxt (nxt (nxt (nxt d))))) (argOf (nxt (nxt (nxt (nxt (nxt d))))))

/-- The LID value of the five nearest distances, in eight columns. -/
def lidBlk (d : S256x4096.Idx → Elt F .f32) : S256x8.Idx → Elt F .f32 :=
  k0_pay2 (F := F) (k0_pay32 (minOf (nxt d)) (minOf (nxt (nxt d))) (minOf (nxt (nxt (nxt d)))) (nxt (nxt (nxt (nxt d)))) (nxt (nxt (nxt (nxt (nxt d))))))

/-- The call's scratch: the distances of a block's rows to all rows. -/
abbrev scr : Memref sig .tc .vmem S256x4096 .f32 := Memref.whole cc0_scratch0

/-- Storing a list of pieces one of which, holding the index, agrees with `G` there and above which no piece holds it. -/
theorem piece_at {sig : RefSig} {κ : Kind} {sp : Space} {e : EltTy} {Val : EltTy → Type} (v : View sig κ sp S256x4096 e) (f : v.ty.Contents Val) {k : ℕ}
    (inb : ∀ a, (![0, k] : Fin 2 → ℕ) a + S256x512.size a ≤ S256x4096.size a) (w : (Rect.unit (s := S256x4096) ![0, k] S256x512.size inb).shape.Idx → Val e)
    (L : List (View.Piece Val S256x4096 e)) (y : S256x4096.Idx) (G : Val e) (hk : k % 512 = 0)
    (hin : (y 1).val / 512 = k / 512 → w (inBlock y) = G)
    (hout : (y 1).val / 512 ≠ k / 512 → v.read Val (v.writes Val f L) y = G) :
    v.read Val (v.writes Val f (⟨Rect.unit (s := S256x4096) ![0, k] S256x512.size inb, w⟩ :: L)) y = G := by
  by_cases h : (y 1).val / 512 = k / 512
  · refine (View.read_writes_cons_unit_of_mem v f inb w L y (inBlock y) rfl fun
      | 0 => (Nat.zero_add _).symm
      | 1 => ?_).trans (hin h)
    show (y 1).val = k + (y 1).val % 512
    omega
  · refine (View.read_writes_cons_unit_of_not_mem v f inb w L y rfl 1 ?_).trans (hout h)
    show (y 1).val < k ∨ k + 512 ≤ (y 1).val
    omega

theorem topkRun (c : Dev nD) (i : grid0.Coords) (s0 : Fin 2) (s2 : Fin 2) (s3 : Fin 2)
    (x : Bf (F := F) c (stage0_0 s0)) (y : Bf (F := F) c (stage0_1 0)) (f2 : Bf (F := F) c (stage0_2 s2)) (f3 : Bf (F := F) c (stage0_3 s3)) (f4 : Bf (F := F) c scr)
   (X : S256x128.Idx → Elt F .f32) (Y : S4096x128.Idx → Elt F .f32) (hX : (stage0_0 s0).view.read (Elt F) x = X) (hY : (stage0_1 0).view.read (Elt F) y = Y)
   (E : Set ℕ) (Q : PUnit → sProp 𝕄) :
        iprop(pt c (stage0_0 s0) x ∗ pt c (stage0_1 0) y ∗ pt c (stage0_2 s2) f2 ∗ pt c (stage0_3 s3) f3 ∗ pt c scr f4
            ∗ (iprop(pt c (stage0_0 s0) x ∗ pt c (stage0_1 0) y ∗ (∃ f, ⌜(stage0_2 s2).view.read (Elt F) f = idxBlk (dmat X Y)⌝ ∗ pt c (stage0_2 s2) f)
                ∗ (∃ f, ⌜(stage0_3 s3).view.read (Elt F) f = lidBlk (dmat X Y)⌝ ∗ pt c (stage0_3 s3) f) ∗ (∃ f, pt c scr f)) -∗ Q ⟨⟩))
          ⊢ wp frame (wpE (defs₀ (F := F)) Variants.none c none) E
              (cc0__topk_body i (stage0_0 s0) (hstage0_0 s0) (stage0_1 0) (hstage0_1 0) (stage0_2 s2) (hstage0_2 s2) (stage0_3 s3) (hstage0_3 s3) scr (Memref.isWhole_whole _)) Q := by
  rw [cc0__topk_body_eq_skeleton]
  unfold cc0__topk_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H0, H1, H2, H3, H4, Hk⟩
  sl_exec!
  sl_step
  have e0 : topkRun.sl.v133 c s0 x y = dmat X Y := by
    unfold topkRun.sl.v133
    refine (View.readAt_full scr.view _ _).trans ?_
    funext z
    unfold topkRun.sl.H4_8
    have er : View.readAt (Elt F) (stage0_0 s0).view (Rect.unit ![0, 0] S256x128.size inb_S256x128_S256x128_0_0).toLoadRect x = X :=
      (View.readAt_full _ _ _).trans hX
    have ec : ∀ k (h : ∀ a, (![k, 0] : Fin 2 → ℕ) a + S512x128.size a ≤ S4096x128.size a),
        View.readAt (Elt F) (stage0_1 0).view (Rect.unit (s := S4096x128) ![k, 0] S512x128.size h).toLoadRect y = VecWindow.window Y ![k, 0] S512x128.size h :=
      fun k h => (View.readAt_unit _ _ _ rfl _).trans (by rw [hY])
    have key : ∀ k (h : ∀ a, (![k, 0] : Fin 2 → ℕ) a + S512x128.size a ≤ S4096x128.size a), k % 512 = 0 → (z 1).val / 512 = k / 512 →
        k0_pay4 (F := F) X (VecWindow.window Y ![k, 0] S512x128.size h) (inBlock z) = dmat X Y z := fun k h hk hz => by
      unfold dmat
      have : k = 512 * ((z 1).val / 512) := by omega
      subst this; rfl
    rw [er]
    refine piece_at _ _ _ _ _ _ _ (by decide) (fun h => ?_) fun h7 => ?_
    · rw [ec]; exact key 3584 _ (by decide) h
    refine piece_at _ _ _ _ _ _ _ (by decide) (fun h => ?_) fun h6 => ?_
    · rw [ec]; exact key 3072 _ (by decide) h
    refine piece_at _ _ _ _ _ _ _ (by decide) (fun h => ?_) fun h5 => ?_
    · rw [ec]; exact key 2560 _ (by decide) h
    refine piece_at _ _ _ _ _ _ _ (by decide) (fun h => ?_) fun h4 => ?_
    · rw [ec]; exact key 2048 _ (by decide) h
    refine piece_at _ _ _ _ _ _ _ (by decide) (fun h => ?_) fun h3 => ?_
    · rw [ec]; exact key 1536 _ (by decide) h
    refine piece_at _ _ _ _ _ _ _ (by decide) (fun h => ?_) fun h2 => ?_
    · rw [ec]; exact key 1024 _ (by decide) h
    refine piece_at _ _ _ _ _ _ _ (by decide) (fun h => ?_) fun h1 => ?_
    · rw [ec]; exact key 512 _ (by decide) h
    refine piece_at _ _ _ _ _ _ _ (by decide) (fun h => ?_) fun h0 => ?_
    · rw [ec]; exact key 0 _ (by decide) h
    · exfalso
      have : (z 1).val < 4096 := (z 1).isLt
      omega
  have full : ∀ (f : Bf (F := F) c scr) (w : S256x4096.Idx → Elt F .f32) (L : List (View.Piece (Elt F) S256x4096 .f32)),
      View.readCov scr.view (⟨Rect.unit (s := S256x4096) ![0, 0] S256x4096.size inb_S256x4096_S256x4096_0_0, w⟩ :: L)
        (Rect.unit (s := S256x4096) ![0, 0] S256x4096.size inb_S256x4096_S256x4096_0_0).toLoadRect = w := fun f w L => View.readCov_full _ _ _ _ _
  have e1 : topkRun.sl.v149 c s0 x y = nxt (dmat X Y) := by
    unfold topkRun.sl.v149 topkRun.sl.H4_9; exact (full f4 _ _).trans (by rw [e0]; rfl)
  have e2 : topkRun.sl.v165 c s0 x y = nxt (nxt (dmat X Y)) := by
    unfold topkRun.sl.v165 topkRun.sl.H4_10; exact (full f4 _ _).trans (by rw [e1]; rfl)
  have e3 : topkRun.sl.v181 c s0 x y = nxt (nxt (nxt (dmat X Y))) := by
    unfold topkRun.sl.v181 topkRun.sl.H4_11; exact (full f4 _ _).trans (by rw [e2]; rfl)
  have e4 : topkRun.sl.v197 c s0 x y = nxt (nxt (nxt (nxt (dmat X Y)))) := by
    unfold topkRun.sl.v197 topkRun.sl.H4_12; exact (full f4 _ _).trans (by rw [e3]; rfl)
  have e5 : topkRun.sl.v213 c s0 x y = nxt (nxt (nxt (nxt (nxt (dmat X Y))))) := by
    unfold topkRun.sl.v213 topkRun.sl.H4_13; exact (full f4 _ _).trans (by rw [e4]; rfl)
  rw [e1, e2, e3, e4, e5]
  iapply Hk
  isplitl [H0]; · iexact H0
  isplitl [H1]; · iexact H1
  isplitl [H2]
  · iexists _; isplitr; swap; (· iexact H2); ipureintro; exact View.read_writes_full _ _ _ _ _
  isplitl [H3]
  · iexists _; isplitr; swap; (· iexact H3); ipureintro; exact View.read_writes_full _ _ _ _ _
  iexists _; iexact H4

end Cert.Proof.WholeRun

end
-- ==== Proof.WholeNear.lean ====
/-
  The neighbour call of `WholeIdeal` as a region of @main: its proof data at an entry valuation, its body obligation at every
  point, the arrays it leaves, and the region over the thread state "every unscoped buffer at a valuation".
-/
module

public import proofs.«01_k».proof.Proof.WholeTopk

@[expose] public section

noncomputable section

namespace Cert.Proof.WholeRun

open Cert.WholeIdeal Cert.WholeIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The blocks as the fetches stage them: 256 rows, and all rows. -/
abbrev rowsIn (c : Dev nD) (t : Fin cfg0.N) : (cfg0.win 0).block.Idx → Elt F (cfg0.win 0).elt := ((cfg0.win 0).blk t).view.read (Elt F) (V c main_arg0)
abbrev allIn (c : Dev nD) (t : Fin cfg0.N) : (cfg0.win 1).block.Idx → Elt F (cfg0.win 1).elt := ((cfg0.win 1).blk t).view.read (Elt F) (V c main_arg0)

/-- The invariant between the region's ends: the scoped buffers the pipeline does not stage, the scratch among them. -/
abbrev Φn (c : Dev nD) : sProp 𝕄 := Pipeline.scopedRest (Ix := HIx 1) (Name := ℕ) (U := UU) (Lvl := ℕ) (Val := Elt F) spec0 c

variable (O : Dev nD → CellTallies nD τ sig (HIx 1)) (b : ℕ)

/-- The proof data of the neighbour region entered at valuation `V`. -/
def datN (c : Dev nD) : Dat τ (Elt F) (HIx 1) ℕ UU ℕ cfg0 c where
  A w := V c (Pipeline.arrRef spec0 w)
  after w t := match w with
    | ⟨0, _⟩ => rowsIn V c t
    | ⟨1, _⟩ => allIn V c t
    | ⟨2, _⟩ => idxBlk (dmat (rowsIn V c t) (allIn V c t))
    | ⟨3, _⟩ => lidBlk (dmat (rowsIn V c t) (allIn V c t))
  Φ _ := Φn c
  q w := Pipeline.shareOf spec0 w
  owed _ := O c
  recorded _ := {p | (K (F := F)).lev (SparseCore.T c, p.1) p.2 ≤ b}

theorem beforeN_0 (c : Dev nD) (t : Fin cfg0.N) (d : (cfg0.win 0).block.Idx → Elt F (cfg0.win 0).elt) : (datN V O b c).before 0 t d = rowsIn V c t :=
  ((datN V O b c).before_in_eq_fetched 0 rfl (fun _ => rfl) (fun _ _ _ => rfl) (fun _ => rfl) t d).trans rfl
theorem beforeN_1 (c : Dev nD) (t : Fin cfg0.N) (d : (cfg0.win 1).block.Idx → Elt F (cfg0.win 1).elt) : (datN V O b c).before 1 t d = allIn V c t :=
  ((datN V O b c).before_in_eq_fetched 1 rfl (fun _ => rfl) (fun _ _ _ => rfl) (fun _ => rfl) t d).trans rfl

omit [FloatOps F] in
/-- A whole memref held at contents `X`. -/
theorem owns_of_whole (c : Dev nD) {sp : Space} {S : Shape} {e : EltTy} (M : Memref sig .tc sp S e) (h : M.view.set = Finset.univ) (X : S.Idx → Elt F e) :
    (owns c.tc M fullShare X : sProp 𝕄) = iprop(∃ f, ⌜M.view.read (Elt F) f = X⌝ ∗ pt c M f) := by
  unfold owns; rw [h]

omit [FloatOps F] in
theorem owns_0 (c : Dev nD) (s : Fin 2) (X) : (owns c.tc (stage0_0 s) fullShare X : sProp 𝕄) = iprop(∃ f, ⌜(stage0_0 s).view.read (Elt F) f = X⌝ ∗ pt c (stage0_0 s) f) :=
  owns_of_whole c _ (by fin_cases s <;> exact View.set_whole _) X

omit [FloatOps F] in
theorem owns_1 (c : Dev nD) (s : Fin 1) (X) : (owns c.tc (stage0_1 s) fullShare X : sProp 𝕄) = iprop(∃ f, ⌜(stage0_1 s).view.read (Elt F) f = X⌝ ∗ pt c (stage0_1 s) f) :=
  owns_of_whole c _ (by fin_cases s <;> exact View.set_whole _) X

omit [FloatOps F] in
theorem owns_2 (c : Dev nD) (s : Fin 2) (X) : (owns c.tc (stage0_2 s) fullShare X : sProp 𝕄) = iprop(∃ f, ⌜(stage0_2 s).view.read (Elt F) f = X⌝ ∗ pt c (stage0_2 s) f) :=
  owns_of_whole c _ (by fin_cases s <;> exact View.set_whole _) X

omit [FloatOps F] in
theorem owns_3 (c : Dev nD) (s : Fin 2) (X) : (owns c.tc (stage0_3 s) fullShare X : sProp 𝕄) = iprop(∃ f, ⌜(stage0_3 s).view.read (Elt F) f = X⌝ ∗ pt c (stage0_3 s) f) :=
  owns_of_whole c _ (by fin_cases s <;> exact View.set_whole _) X

/-- The body's run, its second argument's slot the only one. -/
theorem topkRun' (c : Dev nD) (i : grid0.Coords) (s0 : Fin 2) (s1 : Fin 1) (s2 : Fin 2) (s3 : Fin 2)
    (x : Bf (F := F) c (stage0_0 s0)) (y : Bf (F := F) c (stage0_1 s1)) (f2 : Bf (F := F) c (stage0_2 s2)) (f3 : Bf (F := F) c (stage0_3 s3)) (f4 : Bf (F := F) c scr)
   (X : S256x128.Idx → Elt F .f32) (Y : S4096x128.Idx → Elt F .f32) (hX : (stage0_0 s0).view.read (Elt F) x = X) (hY : (stage0_1 s1).view.read (Elt F) y = Y)
   (E : Set ℕ) (Q : PUnit → sProp 𝕄) :
        iprop(pt c (stage0_0 s0) x ∗ pt c (stage0_1 s1) y ∗ pt c (stage0_2 s2) f2 ∗ pt c (stage0_3 s3) f3 ∗ pt c scr f4
            ∗ (iprop(pt c (stage0_0 s0) x ∗ pt c (stage0_1 s1) y ∗ (∃ f, ⌜(stage0_2 s2).view.read (Elt F) f = idxBlk (dmat X Y)⌝ ∗ pt c (stage0_2 s2) f)
                ∗ (∃ f, ⌜(stage0_3 s3).view.read (Elt F) f = lidBlk (dmat X Y)⌝ ∗ pt c (stage0_3 s3) f) ∗ (∃ f, pt c scr f)) -∗ Q ⟨⟩))
          ⊢ wp frame (wpE (defs₀ (F := F)) Variants.none c none) E
              (cc0__topk_body i (stage0_0 s0) (hstage0_0 s0) (stage0_1 s1) (hstage0_1 s1) (stage0_2 s2) (hstage0_2 s2) (stage0_3 s3) (hstage0_3 s3) scr (Memref.isWhole_whole _)) Q := by
  obtain rfl : s1 = 0 := Subsingleton.elim _ _
  exact topkRun c i s0 s2 s3 x y f2 f3 f4 X Y hX hY E Q

/-- The neighbour body at a point, from the staged blocks to the stored values. -/
theorem bodyN (c : Dev nD) : BodyObligation (datN V O b c) (defs₀ (F := F)) 𝒱₀ none Set.univ := fun t => by
  rw [bigSep_W0, bigSep_W0]
  rw [show (datN V O b c).Φ t.castSucc = Φn c from rfl, show (datN V O b c).Φ t.succ = Φn c from rfl,
    show (datN V O b c).owesAt none t.succ = (datN V O b c).owesAt none t.castSucc from rfl]
  unfold Φn
  rw [scopedRest0_eq]
  iintro ⟨⟨⟨%f4, HS⟩, Hrest⟩, Howes, ⟨%d0, Ho0⟩, ⟨%d1, Ho1⟩, ⟨%d2, Ho2⟩, ⟨%d3, Ho3⟩⟩
  ihave H0 := (Entails.of_eq (owns_0 c (cfg0.slots t 0) _)) $$ Ho0
  ihave H1 := (Entails.of_eq (owns_1 c (cfg0.slots t 1) _)) $$ Ho1
  ihave H2 := (Entails.of_eq (owns_2 c (cfg0.slots t 2) _)) $$ Ho2
  ihave H3 := (Entails.of_eq (owns_3 c (cfg0.slots t 3) _)) $$ Ho3
  icases H0 with ⟨%f0, %hf0, H0⟩
  icases H1 with ⟨%f1, %hf1, H1⟩
  icases H2 with ⟨%f2, -, H2⟩
  icases H3 with ⟨%f3, -, H3⟩
  rw [beforeN_0] at hf0
  rw [beforeN_1] at hf1
  iapply (topkRun' c (grid0.coords t) (cfg0.slots t 0) (cfg0.slots t 1) (cfg0.slots t 2) (cfg0.slots t 3) f0 f1 f2 f3 f4 (rowsIn V c t) (allIn V c t) hf0 hf1 Set.univ _)
  isplitl [H0]; · iexact H0
  isplitl [H1]; · iexact H1
  isplitl [H2]; · iexact H2
  isplitl [H3]; · iexact H3
  isplitl [HS]; · iexact HS
  iintro ⟨H0, H1, H2, H3, H4⟩
  isplitl [H4 Hrest]
  · isplitl [H4]; · iexact H4
    iexact Hrest
  isplitl [Howes]; · iexact Howes
  isplitl [H0]
  · iapply (Entails.of_eq (owns_0 c (cfg0.slots t 0) _).symm)
    iexists f0; isplitr; swap; (· iexact H0); ipureintro; exact hf0
  isplitl [H1]
  · iapply (Entails.of_eq (owns_1 c (cfg0.slots t 1) _).symm)
    iexists f1; isplitr; swap; (· iexact H1); ipureintro; exact hf1
  isplitl [H2]
  · iapply (Entails.of_eq (owns_2 c (cfg0.slots t 2) _).symm)
    iexact H2
  iapply (Entails.of_eq (owns_3 c (cfg0.slots t 3) _).symm)
  iexact H3

/-! ## The arrays the region leaves -/

/-- Rows `256 q … 256 q + 255` of an array of rows. -/
def rowsOf (X : S4096x128.Idx → Elt F .f32) (q : ℕ) (hq : q < 16) : S256x128.Idx → Elt F .f32 :=
  VecWindow.window X ![256 * q, 0] S256x128.size (fun
    | 0 => by show 256 * q + 256 ≤ 4096; omega
    | 1 => by show 0 + 128 ≤ 128; omega)

/-- A row of the result and its column, in the block of 256 rows that holds it. -/
def inRows (y : S4096x8.Idx) : S256x8.Idx := fun
  | 0 => ⟨(y 0).val % 256, Nat.mod_lt _ (by decide)⟩
  | 1 => y 1
  | ⟨_ + 2, h⟩ => absurd h (Nat.not_lt.2 (Nat.le_add_left _ _))

/-- The distances of the rows of a row's block. -/
def dOf (X : S4096x128.Idx → Elt F .f32) (y : S4096x8.Idx) : S256x4096.Idx → Elt F .f32 :=
  dmat (rowsOf X ((y 0).val / 256) (by have : (y 0).val < 4096 := (y 0).isLt; omega)) X

/-- The neighbours' array, of the rows. -/
def nearIdx (X : S4096x128.Idx → Elt F .f32) : S4096x8.Idx → Elt F .i32 := fun y => idxBlk (dOf X y) (inRows y)
/-- The LID array, of the rows. -/
def nearLid (X : S4096x128.Idx → Elt F .f32) : S4096x8.Idx → Elt F .f32 := fun y => lidBlk (dOf X y) (inRows y)

theorem allIn_eq (c : Dev nD) (t : Fin cfg0.N) : allIn V c t = V c main_arg0 := by
  funext x
  refine congrArg (V c main_arg0) (funext fun a => Fin.ext ?_)
  exact Pipeline.Window.rect_emb_val_of_index_zero (cfg0.win 1) t a (show (cfg0.win 1).index t a = 0 from by revert a; revert t; decide +kernel) x

theorem rowsIn_eq (c : Dev nD) (t : Fin cfg0.N) (q : ℕ) (hq : q < 16) (h : q = t.val) : rowsIn V c t = rowsOf (V c main_arg0) q hq := by
  funext x
  unfold rowsOf VecWindow.window
  subst h
  have i0 : (cfg0.win 0).index t 0 = t.val := by revert t; decide +kernel
  have i1 : (cfg0.win 0).index t 1 = 0 := by revert t; decide +kernel
  refine congrArg (V c main_arg0) (funext fun a => Fin.ext ?_)
  refine (Pipeline.Window.rect_emb_val (cfg0.win 0) t x a).trans ?_
  fin_cases a
  · show (cfg0.win 0).index t 0 * 256 + (x 0).val = 256 * t.val + 1 * (x 0).val
    rw [i0, Nat.mul_comm, Nat.one_mul]
  · show (cfg0.win 0).index t 1 * 128 + (x 1).val = 0 + 1 * (x 1).val
    rw [i1, Nat.zero_mul, Nat.one_mul]

theorem arrN_idx (c : Dev nD) : (datN V O b c).arrAt 2 cfg0.N = nearIdx (V c main_arg0) := by
  refine (datN V O b c).arrAt_eq_of_covers 2 _ (by decide +kernel) fun t hf y => ?_
  blk_simp
  have i0 : (cfg0.win 2).index t 0 = t.val := by revert t; decide +kernel
  have i1 : (cfg0.win 2).index t 1 = 0 := by revert t; decide +kernel
  have e0 : (((win0_2.blk t).view.emb y : S4096x8.Idx) 0).val = t.val * 256 + (y 0).val :=
    (Pipeline.Window.rect_emb_val (cfg0.win 2) t y 0).trans (by rw [i0]; rfl)
  have e1 : (((win0_2.blk t).view.emb y : S4096x8.Idx) 1).val = (y 1).val :=
    (Pipeline.Window.rect_emb_val (cfg0.win 2) t y 1).trans (by rw [i1, Nat.zero_mul, Nat.zero_add])
  have hy : (y 0).val < 256 := (y 0).isLt
  show idxBlk (dmat (rowsIn V c t) (allIn V c t)) y = _
  unfold nearIdx dOf
  rw [allIn_eq, rowsIn_eq V c t _ _ (show (((win0_2.blk t).view.emb y : S4096x8.Idx) 0).val / 256 = t.val by omega)]
  refine congrArg _ (funext fun a => Fin.ext ?_)
  fin_cases a
  · show (y 0).val = (((win0_2.blk t).view.emb y : S4096x8.Idx) 0).val % 256
    omega
  · exact e1.symm

theorem arrN_lid (c : Dev nD) : (datN V O b c).arrAt 3 cfg0.N = nearLid (V c main_arg0) := by
  refine (datN V O b c).arrAt_eq_of_covers 3 _ (by decide +kernel) fun t hf y => ?_
  blk_simp
  have i0 : (cfg0.win 3).index t 0 = t.val := by revert t; decide +kernel
  have i1 : (cfg0.win 3).index t 1 = 0 := by revert t; decide +kernel
  have e0 : (((win0_3.blk t).view.emb y : S4096x8.Idx) 0).val = t.val * 256 + (y 0).val :=
    (Pipeline.Window.rect_emb_val (cfg0.win 3) t y 0).trans (by rw [i0]; rfl)
  have e1 : (((win0_3.blk t).view.emb y : S4096x8.Idx) 1).val = (y 1).val :=
    (Pipeline.Window.rect_emb_val (cfg0.win 3) t y 1).trans (by rw [i1, Nat.zero_mul, Nat.zero_add])
  have hy : (y 0).val < 256 := (y 0).isLt
  show lidBlk (dmat (rowsIn V c t) (allIn V c t)) y = _
  unfold nearLid dOf
  rw [allIn_eq, rowsIn_eq V c t _ _ (show (((win0_3.blk t).view.emb y : S4096x8.Idx) 0).val / 256 = t.val by omega)]
  refine congrArg _ (funext fun a => Fin.ext ?_)
  fin_cases a
  · show (y 0).val = (((win0_3.blk t).view.emb y : S4096x8.Idx) 0).val % 256
    omega
  · exact e1.symm

end Cert.Proof.WholeRun

end
-- ==== Proof.WholeLoss.lean ====
/-
  The loss call of `WholeIdeal` (a gridless TensorCore region): its body run by the executor with the value it stores, its proof
  data and its region over the thread state "every unscoped buffer at a valuation".
-/
module

public import proofs.«01_k».proof.Proof.WholeNear
public import proofs.«01_k».proof.Proof.Gen.WholeIdeal.Launch
public import Idealize.ShloMosaic.Lib.Pipeline.RegionsLoop
public import Idealize.ShloMosaic.Lib.Pipeline.ValueKit.Geometry
public import Idealize.ShloMosaic.Lib.VecWindow
public import Idealize.ShloMosaic.Lib.Writes
public import Idealize.ShloMosaic.Lib.Tactic

@[expose] public section

noncomputable section

namespace Cert.Proof.WholeRun

open Cert.WholeIdeal Cert.WholeIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The value of the loss call -/

/-- Columns `k … k + 63` of the gathered rows' array. -/
def colsAt (k : Fin 2 → ℕ) (h : ∀ a, k a + S4096x64.size a ≤ S4096x640.size a) (g : S4096x640.Idx → F .f32) : FVec F S4096x64 .f32 :=
  fun x => g ((Rect.unit (s := S4096x640) k S4096x64.size h).emb x)

/-- The first column of the given LID values. -/
def col0 (l : S4096x8.Idx → F .f32) : FVec F S4096x1 .f32 :=
  fun x => l ((Rect.unit (s := S4096x8) ![0, 0] S4096x1.size inb_S4096x8_S4096x1_0_0).emb x)

/-- What the loss call stores, of its three arrays. -/
def lossVal (z : S4096x64.Idx → F .f32) (g : S4096x640.Idx → F .f32) (l : S4096x8.Idx → F .f32) : FVec F S1x1 .f32 :=
  k2_pay1 (k2_pay3 z (colsAt ![0, 0] inb_S4096x640_S4096x64_0_0 g)) (k2_pay4 z (colsAt ![0, 128] inb_S4096x640_S4096x64_0_128 g))
    (k2_pay5 z (k2_pay2 z) (colsAt ![0, 256] inb_S4096x640_S4096x64_0_256 g)) (k2_pay6 z (k2_pay2 z) (colsAt ![0, 384] inb_S4096x640_S4096x64_0_384 g))
    (k2_pay8 z (colsAt ![0, 512] inb_S4096x640_S4096x64_0_512 g)) (k2_pay9 (k2_pay2 z) (colsAt ![0, 512] inb_S4096x640_S4096x64_0_512 g)) (col0 l)

/-- The loss body, from its four staging buffers: the result's holds the loss's value after it. -/
theorem lossRun (c : Dev nD) (z : S4096x64.Idx → F .f32) (g : S4096x640.Idx → F .f32) (l : S4096x8.Idx → F .f32) (f3 : Bf (F := F) c (stage2_3 0))
   (E : Set ℕ) (Q : PUnit → sProp 𝕄) :
        iprop(pt c (stage2_0 0) z ∗ pt c (stage2_1 0) g ∗ pt c (stage2_2 0) l ∗ pt c (stage2_3 0) f3
            ∗ (iprop(pt c (stage2_0 0) z ∗ pt c (stage2_1 0) g ∗ pt c (stage2_2 0) l ∗ pt c (stage2_3 0) (lossVal z g l)) -∗ Q ⟨⟩))
          ⊢ wp frame (wpE (defs₀ (F := F)) Variants.none c none) E
              (cc2__lid_loss_body (stage2_0 0) (hstage2_0 0) (stage2_1 0) (hstage2_1 0) (stage2_2 0) (hstage2_2 0) (stage2_3 0) (hstage2_3 0)) Q := by
  rw [cc2__lid_loss_body_eq_skeleton]
  unfold cc2__lid_loss_body_skel
  rw [k2_part1_eq_skeleton, k2_part2_eq_skeleton]
  unfold k2_part1_skel k2_part2_skel
  iintro ⟨H0, H1, H2, H3, Hk⟩
  sl_exec!
  sl_step
  iapply Hk
  isplitl [H0]; · iexact H0
  isplitl [H1]; · iexact H1
  isplitl [H2]; · iexact H2
  rw [show (stage2_3 0).view.writes (Elt F) (stage2_3 0).view.junk (lossRun.sl.H3_1 z g l) = lossVal z g l from by
    have ez : View.readAt (Elt F) (stage2_0 0).view (Rect.unit ![0, 0] S4096x64.size inb_S4096x64_S4096x64_0_0).toLoadRect z = z :=
      Memref.readAt_unit_zero (Elt F) cc2_stg0_0 (by decide) _ z
    unfold lossRun.sl.H3_1 lossVal
    rw [ez]
    funext y
    have h := View.read_writes_cons_emb (Val := Elt F) (stage2_3 0).view (stage2_3 0).view.junk (Rect.unit (s := S1x1) ![0, 0] S1x1.size inb_S1x1_S1x1_0_0)
      (lossVal z g l) [] y
    rw [Rect.emb_unit_full] at h
    exact h]
  iexact H3

/-! ## The proof data, at an entry valuation -/

variable (V : (c : Dev nD) → (b : Ref sig .tc) → Buf (Elt F) ((c : Thread nD τ).loc b))

/-- The windows' blocks as the fetches stage them: the arrays at the entry valuation. -/
abbrev stg0 (c : Dev nD) : (cfg2.win 0).block.Idx → Elt F (cfg2.win 0).elt := ((cfg2.win 0).blk t2_0).view.read (Elt F) (V c main_arg1)
abbrev stg1 (c : Dev nD) : (cfg2.win 1).block.Idx → Elt F (cfg2.win 1).elt := ((cfg2.win 1).blk t2_0).view.read (Elt F) (V c main_v6)
abbrev stg2 (c : Dev nD) : (cfg2.win 2).block.Idx → Elt F (cfg2.win 2).elt := ((cfg2.win 2).blk t2_0).view.read (Elt F) (V c main_v0_1)

/-- The invariant between the region's ends: the scoped buffers the pipeline does not stage. -/
abbrev Φc (c : Dev nD) : sProp 𝕄 := Pipeline.scopedRest (Ix := HIx 1) (Name := ℕ) (U := UU) (Lvl := ℕ) (Val := Elt F) spec2 c

-- what the core owes meanwhile (nothing at the copies' own index), and a bound on the levels of the waits it has recorded
variable (O : Dev nD → CellTallies nD τ sig (HIx 1)) (b : ℕ)

/-- The proof data of the loss region entered at valuation `V`. -/
def dat (c : Dev nD) : Dat τ (Elt F) (HIx 1) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => lossVal (stg0 V c) (stg1 V c) (stg2 V c)
  Φ _ := Φc c
  q _ := fullShare
  owed _ := O c
  recorded _ := {p | (K (F := F)).lev (SparseCore.T c, p.1) p.2 ≤ b}

theorem before_0 (c : Dev nD) (d : (cfg2.win 0).block.Idx → Elt F (cfg2.win 0).elt) : (dat V O b c).before 0 t2_0 d = stg0 V c := by
  unfold Dat.before; rw [if_pos (by decide)]; rfl
theorem before_1 (c : Dev nD) (d : (cfg2.win 1).block.Idx → Elt F (cfg2.win 1).elt) : (dat V O b c).before 1 t2_0 d = stg1 V c := by
  unfold Dat.before; rw [if_pos (by decide)]; rfl
theorem before_2 (c : Dev nD) (d : (cfg2.win 2).block.Idx → Elt F (cfg2.win 2).elt) : (dat V O b c).before 2 t2_0 d = stg2 V c := by
  unfold Dat.before; rw [if_pos (by decide)]; rfl

/-- The loss body at its one point, from the staged blocks to the stored value. -/
theorem body_obligation (c : Dev nD) : BodyObligation (dat V O b c) (defs₀ (F := F)) 𝒱₀ none Set.univ := fun t => by
  obtain rfl := fin_N2 t
  rw [bigSep_W2, bigSep_W2]
  simp only [owns_whole_eq]
  rw [show (dat V O b c).Φ t2_0.castSucc = Φc c from rfl, show (dat V O b c).Φ t2_0.succ = Φc c from rfl,
    show (dat V O b c).owesAt none t2_0.succ = (dat V O b c).owesAt none t2_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0; subst hf1; subst hf2
  iapply (lossRun c (stg0 V c) (stg1 V c) (stg2 V c) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

variable (V₀ : (c : Dev nD) → (b : Ref sig .tc) → Buf (Elt F) ((c : Thread nD τ).loc b))
variable (O₀ : Dev nD → CellTallies nD τ sig (HIx 1)) (b₀ : ℕ)
variable (adm : (p : Fin 2) → (pcfgs (F := F) p).Adm)

/-- The two regions' proof data. -/
def pdats : (p : Fin 2) → (c : Dev nD) → Dat τ (Elt F) (HIx 1) ℕ UU ℕ (Pipeline.pin (pcfgs (F := F)) adm p) c
  | ⟨0, _⟩ => fun c => datN V₀ O₀ b₀ c
  | ⟨1, _⟩ => fun c => dat V O b c

/-! ## The region over the thread state -/

/-- The TensorCore's unscoped references. -/
def ucRefs : Finset (DevRef τ sig) := (StableHlo.tcRefs τ sig).filter fun b => ¬ b.isScoped

omit [FloatOps F] in
/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The stored value as the arrays hold it: of the arrays at the entry valuation. -/
theorem arrAt_out (c : Dev nD) : (dat V O b c).arrAt 3 cfg2.N = lossVal (V c main_arg1) (V c main_v6) (V c main_v0_1) := by
  refine (dat V O b c).arrAt_eq_of_after_last 3 t2_0 (by decide +kernel) _ fun j => ?_
  blk_simp
  have e0 : stg0 V c = V c main_arg1 := by
    funext x
    refine congrArg (V c main_arg1) (funext fun a => Fin.ext ?_)
    exact Pipeline.Window.rect_emb_val_of_index_zero (cfg2.win 0) t2_0 a (show (cfg2.win 0).index t2_0 a = 0 from by revert a; decide +kernel) x
  have e1 : stg1 V c = V c main_v6 := by
    funext x
    refine congrArg (V c main_v6) (funext fun a => Fin.ext ?_)
    exact Pipeline.Window.rect_emb_val_of_index_zero (cfg2.win 1) t2_0 a (show (cfg2.win 1).index t2_0 a = 0 from by revert a; decide +kernel) x
  have e2 : stg2 V c = V c main_v0_1 := by
    funext x
    refine congrArg (V c main_v0_1) (funext fun a => Fin.ext ?_)
    exact Pipeline.Window.rect_emb_val_of_index_zero (cfg2.win 2) t2_0 a (show (cfg2.win 2).index t2_0 a = 0 from by revert a; decide +kernel) x
  dsimp only [dat]
  rw [e0, e1, e2]

-- the valuation the region leaves: the loss's array at the value, the rest as entered
variable (Vp : (c : Dev nD) → (b : Ref sig .tc) → Buf (Elt F) ((c : Thread nD τ).loc b))

/-- What the core owes, with its recorded waits' levels at most `b`. -/
abbrev owing (c : Dev nD) : sProp 𝕄 := iprop(∃ W, ⌜(K (F := F)).WBelow (SparseCore.T c) W b⌝ ∗ owes (c : Thread nD τ) (O c) W)

set_option backward.isDefEq.respectTransparency.types false in
/-- The loss region, from the unscoped buffers at `V` to them at `Vp`. -/
def reg (hO : ∀ c g, O c g none = 0) (hVp_out : ∀ c, Vp c main_v7 = lossVal (V c main_arg1) (V c main_v6) (V c main_v0_1))
    (hVp_ne : ∀ c (r : Ref sig .tc), r ≠ main_v7 → Vp c r = V c r) :
    Pipeline.RegionSeg (pcfgs (F := F)) adm (pdats V O b V₀ O₀ b₀ adm) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body_obligation V O b c).loose
  hwaits c := Pipeline.cellsWaits_intro _ _ _ 1 c fun w s t => (K (F := F)).mayWait_none _ (hO c)
  pre c := iprop(unscopedBufs c (V c) ∗ owing O b c)
  post c := iprop(unscopedBufs c (Vp c) ∗ owing O b c)
  X _ := BI.emp
  Y _ := BI.emp
  Z c := iprop(Pipeline.unscopedRest (Ix := HIx 1) (Name := ℕ) (U := UU) (Lvl := ℕ) spec2 c (V c))
  hentry c := by
    rw [Pipeline.ownSems0_none]
    have hsplit := Pipeline.arrays_of_unscopedBufs (p := 1) (pcfgs (F := F)) adm (pdats V O b V₀ O₀ b₀ adm) (launch2).win (launch2).arr_whole c
      ((pdats V O b V₀ O₀ b₀ adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b V₀ O₀ b₀ adm 1 c).Φ 0 = Φc c from rfl]
    iintro ⟨-, -, Hr⟩; iexact Hr
  hout c := by
    rw [Pipeline.ownSems0_none, show (pdats V O b V₀ O₀ b₀ adm 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V O b V₀ O₀ b₀ adm) ((pdats V O b V₀ O₀ b₀ adm 1 c).share_full fun _ => rfl) (V c) (Vp c) ((pdats V O b V₀ O₀ b₀ adm 1 c).arrAt · cfg2.N)
      (fun w => by
        fin_cases w
        · exact ((pdats V O b V₀ O₀ b₀ adm 1 c).arrAt_in 0 rfl _).trans (hVp_ne c main_arg1 (by decide)).symm
        · exact ((pdats V O b V₀ O₀ b₀ adm 1 c).arrAt_in 1 rfl _).trans (hVp_ne c main_v6 (by decide)).symm
        · exact ((pdats V O b V₀ O₀ b₀ adm 1 c).arrAt_in 2 rfl _).trans (hVp_ne c main_v0_1 (by decide)).symm
        · exact (arrAt_out V O b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in
/-- The neighbour region, from the unscoped buffers at `V` to them at `Vp`. -/
def regN (hO : ∀ c g, O₀ c g none = 0) (hVp_idx : ∀ c, Vp c main_v0_0 = nearIdx (V₀ c main_arg0)) (hVp_lid : ∀ c, Vp c main_v0_1 = nearLid (V₀ c main_arg0))
    (hVp_ne : ∀ c (r : Ref sig .tc), r ≠ main_v0_0 → r ≠ main_v0_1 → Vp c r = V₀ c r) :
    Pipeline.RegionSeg (pcfgs (F := F)) adm (pdats V O b V₀ O₀ b₀ adm) none defs₀ 𝒱₀ (K (F := F)).L (K (F := F)).lev 0 where
  win := winFacts₀0
  block_pos := block_pos0
  stage_whole := stage_whole0
  K := PEmpty
  osem k := k.elim
  ho := Pipeline.OwnSemFacts.none _
  hbody c := (bodyN V₀ O₀ b₀ c).loose
  hwaits c := Pipeline.cellsWaits_intro _ _ _ 0 c fun w s t => (K (F := F)).mayWait_none _ (hO c)
  pre c := iprop(unscopedBufs c (V₀ c) ∗ owing O₀ b₀ c)
  post c := iprop(unscopedBufs c (Vp c) ∗ owing O₀ b₀ c)
  X _ := BI.emp
  Y _ := BI.emp
  Z c := iprop(Pipeline.unscopedRest (Ix := HIx 1) (Name := ℕ) (U := UU) (Lvl := ℕ) spec0 c (V₀ c))
  hentry c := by
    rw [Pipeline.ownSems0_none]
    have hsplit := Pipeline.arrays_of_unscopedBufs_shared (p := 0) (pcfgs (F := F)) adm (pdats V O b V₀ O₀ b₀ adm) winFacts₀0 sharedIn0 arr_whole0 c
      (fun _ _ => rfl) (V₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b V₀ O₀ b₀ adm 0 c).Φ 0 = Φn c from rfl]
    iintro ⟨-, -, Hr⟩; iexact Hr
  hout c := by
    rw [Pipeline.ownSems0_none, show (pdats V O b V₀ O₀ b₀ adm 0 c).Φ (Fin.last _) = Φn c from rfl]
    iintro Hr
    isplitr; · iempintro
    isplitr; · iempintro
    iexact Hr
  hexit c := by
    have hjoin := Pipeline.unscopedBufs_of_arrays_shared (p := 0) (pcfgs (F := F)) adm (Ix := HIx 1) (Name := ℕ) (U := UU) (Lvl := ℕ) winFacts₀0 sharedIn0 arr_whole0 c
      (pdats V O b V₀ O₀ b₀ adm) (fun _ _ => rfl) (V₀ c) (Vp c) ((pdats V O b V₀ O₀ b₀ adm 0 c).arrAt · cfg0.N)
      (fun w => by
        fin_cases w
        · exact ((pdats V O b V₀ O₀ b₀ adm 0 c).arrAt_in 0 rfl _).trans (hVp_ne c main_arg0 (by decide) (by decide)).symm
        · exact ((pdats V O b V₀ O₀ b₀ adm 0 c).arrAt_in 1 rfl _).trans (hVp_ne c main_arg0 (by decide) (by decide)).symm
        · exact (arrN_idx V₀ O₀ b₀ c).trans (hVp_idx c).symm
        · exact (arrN_lid V₀ O₀ b₀ c).trans (hVp_lid c).symm)
      (fun r hr => hVp_ne c r (fun h => hr (h ▸ Finset.mem_image.mpr ⟨2, Finset.mem_univ _, rfl⟩))
        fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.WholeRun

end
-- ==== Proof.WholeMain.lean ====
/-
  The run of `WholeIdeal`: its @main — the neighbour call, host operations, the SparseCore call, a reshape, the loss call, a
  reshape — stepped from the launch memory, every unscoped buffer carried at a valuation, and the launch. Stated with the
  values: the final memory's unscoped buffers are the valuation `Wend` computed from the launch memory.
-/
module

public import proofs.«01_k».proof.Proof.WholeLoss
public import Idealize.ShloMosaic.Lib.StableHlo.RunRead

@[expose] public section

noncomputable section

namespace Cert.Proof.WholeRun

open Cert.WholeIdeal Cert.WholeIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 1) (Elt F) ℕ UU ℕ

/-! ## @main as host operations around the two calls -/

/-- The host operations before the SparseCore call. -/
abbrev hostOps0 : List (HloOp τ sig (Elt F)) :=
  [(StableHlo.unary main_v0_0 main_v1 ((extractStridedSlice S4096x5 ![0, 0] · slices_S4096x8_S4096x5_0_0) : (⟨S4096x8, .i32⟩ : BufTy).Contents (Elt F) → (⟨S4096x5, .i32⟩ : BufTy).Contents (Elt F))),
    (StableHlo.reshape main_v1 main_v2 (rfl : (.i32 : EltTy) = .i32) shapeCasts_S4096x5_S20480),
    (StableHlo.nullary main_cst (constant S_ .f32 0x00000000#32)),
    (StableHlo.unary main_cst main_v3 (broadcastInDim S4096x64 ![] bcast_S_S4096x64 : (⟨S_, .f32⟩ : BufTy).Contents (Elt F) → (⟨S4096x64, .f32⟩ : BufTy).Contents (Elt F))),
    (StableHlo.binary main_arg1 main_v3 main_v4 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)))]

/-- The host operations between the SparseCore call and the loss. -/
abbrev hostOps1 : List (HloOp τ sig (Elt F)) :=
  [(StableHlo.reshape main_v5 main_v6 (rfl : (.f32 : EltTy) = .f32) shapeCasts_S20480x128_S4096x640)]

/-- The host operations after the loss. -/
abbrev hostOps2 : List (HloOp τ sig (Elt F)) :=
  [(StableHlo.reshape main_v7 main_v8 (rfl : (.f32 : EltTy) = .f32) shapeCasts_S1x1_S_)]

theorem main_eq (d : Dev nD) : main (F := F) d =
    (Prog.lift (.customCall (SparseCore.inner (Pipeline.entry 0)) ()) >>= fun _ => StableHlo.seq hostOps0 >>= fun _ => sc.run d 0 >>= fun _ =>
      StableHlo.seq hostOps1 >>= fun _ => Prog.lift (.customCall (SparseCore.inner (Pipeline.entry 1)) ()) >>= fun _ => StableHlo.seq hostOps2) := by
  simp only [main, StableHlo.seq, bind_assoc, pure_bind]

/-! ## The valuations along @main -/

variable (m : (ℓ : Loc nD τ sig) → Buf (Elt F) ℓ)

/-- The launch memory, on device `d`. -/
abbrev Wini (d : Dev nD) : Valuation τ sig (Elt F) := fun b => m (d, b)
/-- After the neighbour call. -/
def W0 (d : Dev nD) : Valuation τ sig (Elt F) :=
  Function.update (Function.update (Wini m d) (Proc.devRef .tc main_v0_0) (nearIdx (Wini m d main_arg0))) (Proc.devRef .tc main_v0_1) (nearLid (Wini m d main_arg0))
/-- After the first host operations. -/
abbrev W1 (d : Dev nD) : Valuation τ sig (Elt F) := after hostOps0 (W0 m d)
/-- The SparseCore call's table, index list and its result before the call. -/
abbrev tabM (d : Dev nD) : Buf (Elt F) (tLoc d) := W1 m d main_v4
abbrev idxM (d : Dev nD) : Buf (Elt F) (iLoc d) := W1 m d main_v2
abbrev outM (d : Dev nD) : Buf (Elt F) (oLoc d) := W1 m d main_v5
/-- After the SparseCore call. -/
def W2 (d : Dev nD) : Valuation τ sig (Elt F) := Function.update (W1 m d) (Proc.devRef .tc main_v5) (gathered (tabM m d) (idxM m d))
/-- After the reshape. -/
abbrev W3 (d : Dev nD) : Valuation τ sig (Elt F) := after hostOps1 (W2 m d)
/-- After the loss call. -/
def W4 (d : Dev nD) : Valuation τ sig (Elt F) :=
  Function.update (W3 m d) (Proc.devRef .tc main_v7) (lossVal (W3 m d main_arg1) (W3 m d main_v6) (W3 m d main_v0_1))
/-- At the end. -/
abbrev Wend (d : Dev nD) : Valuation τ sig (Elt F) := after hostOps2 (W4 m d)

theorem W0_idx (d : Dev nD) : W0 m d main_v0_0 = nearIdx (Wini m d main_arg0) :=
  (Function.update_of_ne (StableHlo.devRef_ne_of_ne (by decide)) ..).trans (Function.update_self ..)
theorem W0_lid (d : Dev nD) : W0 m d main_v0_1 = nearLid (Wini m d main_arg0) := Function.update_self ..
theorem W0_ne (d : Dev nD) (b : Ref sig .tc) (h : b ≠ main_v0_0) (h' : b ≠ main_v0_1) : W0 m d b = Wini m d b :=
  (Function.update_of_ne (StableHlo.devRef_ne_of_ne h') ..).trans (Function.update_of_ne (StableHlo.devRef_ne_of_ne h) ..)

theorem W4_out (d : Dev nD) : W4 m d main_v7 = lossVal (W3 m d main_arg1) (W3 m d main_v6) (W3 m d main_v0_1) := Function.update_self ..
theorem W4_ne (d : Dev nD) (b : Ref sig .tc) (h : b ≠ main_v7) : W4 m d b = W3 m d b :=
  Function.update_of_ne (StableHlo.devRef_ne_of_ne h) ..

/-! ## The unscoped buffers around the SparseCore call -/

/-- The buffers the SparseCore call addresses. -/
def scRefs : Finset (DevRef τ sig) := {Proc.devRef .tc main_v2, Proc.devRef .tc main_v4, Proc.devRef .tc main_v5}
theorem scRefs_sub : scRefs ⊆ ucRefs := by decide +kernel

omit [FloatOps F] in
theorem held_scRefs (d : Dev nD) (W : Valuation τ sig (Elt F)) :
    (held (d : Thread nD τ) scRefs W : sProp 𝕄)
      = iprop((iLoc d ↦{fullShare} W main_v2) ∗ (tLoc d ↦{fullShare} W main_v4) ∗ oLoc d ↦{fullShare} W main_v5) := by
  unfold StableHlo.held scRefs
  rw [SparseCore.bigSep_insert' (by decide), SparseCore.bigSep_insert' (by decide), bigSep_singleton]

omit [FloatOps F] in
theorem held_ucRefs_split (d : Dev nD) (W : Valuation τ sig (Elt F)) :
    (held (d : Thread nD τ) ucRefs W : sProp 𝕄)
      = iprop(held (d : Thread nD τ) scRefs W ∗ held (d : Thread nD τ) (ucRefs \ scRefs) W) := by
  unfold StableHlo.held
  exact bigSep_sdiff_split scRefs_sub

omit [FloatOps F] in
theorem held_rest_congr (d : Dev nD) (W W' : Valuation τ sig (Elt F)) (h : ∀ b, b ∉ scRefs → W' b = W b) :
    (held (d : Thread nD τ) (ucRefs \ scRefs) W : sProp 𝕄) = held (d : Thread nD τ) (ucRefs \ scRefs) W' := by
  unfold StableHlo.held
  exact bigSep_congr fun b hb => by rw [h b (Finset.mem_sdiff.mp hb).2]

/-- After the SparseCore call, the buffers it was handed and the rest make the unscoped buffers at the next valuation. -/
theorem held_after_call (d : Dev nD) :
    (iprop((iPts (idxM m) d ∗ xPts (tabM m) d ∗ oPts d (gathered (tabM m d) (idxM m d))) ∗ held (d : Thread nD τ) (ucRefs \ scRefs) (W1 m d)) : sProp 𝕄)
      = held (d : Thread nD τ) ucRefs (W2 m d) := by
  rw [held_ucRefs_split d (W2 m d), held_scRefs, held_rest_congr d (W1 m d) (W2 m d) fun b hb =>
    Function.update_of_ne (fun h => hb (by rw [h]; unfold scRefs; simp)) ..]
  rw [show W2 m d main_v2 = idxM m d from Function.update_of_ne (StableHlo.devRef_ne_of_ne (by decide)) ..,
    show W2 m d main_v4 = tabM m d from Function.update_of_ne (StableHlo.devRef_ne_of_ne (by decide)) ..,
    show W2 m d main_v5 = gathered (tabM m d) (idxM m d) from Function.update_self ..]

/-! ## The launch element of the certificate's ghost state -/

/-- The regions have no prefetched table. -/
abbrev admK (p : Fin 2) : (pcfgs (F := F) p).Adm := (cfgs p).toPCfg_adm
abbrev pinned : Fin 2 → Pipeline.Cfg sig Λ₀ := Pipeline.pin (pcfgs (F := F)) admK

theorem pin_inj : Function.Injective (Pipeline.cellOf (nD := nD) (τ := τ) (pinned (F := F))) := cellOf_inj

def u₀ : UU := (initOf (K (F := F)).hsCells (K (F := F)).hsToks,
  (initOf (Pipeline.cells (pinned (F := F)) (pin_inj (F := F))) (Pipeline.launchToks (pinned (F := F)) (pin_inj (F := F))), 1))

/-- What @main on device `d` is dealt for its regions. -/
abbrev G (d : Dev nD) : sProp 𝕄 :=
  iprop((bigSep Finset.univ fun p : Fin 2 => Pipeline.cellsGhost (pinned (F := F)) EP p d) ∗ bigSep Finset.univ fun p : Fin 2 => Pipeline.toksInit (pinned (F := F)) EP p d)

omit [FloatOps F] in
theorem two_regions (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem sub0 : ∀ op ∈ (hostOps0 (F := F)), op.bufs ⊆ ucRefs := by
  intro op h
  fin_cases h <;> refine sub_ucRefs _ ?_ <;> simp only [StableHlo.unary_bufs, StableHlo.nullary_bufs, StableHlo.binary_bufs, StableHlo.reshape_bufs] <;> decide
theorem sub1 : ∀ op ∈ (hostOps1 (F := F)), op.bufs ⊆ ucRefs := by
  intro op h; fin_cases h <;> refine sub_ucRefs _ ?_ <;> simp only [StableHlo.reshape_bufs] <;> decide
theorem sub2 : ∀ op ∈ (hostOps2 (F := F)), op.bufs ⊆ ucRefs := by
  intro op h; fin_cases h <;> refine sub_ucRefs _ ?_ <;> simp only [StableHlo.reshape_bufs] <;> decide
theorem fresh0 : ∀ op ∈ (hostOps0 (F := F)), op.fresh = ∅ := by intro op h; fin_cases h <;> rfl
theorem fresh1 : ∀ op ∈ (hostOps1 (F := F)), op.fresh = ∅ := by intro op h; fin_cases h <;> rfl
theorem fresh2 : ∀ op ∈ (hostOps2 (F := F)), op.fresh = ∅ := by intro op h; fin_cases h <;> rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) (tabM m) (idxM m) (outM m)).x q thr) := by
  unfold u₀
  iintro Hu
  ihave H := (ownU_pair (initOf (K (F := F)).hsCells (K (F := F)).hsToks)
    ((initOf (Pipeline.cells (pinned (F := F)) (pin_inj (F := F))) (Pipeline.launchToks (pinned (F := F)) (pin_inj (F := F))), (1 : Counters)) : UP × Counters)) $$ Hu
  icases H with ⟨HH, HR⟩
  have hpair : (BI.own (embR ((initOf (Pipeline.cells (pinned (F := F)) (pin_inj (F := F))) (Pipeline.launchToks (pinned (F := F)) (pin_inj (F := F))), (1 : Counters)) : UP × Counters)) : sProp 𝕄)
      ⊢ iprop(BI.own (EP (initOf (Pipeline.cells (pinned (F := F)) (pin_inj (F := F))) (Pipeline.launchToks (pinned (F := F)) (pin_inj (F := F)))))
        ∗ BI.own (((Emb.inr : Emb Counters (UP × Counters)).trans embR : Emb Counters 𝕄) (1 : Counters))) :=
    by unfold EP; exact own_pair_emb (A := UP) (B := Counters) (embR : Emb (UP × Counters) 𝕄) _ _
  ihave H' := hpair $$ HR -- (initOf (Pipeline.cells (pinned (F := F)) (pin_inj (F := F))) (Pipeline.launchToks (pinned (F := F)) (pin_inj (F := F)))) (1 : Counters)) $$ HR
  icases H' with ⟨HP, -⟩
  imod (Pipeline.fund_ghost (pinned (F := F)) EP (pin_inj (F := F))) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) (tabM m) (idxM m) (outM m)).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## @main on the TensorCore -/

theorem owes_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

set_option backward.isDefEq.respectTransparency.types false in
/-- A line of host operations over the unscoped buffers, run to its end. -/
theorem line (d : Dev nD) (ops : List (HloOp τ sig (Elt F))) (h : ∀ op ∈ ops, op.bufs ⊆ ucRefs) (hf : ∀ op ∈ ops, op.fresh = ∅)
    (V : Valuation τ sig (Elt F)) (Φ : PUnit → sProp 𝕄) :
    iprop((boundary (SparseCore.T d : Thread nD τ) ∗ held (d : Thread nD τ) ucRefs V)
        ∗ ((boundary (SparseCore.T d : Thread nD τ) ∗ held (d : Thread nD τ) ucRefs (after ops V)) -∗ Φ ⟨⟩))
      ⊢ wp frame (wpE ((K (F := F)).defs (D (F := F))) 𝒱 (SparseCore.T d) none) Set.univ (StableHlo.seq ops) Φ := by
  have h0 := StableHlo.wp_seq (defs := (K (F := F)).defs (D (F := F))) 𝒱 none Set.univ d ucRefs (fun _ => .ret ⟨⟩) (K := Φ) ops h hf V
  rw [show (StableHlo.seq ops >>= fun _ => .ret ⟨⟩ : Prog (TpuEff nD τ sig (Elt F) _ .tc) PUnit) = StableHlo.seq ops from bind_pure _] at h0
  iintro ⟨Hs, Hk⟩
  iapply h0 $$ Hs
  iintro Hs
  rw [wp_ret]
  imodintro
  iapply Hk; iexact Hs

abbrev FIN (d : Dev nD) : sProp 𝕄 := held (d : Thread nD τ) ucRefs (Wend m d)

variable (ρ : Dev nD → PrngReg)

set_option backward.isDefEq.respectTransparency.types false in
/-- @main on device `d`'s TensorCore, from the launch memory to the final valuation. -/
theorem hmain (κ : GSem nD τ sig → ℕ) (d : Dev nD) :
    iprop((K (F := F)).ctx EH (P (F := F) (tabM m) (idxM m) (outM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  rw [show (unscopedBufs d (fun b => m ((SparseCore.T d).loc b)) : sProp 𝕄) = held (d : Thread nD τ) ucRefs (Wini m d) from
    unscopedBufs_held d (Wini m d)]
  unfold G
  rw [two_regions, two_regions]
  iintro ⟨#Hctx, Hst, ⟨Hb, Hu, Hts, -⟩, ⟨⟨Hcg0, Hcg⟩, ⟨Htk0, Htk⟩⟩⟩
  unfold SparseCore.Cfg.tcSt
  icases Hst with ⟨HO, Hst⟩
  iapply ((K (F := F)).wp_liftProg (D (F := F)) 𝒱 (SparseCore.T d) Set.univ none (.op (.customCall (Pipeline.entry 0) ()) .ret))
  iapply (Pipeline.RegionSeg.wp (pcfgs (F := F)) admK _ none pin_inj EP defs₀ 𝒱₀ (K (F := F)).L (K (F := F)).lev
    (regN (fun c b => W3 m c b) (fun c => (K (F := F)).Otc c 1) 8 (fun c b => Wini m c b) (fun c => (K (F := F)).Otc c 0) 0 admK (fun c b => W0 m c b) (fun c g => owes_none c 0 g) (W0_idx m) (W0_lid m) (W0_ne m)) d none (by simp) .ret _)
  isplitr [Hb Hu HO Hcg0 Htk0]
  rotate_left
  · isplitl [Hb]; · iexact Hb
    isplitl [Hu HO]
    · unfold regN
      isplitl [Hu]
      · iapply (Entails.of_eq (unscopedBufs_held d (Wini m d)).symm); iexact Hu
      iexact HO
    isplitr
    · iapply ((K (F := F)).ctx_levAts κ); iexact Hctx
    isplitl [Hcg0]; · iexact Hcg0
    iexact Htk0
  iintro ⟨Hb, Hpost⟩
  unfold regN
  icases Hpost with ⟨Hu, HO⟩
  rw [wp_ret]
  imodintro
  ihave Hu := (Entails.of_eq (unscopedBufs_held d (W0 m d))) $$ Hu
  iapply (line d hostOps0 sub0 fresh0 (W0 m d))
  isplitl [Hb Hu]
  · isplitl [Hb]; · iexact Hb
    iexact Hu
  iintro ⟨Hb, Hu⟩
  ihave Hu' := (Entails.of_eq ((held_ucRefs_split d (W1 m d)).trans (by rw [held_scRefs]))) $$ Hu
  icases Hu' with ⟨⟨Hi, Hx, Ho⟩, Hrest⟩
  iapply ((K (F := F)).wp_run (D (F := F)) 𝒱 (EH := EH) (P := P (F := F) (tabM m) (idxM m) (outM m)) κ d 0) $$ [HO Hst Hi Hx Ho Hb Hts Hrest Hcg Htk]
  isplitr; · iexact Hctx
  isplitl [HO Hst]
  · unfold SparseCore.Cfg.tcSt
    isplitl [HO]; · iexact HO
    iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (tabM m) (idxM m) (outM m) d)) $$ Hdn
  icases Hdn' with ⟨Hi, Hx, Ho⟩
  ihave Hu := (Entails.of_eq (held_after_call m d)) $$ [Hi Hx Ho Hrest]
  · isplitl [Hi Hx Ho]
    · isplitl [Hi]; · iexact Hi
      isplitl [Hx]; · iexact Hx
      iexact Ho
    iexact Hrest
  iapply (line d hostOps1 sub1 fresh1 (W2 m d))
  isplitl [Hb Hu]
  · isplitl [Hb]; · iexact Hb
    iexact Hu
  iintro ⟨Hb, Hu⟩
  unfold SparseCore.Cfg.tcSt
  icases Hst with ⟨HO, Hst⟩
  iapply ((K (F := F)).wp_liftProg (D (F := F)) 𝒱 (SparseCore.T d) Set.univ none (.op (.customCall (Pipeline.entry 1) ()) .ret))
  iapply (Pipeline.RegionSeg.wp (pcfgs (F := F)) admK _ none pin_inj EP defs₀ 𝒱₀ (K (F := F)).L (K (F := F)).lev
    (reg (fun c b => W3 m c b) (fun c => (K (F := F)).Otc c 1) 8 (fun c b => Wini m c b) (fun c => (K (F := F)).Otc c 0) 0 admK (fun c b => W4 m c b) (fun c g => owes_none c 1 g) (W4_out m) (W4_ne m)) d none (by simp) .ret _)
  isplitl [Hst Hts]
  · iintro ⟨Hb, Hpost⟩
    unfold reg
    icases Hpost with ⟨Hu, HO⟩
    rw [wp_ret]
    imodintro
    iapply (line d hostOps2 sub2 fresh2 (W4 m d))
    isplitl [Hb Hu]
    · isplitl [Hb]; · iexact Hb
      iapply (Entails.of_eq (unscopedBufs_held d (W4 m d))); iexact Hu
    iintro ⟨Hb, Hu⟩
    isplitl [HO Hst]
    · isplitl [HO]; · iexact HO
      iexact Hst
    isplitl [Hu]; · iexact Hu
    isplitl [Hb]; · iexact Hb
    iexact Hts
  isplitl [Hb]; · iexact Hb
  isplitl [Hu HO]
  · unfold reg
    isplitl [Hu]
    · iapply (Entails.of_eq (unscopedBufs_held d (W3 m d)).symm); iexact Hu
    iexact HO
  isplitr
  · iapply ((K (F := F)).ctx_levAts κ); iexact Hctx
  isplitl [Hcg]; · iexact Hcg
  iexact Htk

/-! ## The final memory, and the launch -/

/-- Every unscoped buffer holds the final valuation's contents. -/
def fq (d : Dev nD) (s' : Phys nD τ sig (Elt F)) : Prop := ∀ b ∈ ucRefs, s'.mem.mem (d, b) = Wend m d b

theorem hfin (d : Dev nD) (s' : Phys nD τ sig (Elt F)) : iprop(FIN m d ∗ SI s') ⊢ (⌜fq m d s'⌝ : sProp 𝕄) := by
  unfold fq
  have one : ∀ j : {b // b ∈ ucRefs}, iprop(FIN m d ∗ SI s') ⊢ (⌜s'.mem.mem (d, j.1) = Wend m d j.1⌝ : sProp 𝕄) := fun j => by
    have h1 : FIN m d ⊢ ((d, j.1) ↦{fullShare} Wend m d j.1 : sProp 𝕄) := bigSep_elim (Φ := fun b => ((d, b) ↦{fullShare} Wend m d b : sProp 𝕄)) j.2
    iintro ⟨HF, HSI⟩
    ihave HF' := h1 $$ HF
    ihave H := (SI_pointsTo_agree (st := s') (ℓ := (d, j.1)) (I := Finset.univ) (q := fullShare) (f := Wend m d j.1)) $$ [HSI HF']
    · isplitl [HSI] <;> iassumption
    icases H with %h2
    ipureintro; exact funext fun i => h2 i (Finset.mem_univ i)
  exact ((Laws.forall_intro one).trans Laws.pure_forall.2).trans (Laws.pure_mono fun all b hb => all ⟨b, hb⟩)

/-- The final memory of the run: on every device the unscoped buffers at the final valuation, the semaphores at zero. -/
def QC : PUnit × MemSt nD τ sig (Elt F) → Prop := fun r => (∀ d : Dev nD, ∀ b ∈ ucRefs, r.2.mem (d, b) = Wend m d b) ∧ r.2.sem = fun _ => 0

/-- From a launch memory whose index list is in range, the program runs to the final valuation. -/
theorem run_main [∀ e, Nonempty (Elt F e)] (hpre : PreOK (idxM m)) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P (tabM m) (idxM m) (outM m)) (A := ∅) facts v₀
    (fun q hq => match q with | 0 => nomatch hq)
    (fun q _ => match q with | 0 => tileObl (tabM m) (idxM m) (outM m) facts hpre)
    (fun q _ => match q with | 0 => SparseCore.Cfg.VecSplit.of_plain (vecSplit (tabM m) (idxM m) (outM m)))
    m ρ main (G (F := F)) (FIN m) (u₀ (F := F)) (sep_elim_left.trans (hu₀ m)) (hmain m ρ) (fq m) (hfin m) (QC m) (fun _ h hz => ⟨h, hz⟩)

/-! ## What the final valuation holds -/

theorem mem_ucRefs (r : Ref sig .tc) (h : r.isScoped = false) : Proc.devRef (τ := τ) .tc r ∈ ucRefs :=
  Finset.mem_filter.mpr ⟨Finset.mem_map_of_mem _ (Finset.mem_univ r), fun h' => Bool.false_ne_true (h.symm.trans h')⟩

theorem W1_ne (d : Dev nD) (b : Ref sig .tc) (h : b = main_arg0 ∨ b = main_arg1 ∨ b = main_v0_1) : W1 m d b = W0 m d b := by
  rcases h with rfl | rfl | rfl <;> (unfold W1 hostOps0; after_reads_simp)
theorem W1_arg0 (d : Dev nD) : W1 m d main_arg0 = m ((d : Thread nD τ).loc main_arg0) :=
  (W1_ne m d _ (.inl rfl)).trans (W0_ne m d _ (by decide) (by decide))
theorem W1_arg1 (d : Dev nD) : W1 m d main_arg1 = m ((d : Thread nD τ).loc main_arg1) :=
  (W1_ne m d _ (.inr (.inl rfl))).trans (W0_ne m d _ (by decide) (by decide))
theorem W1_lid (d : Dev nD) : W1 m d main_v0_1 = nearLid (m ((d : Thread nD τ).loc main_arg0)) :=
  (W1_ne m d _ (.inr (.inr rfl))).trans (W0_lid m d)

/-- A buffer written neither by the SparseCore call nor by the reshape after it. -/
theorem W3_ne (d : Dev nD) (b : Ref sig .tc) (h4 : b ≠ main_v5) (h5 : b ≠ main_v6) : W3 m d b = W1 m d b := by
  unfold W3 hostOps1
  rw [StableHlo.after_cons, StableHlo.after_nil]
  exact (StableHlo.reshape_result_ne (h := h5) ..).trans (Function.update_of_ne (StableHlo.devRef_ne_of_ne h4) ..)

theorem Wend_ne (d : Dev nD) (b : Ref sig .tc) (h4 : b ≠ main_v5) (h5 : b ≠ main_v6) (h6 : b ≠ main_v7) (h7 : b ≠ main_v8) :
    Wend m d b = W1 m d b := by
  unfold Wend hostOps2
  rw [StableHlo.after_cons, StableHlo.after_nil]
  exact (StableHlo.reshape_result_ne (h := h7) ..).trans ((W4_ne m d b h6).trans (W3_ne m d b h4 h5))

/-- The arguments are kept. -/
theorem Wend_arg0 (d : Dev nD) : Wend m d main_arg0 = m ((d : Thread nD τ).loc main_arg0) :=
  (Wend_ne m d main_arg0 (by decide) (by decide) (by decide) (by decide)).trans (W1_arg0 m d)
theorem Wend_arg1 (d : Dev nD) : Wend m d main_arg1 = m ((d : Thread nD τ).loc main_arg1) :=
  (Wend_ne m d main_arg1 (by decide) (by decide) (by decide) (by decide)).trans (W1_arg1 m d)

/-- The table: `Z` beside 64 columns of zeros. -/
abbrev tabVal (z : S4096x64.Idx → F .f32) : FVec F S4096x128 .f32 :=
  concatenate S4096x128 1 [⟨S4096x64, z⟩, ⟨S4096x64, broadcastInDim S4096x64 ![] bcast_S_S4096x64 (constant S_ .f32 0x00000000#32 : FVec F S_ .f32)⟩]
    concatenates_S4096x64_S4096x64_S4096x128_d1
/-- The index list: the first five columns of the neighbour indices, flattened. -/
abbrev idxVal (i8 : S4096x8.Idx → Elt F .i32) : IVec S20480 32 :=
  shapeCast S20480 (extractStridedSlice S4096x5 ![0, 0] i8 slices_S4096x8_S4096x5_0_0) shapeCasts_S4096x5_S20480

/-- What the program leaves as its result. -/
def resVal (z : S4096x64.Idx → F .f32) (i8 : S4096x8.Idx → Elt F .i32) (l : S4096x8.Idx → F .f32) : FVec F S_ .f32 :=
  shapeCast S_ (lossVal z (shapeCast S4096x640 (gathered (F := F) (tabVal z) (idxVal (F := F) i8)) shapeCasts_S20480x128_S4096x640) l) shapeCasts_S1x1_S_

theorem idxM_eq (d : Dev nD) : idxM m d = idxVal (F := F) (nearIdx (m ((d : Thread nD τ).loc main_arg0))) := by
  unfold idxM W1 hostOps0; after_reads_simp; rw [W0_idx]; rfl
theorem tabM_eq (d : Dev nD) : tabM m d = tabVal (m ((d : Thread nD τ).loc main_arg1)) := by
  have h : tabM m d = tabVal (W0 m d main_arg1) := by unfold tabM W1 hostOps0; after_reads_simp; rfl
  rw [h, W0_ne m d main_arg1 (by decide) (by decide)]
theorem Wend_out (d : Dev nD) : Wend m d main_v8
    = resVal (m ((d : Thread nD τ).loc main_arg1)) (nearIdx (m ((d : Thread nD τ).loc main_arg0))) (nearLid (m ((d : Thread nD τ).loc main_arg0))) := by
  have h5 : W3 m d main_v6 = shapeCast S4096x640 (gathered (F := F) (tabM m d) (idxM m d)) shapeCasts_S20480x128_S4096x640 := by
    unfold W3 hostOps1; after_reads_simp
    rw [show W2 m d main_v5 = gathered (tabM m d) (idxM m d) from Function.update_self ..]; rfl
  unfold Wend hostOps2; after_reads_simp
  rw [W4_out, h5, W3_ne m d main_arg1 (by decide) (by decide), W3_ne m d main_v0_1 (by decide) (by decide), W1_arg1, W1_lid, tabM_eq, idxM_eq]
  rfl

end Cert.Proof.WholeRun

end
-- ==== Proof.WholeEnd.lean ====
/-
  What the run of `WholeIdeal` leaves, in the words of its claims: the arguments kept, the loss of the rows against the
  neighbours the first call found, the semaphores at zero.
-/
module

public import proofs.«01_k».proof.Proof.WholeMain

@[expose] public section

noncomputable section

namespace Cert.Proof.WholeRun

open Cert.WholeIdeal Cert.WholeIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The index list is in range once the neighbour call's first five index columns are. -/
theorem preOK_of (h : ∀ (X : S4096x128.Idx → Elt F .f32) (j : S4096x5.Idx),
    (extractStridedSlice S4096x5 ![0, 0] (nearIdx X) slices_S4096x8_S4096x5_0_0 j : BitVec 32).toNat < 4096) :
    PreOK (F := F) (idxM m) := fun d j => by
  rw [idxM_eq]; exact h _ _

/-- What the run leaves on device `d`: the result, and the arguments kept. -/
theorem QC_reads {r : PUnit × MemSt nD τ sig (Elt F)} (h : QC m r) (d : Dev nD) :
    r.2.mem ((d : Thread nD τ).loc main_v8)
        = resVal (m ((d : Thread nD τ).loc main_arg1)) (nearIdx (m ((d : Thread nD τ).loc main_arg0))) (nearLid (m ((d : Thread nD τ).loc main_arg0)))
      ∧ r.2.mem ((d : Thread nD τ).loc main_arg0) = m ((d : Thread nD τ).loc main_arg0)
      ∧ r.2.mem ((d : Thread nD τ).loc main_arg1) = m ((d : Thread nD τ).loc main_arg1) :=
  ⟨(h.1 d _ (mem_ucRefs main_v8 rfl)).trans (Wend_out m d), (h.1 d _ (mem_ucRefs main_arg0 rfl)).trans (Wend_arg0 m d),
    (h.1 d _ (mem_ucRefs main_arg1 rfl)).trans (Wend_arg1 m d)⟩

variable [∀ e, Nonempty (Elt F e)]

/-- The run ends with the arguments kept and every semaphore at zero. -/
theorem run_frame (hpre : PreOK (F := F) (idxM m)) :
    θ_run (Cert.WholeIdeal.defs (F := F)) (Cert.WholeIdeal.threads (F := F)) ⟨m, fun _ => 0, ρ⟩ (fun r => (∀ d : Dev nD,
      r.2.mem ((d : Thread nD τ).loc main_arg0) = m ((d : Thread nD τ).loc main_arg0)
      ∧ r.2.mem ((d : Thread nD τ).loc main_arg1) = m ((d : Thread nD τ).loc main_arg1)) ∧ r.2.sem = fun _ => 0) :=
  (θ_run _ _ _).mono (fun _ h => ⟨fun d => (QC_reads m h d).2, h.2⟩) (run_main m ρ hpre)

/-- The run ends with the result computed from the arguments, and the arguments kept. -/
theorem run_value (hpre : PreOK (F := F) (idxM m)) :
    θ_run (Cert.WholeIdeal.defs (F := F)) (Cert.WholeIdeal.threads (F := F)) ⟨m, fun _ => 0, ρ⟩ (fun r => ∀ d : Dev nD,
      r.2.mem ((d : Thread nD τ).loc main_v8)
        = resVal (m ((d : Thread nD τ).loc main_arg1)) (nearIdx (m ((d : Thread nD τ).loc main_arg0))) (nearLid (m ((d : Thread nD τ).loc main_arg0)))
      ∧ r.2.mem ((d : Thread nD τ).loc main_arg0) = m ((d : Thread nD τ).loc main_arg0)
      ∧ r.2.mem ((d : Thread nD τ).loc main_arg1) = m ((d : Thread nD τ).loc main_arg1)) :=
  (θ_run _ _ _).mono (fun _ h d => QC_reads m h d) (run_main m ρ hpre)

end Cert.Proof.WholeRun

end
-- ==== Proof.WholeKernelRead.lean ====
/-
  The last call of `WholeIdeal` on the extended reals: the loss, entry by entry, and with it the whole kernel's result.
-/
module

public import proofs.«01_k».proof.Proof.WholeLoss
public import proofs.«01_k».proof.Proof.WholeMain
public import proofs.«01_k».proof.Proof.KernelRead
public import Idealize.ShloMosaic.Lib.Pointwise

@[expose] public section

noncomputable section

namespace Cert.Proof.WholeVal

open Cert.WholeIdeal Cert.WholeIdeal.Gen
open Idealize.ShloMosaic
open Cert.Proof.WholeRun (lossVal colsAt col0 resVal gathered tabVal idxVal)

theorem colsAt_apply (k : Fin 2 → ℕ) (h : ∀ a, k a + S4096x64.size a ≤ S4096x640.size a) (g : S4096x640.Idx → EReal)
    (i : Fin 4096) (x : Fin 64) (hk : k 0 = 0) :
    colsAt (F := Ideal) k h g (ix2 i x) = g (ix2 i ⟨k 1 + x.val, (Nat.add_lt_add_left x.isLt _).trans_le (h 1)⟩) := by
  unfold colsAt
  congr 1
  funext a; refine Fin.ext ?_
  match a with
  | ⟨0, _⟩ => show k 0 + 1 * i.val = i.val; omega
  | ⟨1, _⟩ => show k 1 + 1 * x.val = k 1 + x.val; omega

theorem col0_apply (l : S4096x8.Idx → EReal) (i : Fin 4096) (x : Fin 1) : col0 (F := Ideal) l (ix2 i x) = l (ix2 i 0) := by
  unfold col0
  congr 1
  funext a; refine Fin.ext ?_
  match a with
  | ⟨0, _⟩ => show 0 + 1 * i.val = i.val; omega
  | ⟨1, _⟩ => show 0 + 1 * x.val = 0; omega

set_option maxHeartbeats 1000000 in
/-- The loss call's result, where its second operand holds each row's five neighbours at columns `128 j`. -/
theorem lossVal_apply (z : S4096x64.Idx → EReal) (g : S4096x640.Idx → EReal) (l : S4096x8.Idx → EReal) (nbr : Fin 4096 → Fin 5 → Fin 4096)
    (hg : ∀ i j (x : Fin 64) h, g (ix2 i ⟨128 * j.val + x.val, h⟩) = z (ix2 (nbr i j) x)) :
    lossVal (F := Ideal) z g l (ix2 0 0) = Lid.lossOf z nbr fun i => l (ix2 i 0) := by
  have h0 : ∀ i (x : Fin 64) h, g (ix2 i ⟨x.val, h⟩) = z (ix2 (nbr i 0) x) := fun i x h => by rw [← hg i 0 x (by omega)]; simp
  have h1 : ∀ i (x : Fin 64) h, g (ix2 i ⟨128 + x.val, h⟩) = z (ix2 (nbr i 1) x) := fun i x h => hg i 1 x h
  have h2 : ∀ i (x : Fin 64) h, g (ix2 i ⟨256 + x.val, h⟩) = z (ix2 (nbr i 2) x) := fun i x h => hg i 2 x h
  have h3 : ∀ i (x : Fin 64) h, g (ix2 i ⟨384 + x.val, h⟩) = z (ix2 (nbr i 3) x) := fun i x h => hg i 3 x h
  have h4 : ∀ i (x : Fin 64) h, g (ix2 i ⟨512 + x.val, h⟩) = z (ix2 (nbr i 4) x) := fun i x h => hg i 4 x h
  pointwise [lossVal, k2_pay1, k2_pay2, k2_pay3, k2_pay4, k2_pay5, k2_pay6, k2_pay7, k2_pay8, k2_pay9, colsAt_apply, col0_apply]
  simp only [h0, h1, h2, h3, h4]
  unfold Lid.lossOf
  congr 1
  refine Finset.sum_congr rfl fun i _ => ?_
  rw [Fin.sum_univ_one]
  rfl

/-- The whole kernel's result is the loss of the rows against the neighbours the first call found. -/
theorem resVal_apply (z : S4096x64.Idx → EReal) (i8 : S4096x8.Idx → BitVec 32) (l : S4096x8.Idx → EReal) (o : S_.Idx) :
    resVal (F := Ideal) z i8 l o = Lid.lossOf z (Lid.nb i8) fun i => l (ix2 i 0) := by
  unfold resVal
  rw [← lossVal_apply z _ l (Lid.nb i8) (Lid.gathered_apply z i8)]
  unfold shapeCast
  refine congrArg _ ((eq_ix2 _).trans ?_)
  congr 1 <;> exact Subsingleton.elim _ _

end Cert.Proof.WholeVal

end
-- ==== Proof.Near.lean ====
/-
  A row's nearest entries, on the extended reals: taking the first least entry and putting infinity in its place, again and
  again, takes — of a row below infinity — the positions a stable sort by value puts first.
-/
module

public import Idealize.ShloMosaic.Lib.SortPrefix
public import Idealize.ShloMosaic.Lib.SortFacts
public import Idealize.ShloMosaic.Lib.WordArith
public import Idealize.ShloMosaic.Lib.Pointwise

@[expose] public section

noncomputable section

namespace Cert.Proof.Near

open Idealize.ShloMosaic

/-! ## The first least entry -/

/-- Position `a` holds a least entry of the row, and no earlier position does. -/
structure IsFirst (r : Fin 4096 → EReal) (a : Fin 4096) : Prop where
  least : ∀ c, r a ≤ r c
  first : ∀ c, c < a → r a < r c

theorem exists_first (r : Fin 4096 → EReal) : ∃ a, IsFirst r a := by
  obtain ⟨b, -, hb⟩ := Finset.exists_min_image Finset.univ r ⟨0, Finset.mem_univ _⟩
  have hne : (Finset.univ.filter fun c => r c ≤ r b).Nonempty := ⟨b, by simp⟩
  refine ⟨Finset.min' _ hne, fun c => ?_, fun c hc => ?_⟩
  · exact (Finset.mem_filter.mp (Finset.min'_mem _ hne)).2.trans (hb c (Finset.mem_univ _))
  · have hc' : c ∉ Finset.univ.filter fun c => r c ≤ r b := fun h => absurd (Finset.min'_le _ _ h) (not_le.mpr hc)
    have hc'' : r b < r c := by simpa using hc'
    exact (Finset.mem_filter.mp (Finset.min'_mem _ hne)).2.trans_lt hc''

theorem IsFirst.eq {r : Fin 4096 → EReal} {a b : Fin 4096} (ha : IsFirst r a) (hb : IsFirst r b) : a = b := by
  rcases lt_trichotomy a b with h | h | h
  · exact absurd (ha.least b) (not_le.mpr (hb.first a h))
  · exact h
  · exact absurd (hb.least a) (not_le.mpr (ha.first b h))

/-- The position of a row's first least entry. -/
def firstOf (r : Fin 4096 → EReal) : Fin 4096 := (exists_first r).choose
theorem firstOf_spec (r : Fin 4096 → EReal) : IsFirst r (firstOf r) := (exists_first r).choose_spec

/-- The row with infinity at its first least entry. -/
def rest (r : Fin 4096 → EReal) : Fin 4096 → EReal := fun c => if c = firstOf r then ⊤ else r c

/-- The position taken in round `t`. -/
def sel (r : Fin 4096 → EReal) (t : ℕ) : Fin 4096 := firstOf (rest^[t] r)

/-- The row in round `t`: infinity at the positions taken before. -/
theorem rest_iter (r : Fin 4096 → EReal) (t : ℕ) (c : Fin 4096) :
    ((∃ s < t, sel r s = c) → rest^[t] r c = ⊤) ∧ ((∀ s < t, sel r s ≠ c) → rest^[t] r c = r c) := by
  induction t with
  | zero => exact ⟨fun ⟨s, hs, _⟩ => absurd hs (Nat.not_lt_zero s), fun _ => rfl⟩
  | succ t ih =>
    rw [Function.iterate_succ_apply']
    show (_ → (if c = sel r t then ⊤ else rest^[t] r c) = ⊤) ∧ (_ → (if c = sel r t then ⊤ else rest^[t] r c) = r c)
    constructor
    · rintro ⟨s, hs, e⟩
      split
      · rfl
      · rename_i hc
        refine ih.1 ⟨s, ?_, e⟩
        rcases Nat.lt_succ_iff_lt_or_eq.mp hs with h | h
        · exact h
        · exact absurd (h ▸ e).symm hc
    · intro h
      rw [if_neg fun e => h t (Nat.lt_succ_self t) e.symm]
      exact ih.2 fun s hs => h s (hs.trans (Nat.lt_succ_self t))

section Finite

variable (r : Fin 4096 → EReal) (hr : ∀ c, r c < ⊤)
include hr

/-- No position is taken twice in the first 4096 rounds. -/
theorem sel_fresh {t : ℕ} (ht : t < 4096) : ∀ s < t, sel r s ≠ sel r t := by
  intro s hs e
  obtain ⟨c, -, hc⟩ : ∃ c ∈ (Finset.univ : Finset (Fin 4096)), c ∉ (Finset.range t).image (sel r) := by
    refine Finset.exists_mem_notMem_of_card_lt_card ?_
    exact Finset.card_image_le.trans_lt (by simpa using ht)
  have hc' : ∀ s < t, sel r s ≠ c := fun s hs e => hc (Finset.mem_image.mpr ⟨s, Finset.mem_range.mpr hs, e⟩)
  have h := (firstOf_spec (rest^[t] r)).least c
  rw [(rest_iter r t c).2 hc', (rest_iter r t (firstOf (rest^[t] r))).1 ⟨s, hs, e⟩] at h
  exact absurd (hr c) (not_lt.mpr h)

/-- The entry taken in a round is the row's own. -/
theorem sel_val {t : ℕ} (ht : t < 4096) : rest^[t] r (sel r t) = r (sel r t) := (rest_iter r t _).2 (sel_fresh r hr ht)

/-- No position left in a round is before the one taken. -/
theorem sel_least {t : ℕ} (ht : t < 4096) (p : Fin 4096) (hp : ∀ s < t, sel r s ≠ p) :
    r (sel r t) ≤ r p ∧ (p < sel r t → r (sel r t) < r p) := by
  rw [← sel_val r hr ht, ← (rest_iter r t p).2 hp]
  exact ⟨(firstOf_spec _).least p, (firstOf_spec _).first p⟩

end Finite

/-! ## The stable sort -/

/-- Two relations that agree on a list's pairs, the later first, sort it alike. -/
theorem sort_congr {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The first six positions of a stable sort by value are the six taken. -/
theorem sorted_sel (r : Fin 4096 → EReal) (hr : ∀ c, r c < ⊤) (B : Fin 4096 → Fin 4096 → Bool) (hB : ∀ k k', B k k' = decide (r k < r k'))
    (i : Fin 6) : sortedFrom B (i.castLE (by decide)) = sel r i.val := by
  have hT : StrictTotalBefore fun k k' : Fin 4096 => decide (r k < r k') || (decide (r k = r k') && decide (k < k')) :=
    StrictTotalBefore.of_key_then_position (fun a b : EReal => decide (a < b)) r (fun a => by simp)
      (fun a b c hab hbc => by simp only [decide_eq_true_eq] at *; exact hab.trans hbc)
      (fun a b => by simp only [decide_eq_true_eq]; exact lt_trichotomy a b)
  have e : sortedFrom B = sortedFrom fun k k' : Fin 4096 => decide (r k < r k') || (decide (r k = r k') && decide (k < k')) := by
    have hs : sortPositions 4096 B = sortPositions 4096 fun k k' : Fin 4096 => decide (r k < r k') || (decide (r k = r k') && decide (k < k')) := by
      refine sort_congr _ _ _ ((List.pairwise_lt_finRange 4096).imp fun {a b} hab => ?_)
      rw [hB, decide_eq_false (not_lt.mpr (le_of_lt hab)), Bool.and_false, Bool.or_false]
    funext k
    unfold sortedFrom
    simp only [List.get_eq_getElem, hs, Fin.val_cast]
  rw [e]
  have lt4096 : ∀ i : Fin 6, i.val < 4096 := fun i => i.isLt.trans (by decide)
  have nb : ∀ (i : Fin 6) (p : Fin 4096), (∀ s < i.val, sel r s ≠ p) →
      (decide (r p < r (sel r i.val)) || (decide (r p = r (sel r i.val)) && decide (p < sel r i.val))) = false := fun i p hp => by
    obtain ⟨h1, h2⟩ := sel_least r hr (lt4096 i) p hp
    rw [decide_eq_false (not_lt.mpr h1), Bool.false_or, Bool.and_eq_false_iff]
    by_cases h : p < sel r i.val
    · exact .inl (decide_eq_false (h2 h).ne')
    · exact .inr (decide_eq_false h)
  refine hT.sortedFrom_eq_of_prefix (by decide) (fun i : Fin 6 => sel r i.val) ?_ ?_ ?_ i
  · intro a b hab
    rcases lt_trichotomy a b with h | h | h
    · exact absurd hab (sel_fresh r hr (lt4096 b) a.val h)
    · exact h
    · exact absurd hab.symm (sel_fresh r hr (lt4096 a) b.val h)
  · intro a b hab
    exact nb a _ fun s hs => sel_fresh r hr (lt4096 b) s (hs.trans hab)
  · intro a p hp
    exact nb a p fun s hs => hp ⟨s, hs.trans a.isLt⟩

/-! ## The folds that compute them -/

theorem fold_min_first (r : Fin 4096 → EReal) (a : Fin 4096) (ha : IsFirst r a) : Finset.fold min ⊤ r Finset.univ = r a :=
  le_antisymm (Finset.fold_min_le _ |>.mpr (.inr ⟨a, Finset.mem_univ _, le_rfl⟩)) ((Finset.le_fold_min _).mpr ⟨le_top, fun c _ => ha.least c⟩)

/-- The least of the words of the positions that hold the least entry is the first of them. -/
theorem fold_minsi_first (r : Fin 4096 → EReal) (a : Fin 4096) (ha : IsFirst r a) :
    Finset.fold IntOp.minsi 2147483647#32 (fun c : Fin 4096 => if r c = r a then BitVec.ofNat 32 c.val else 1073741824#32) Finset.univ
      = BitVec.ofNat 32 a.val := by
  have hm : ∀ x y : BitVec 32, (IntOp.minsi x y).toInt = min x.toInt y.toInt := fun x y => by
    unfold IntOp.minsi
    simp only [BitVec.slt, decide_eq_true_eq]
    split <;> omega
  refine BitVec.eq_of_toInt_eq ?_
  rw [← Finset.fold_hom (op := IntOp.minsi) (op' := min) (m := BitVec.toInt) hm]
  have ofn : ∀ c : Fin 4096, (BitVec.ofNat 32 c.val).toInt = (c.val : ℤ) := fun c => by
    have := c.isLt
    rw [BitVec.toInt_eq_toNat_of_lt (by rw [BitVec.toNat_ofNat]; omega), BitVec.toNat_ofNat]
    omega
  refine le_antisymm (Finset.fold_min_le _ |>.mpr (.inr ⟨a, Finset.mem_univ _, by rw [if_pos rfl]⟩)) ((Finset.le_fold_min _).mpr ⟨?_, fun c _ => ?_⟩)
  · rw [ofn, show (2147483647#32 : BitVec 32).toInt = 2147483647 from by decide]
    have := a.isLt
    omega
  · rw [ofn]
    split
    · rename_i h
      rw [ofn]
      by_contra hlt
      exact absurd h (ha.first c (by rw [Fin.lt_def]; omega)).ne'
    · rw [show (1073741824#32 : BitVec 32).toInt = 1073741824 from by decide]
      have := a.isLt
      omega

end Cert.Proof.Near

end
-- ==== Proof.WholeRead.lean ====
/-
  The neighbour call of `WholeIdeal` on the extended reals, entry by entry: the words of the positions taken in rounds one
  to five, and the local dimension of the entries there.
-/
module

public import proofs.«01_k».proof.Proof.WholeNear
public import proofs.«01_k».proof.Proof.Near
public import proofs.«01_k».proof.Proof.Lid
public import proofs.«01_k».proof.Proof.ReferenceRead
public import Idealize.ShloMosaic.Lib.Pointwise

@[expose] public section

noncomputable section

namespace Cert.Proof.WholeVal

open Cert.WholeIdeal Cert.WholeIdeal.Gen
open Idealize.ShloMosaic Cert.Proof.WholeRun Cert.Proof.Near

/-- Row `p` of a block of squared distances. -/
def row (d : S256x4096.Idx → Elt Ideal .f32) (p : Fin 256) : Fin 4096 → EReal := fun c => d (ix2 p c)

variable (d : S256x4096.Idx → Elt Ideal .f32) (p : Fin 256)

theorem minOf_apply : minOf d (ix2 p 0) = row d p (firstOf (row d p)) := by
  pointwise [minOf, k0_pay16]
  rw [RefRead.top_eq]
  exact fold_min_first (row d p) _ (firstOf_spec _)

theorem argOf_apply : argOf d (ix2 p 0) = BitVec.ofNat 32 (firstOf (row d p)).val := by
  pointwise [argOf, k0_pay17]
  rw [minOf_apply]
  exact fold_minsi_first (row d p) _ (firstOf_spec _)

theorem nxt_apply (c : Fin 4096) : nxt d (ix2 p c) = rest (row d p) c := by
  pointwise [nxt, k0_pay18]
  rw [show k0_pay17 cols d (minOf d) = argOf d from rfl, argOf_apply, RefRead.top_eq]
  unfold rest
  have hw : BitVec.ofNat 32 c.val = BitVec.ofNat 32 (firstOf (row d p)).val ↔ c = firstOf (row d p) := by
    have h1 := c.isLt
    have h2 := (firstOf (row d p)).isLt
    rw [Fin.ext_iff, ← BitVec.toNat_inj, BitVec.toNat_ofNat, BitVec.toNat_ofNat]
    omega
  by_cases hc : c = firstOf (row d p)
  · rw [if_pos hc, ← hc]
    simp [Scalar.select, IntOp.cmpi]
  · rw [if_neg hc]
    have hb : (BitVec.ofNat 32 c.val == BitVec.ofNat 32 (firstOf (row d p)).val) = false := by
      rw [beq_eq_false_iff_ne]; exact fun e => hc (hw.mp e)
    simp [Scalar.select, IntOp.cmpi, hb, row]

theorem row_nxt : row (nxt d) p = rest (row d p) := funext fun c => nxt_apply d p c

theorem row_iter (t : ℕ) : row (nxt^[t] d) p = rest^[t] (row d p) := by
  induction t with
  | zero => rfl
  | succ t ih => rw [Function.iterate_succ_apply', Function.iterate_succ_apply', row_nxt, ih]

theorem argOf_iter (t : ℕ) : argOf (nxt^[t] d) (ix2 p 0) = BitVec.ofNat 32 (sel (row d p) t).val := by
  rw [argOf_apply, row_iter]; rfl

theorem minOf_iter (t : ℕ) : minOf (nxt^[t] d) (ix2 p 0) = rest^[t] (row d p) (sel (row d p) t) := by
  rw [minOf_apply, row_iter]; rfl

theorem five (f : (S256x4096.Idx → Elt Ideal .f32) → S256x4096.Idx → Elt Ideal .f32) : f^[1] d = f d ∧ f^[2] d = f (f d) ∧ f^[3] d = f (f (f d))
    ∧ f^[4] d = f (f (f (f d))) ∧ f^[5] d = f (f (f (f (f d)))) := ⟨rfl, rfl, rfl, rfl, rfl⟩

theorem idxBlk_apply (j : Fin 5) : idxBlk d (ix2 p (j.castLE (by decide))) = BitVec.ofNat 32 (sel (row d p) (j.val + 1)).val := by
  obtain ⟨e1, e2, e3, e4, e5⟩ := five d nxt
  have h0 : idxBlk d (ix2 p 0) = argOf (nxt d) (ix2 p 0) := by pointwise [idxBlk, k0_pay1]
  have h1 : idxBlk d (ix2 p 1) = argOf (nxt (nxt d)) (ix2 p 0) := by pointwise [idxBlk, k0_pay1]
  have h2 : idxBlk d (ix2 p 2) = argOf (nxt (nxt (nxt d))) (ix2 p 0) := by pointwise [idxBlk, k0_pay1]
  have h3 : idxBlk d (ix2 p 3) = argOf (nxt (nxt (nxt (nxt d)))) (ix2 p 0) := by pointwise [idxBlk, k0_pay1]
  have h4 : idxBlk d (ix2 p 4) = argOf (nxt (nxt (nxt (nxt (nxt d))))) (ix2 p 0) := by pointwise [idxBlk, k0_pay1]
  rw [← e1, argOf_iter] at h0
  rw [← e2, argOf_iter] at h1
  rw [← e3, argOf_iter] at h2
  rw [← e4, argOf_iter] at h3
  rw [← e5, argOf_iter] at h4
  match j with
  | 0 => exact h0
  | 1 => exact h1
  | 2 => exact h2
  | 3 => exact h3
  | 4 => exact h4

theorem fold_iter (t : ℕ) : Finset.fold min (Ideal.ofBits FTy.f32 2139095040#32) (fun x => (nxt^[t] d) (ix2 p x)) Finset.univ
    = minOf (nxt^[t] d) (ix2 p 0) := by
  rw [minOf_apply, RefRead.top_eq]
  exact fold_min_first (row (nxt^[t] d) p) _ (firstOf_spec _)

/-- The logarithm of a distance of the row, from its square as taken in round `t`. -/
def logAt (r : Fin 4096 → EReal) (t : ℕ) : EReal := Ideal.log (Ideal.sqrt (rest^[t] r (sel r t)) + Ideal.ofBits FTy.f32 0x33D6BF95#32)

theorem lidBlk_apply : lidBlk d (ix2 p 0) = Lid.kernelLid (Ideal.ofBits FTy.f32 0x40135D8E#32) (Ideal.ofBits FTy.f32 0x40A00000#32)
    (logAt (row d p) 1) (logAt (row d p) 2) (logAt (row d p) 3) (logAt (row d p) 4) (logAt (row d p) 5) := by
  obtain ⟨e1, e2, e3, e4, e5⟩ := five d nxt
  unfold logAt Lid.kernelLid
  rw [← minOf_iter, ← minOf_iter, ← minOf_iter, ← minOf_iter, ← minOf_iter, ← fold_iter d p 4, ← fold_iter d p 5, e1, e2, e3, e4, e5]
  pointwise [lidBlk, k0_pay2, k0_pay32, k0_pay26, k0_pay29]
  rw [Fin.sum_univ_five]
  simp

theorem window_rows (X : S4096x128.Idx → Elt Ideal .f32) (o n : ℕ) (h) (p : Fin n) (x : Fin 128) (i : Fin 4096) (hi : o + p.val = i.val) :
    VecWindow.window X ![o, 0] (⟨2, ![n, 128]⟩ : Shape).size h (ix2 p x) = X (ix2 i x) := by
  unfold VecWindow.window
  refine congrArg X ?_
  funext a
  refine Fin.ext ?_
  match a with
  | ⟨0, _⟩ => show o + 1 * p.val = i.val; omega
  | ⟨1, _⟩ => show 0 + 1 * x.val = x.val; omega

/-- The squared distance of rows `i` and `c`, no less than the floor. -/
def sqd (X : S4096x128.Idx → EReal) (i c : Fin 4096) : EReal :=
  max ((∑ x : Fin 128, X (ix2 i x) * X (ix2 i x)) + (∑ x : Fin 128, X (ix2 c x) * X (ix2 c x))
    - Ideal.ofBits FTy.f32 0x40000000#32 * ∑ x : Fin 128, X (ix2 i x) * X (ix2 c x)) (Ideal.ofBits FTy.f32 0x2B8CBCCC#32)

theorem dOf_row (X : S4096x128.Idx → Elt Ideal .f32) (i : Fin 4096) (j : Fin 8) :
    row (dOf X (ix2 i j)) ⟨i.val % 256, Nat.mod_lt _ (by decide)⟩ = sqd X i := by
  funext c
  unfold row
  pointwise [dOf, dmat, k0_pay4, k0_pay3, inBlock]
  unfold rowsOf
  have ei : ∀ h (x : Fin 128), VecWindow.window X ![256 * (i.val / 256), 0] S256x128.size h (ix2 (⟨i.val % 256, Nat.mod_lt _ (by decide)⟩ : Fin 256) x) = X (ix2 i x) :=
    fun h x => window_rows X _ 256 h _ x i (Nat.div_add_mod _ _)
  have ec : ∀ h (x : Fin 128), VecWindow.window X ![512 * (c.val / 512), 0] S512x128.size h (ix2 (⟨c.val % 512, Nat.mod_lt _ (by decide)⟩ : Fin 512) x) = X (ix2 c x) :=
    fun h x => window_rows X _ 512 h _ x c (Nat.div_add_mod _ _)
  unfold sqd
  refine congrArg₂ max (congrArg₂ (fun a b : EReal => a - b) (congrArg₂ (fun a b : EReal => a + b) (Finset.sum_congr rfl fun x _ => ?_) (Finset.sum_congr rfl fun x _ => ?_))
    (congrArg (fun a : EReal => Ideal.ofBits FTy.f32 0x40000000#32 * a) (Finset.sum_congr rfl fun x _ => ?_))) rfl
  · exact congrArg₂ (fun a b : EReal => a * b) (ei _ x) (ei _ x)
  · exact congrArg₂ (fun a b : EReal => a * b) (ec _ x) (ec _ x)
  · exact congrArg₂ (fun a b : EReal => a * b) (ei _ x) (ec _ x)

theorem inRows_eq (i : Fin 4096) (j : Fin 8) : inRows (ix2 i j) = ix2 ⟨i.val % 256, Nat.mod_lt _ (by decide)⟩ j := by
  funext a
  match a with
  | ⟨0, _⟩ => rfl
  | ⟨1, _⟩ => rfl

/-- The index columns: the positions taken in rounds one to five. -/
theorem nearIdx_apply (X : S4096x128.Idx → Elt Ideal .f32) (i : Fin 4096) (j : Fin 5) :
    nearIdx X (ix2 i (j.castLE (by decide))) = BitVec.ofNat 32 (sel (sqd X i) (j.val + 1)).val := by
  unfold nearIdx
  rw [inRows_eq, idxBlk_apply, dOf_row]

/-- The first local dimension column. -/
theorem nearLid_apply (X : S4096x128.Idx → Elt Ideal .f32) (i : Fin 4096) :
    nearLid X (ix2 i 0) = Lid.kernelLid (Ideal.ofBits FTy.f32 0x40135D8E#32) (Ideal.ofBits FTy.f32 0x40A00000#32)
      (logAt (sqd X i) 1) (logAt (sqd X i) 2) (logAt (sqd X i) 3) (logAt (sqd X i) 4) (logAt (sqd X i) 5) := by
  unfold nearLid
  rw [inRows_eq, lidBlk_apply, dOf_row]

theorem nearIdx_lt (X : S4096x128.Idx → Elt Ideal .f32) (i : Fin 4096) (j : Fin 5) :
    (nearIdx X (ix2 i (j.castLE (by decide)))).toNat = (sel (sqd X i) (j.val + 1)).val := by
  have := (sel (sqd X i) (j.val + 1)).isLt
  rw [nearIdx_apply, BitVec.toNat_ofNat]
  omega

end Cert.Proof.WholeVal

end
-- ==== Proof.WholeSpread.lean ====
/-
  What the precondition of the whole kernel says of its arguments: the normalisers of the distances of both are positive
  and below infinity; and, since an infinite entry of `X` makes its normaliser infinite, the entries of `X` are real numbers.
-/
module

public import proofs.«01_k».proof.Proof.Gen.Pre_spread_of_both
public import proofs.«01_k».proof.Proof.Range
public import proofs.«01_k».proof.Proof.ReferenceRead

@[expose] public section

noncomputable section

namespace Cert.Proof.WholeRange

open Idealize.ShloMosaic

section General

variable {F : FTy → Type} [FloatOps F]

open Cert.Pre_spread_of_both Facts

/-- The normaliser of the distances of the rows of `X`. -/
def spreadX [Facts] (a : FVec F S4096x128 .f32) : FVec F S_ .f32 :=
  let mean : FVec F S128 .f32 := Host.divf (Host.reduceAdd a (constant S_ .f32 0x00000000#32) reducesTo_S4096x128_S128_d0 h_S_)
    (broadcastInDim S128 ![] bcast_S_S128 (constant S_ .f32 0x45800000#32 : FVec F S_ .f32))
  let dev : FVec F S4096x128 .f32 := subf a (broadcastInDim S4096x128 ![0, 1] bcast_S1x128_S4096x128_0_1 (broadcastInDim S1x128 ![1] bcast_S128_S1x128_1 mean))
  fn_quantile (Host.sqrt (Host.reduceAdd (mulf dev dev) (constant S_ .f32 0x00000000#32) reducesTo_S4096x128_S4096_d1 h_S_)) (constant S_ .f32 0x3F7AE148#32)

/-- The normaliser of the distances of the rows of `Z`. -/
def spreadZ [Facts] (a : FVec F S4096x64 .f32) : FVec F S_ .f32 :=
  let mean : FVec F S64 .f32 := Host.divf (Host.reduceAdd a (constant S_ .f32 0x00000000#32) reducesTo_S4096x64_S64_d0 h_S_)
    (broadcastInDim S64 ![] bcast_S_S64 (constant S_ .f32 0x45800000#32 : FVec F S_ .f32))
  let dev : FVec F S4096x64 .f32 := subf a (broadcastInDim S4096x64 ![0, 1] bcast_S1x64_S4096x64_0_1 (broadcastInDim S1x64 ![1] bcast_S64_S1x64_1 mean))
  fn_quantile (Host.sqrt (Host.reduceAdd (mulf dev dev) (constant S_ .f32 0x00000000#32) reducesTo_S4096x64_S4096_d1 h_S_)) (constant S_ .f32 0x3F7AE148#32)

theorem fn_eq [Facts] (x : FVec F S4096x128 .f32) (z : FVec F S4096x64 .f32) :
    fn x z = andi (andi (andi (cmpf .ogt (spreadX x) (constant S_ .f32 0x00000000#32)) (cmpf .olt (spreadX x) (constant S_ .f32 0x7F800000#32)))
      (cmpf .ogt (spreadZ z) (constant S_ .f32 0x00000000#32))) (cmpf .olt (spreadZ z) (constant S_ .f32 0x7F800000#32)) := rfl

/-- The precondition, part by part. -/
theorem parts [Facts] (x : FVec F S4096x128 .f32) (z : FVec F S4096x64 .f32) (h : fn x z = fun _ => 1#1) :
    (∀ i, cmpf (F := F) .ogt (spreadX x) (constant S_ .f32 0x00000000#32) i = 1#1)
      ∧ (∀ i, cmpf (F := F) .olt (spreadX x) (constant S_ .f32 0x7F800000#32) i = 1#1)
      ∧ (∀ i, cmpf (F := F) .ogt (spreadZ z) (constant S_ .f32 0x00000000#32) i = 1#1)
      ∧ ∀ i, cmpf (F := F) .olt (spreadZ z) (constant S_ .f32 0x7F800000#32) i = 1#1 := by
  rw [fn_eq] at h
  have e : ∀ j : S_.Idx, _ := fun j => congrFun h j
  simp only [andi, Range.andi_eq_one] at e
  exact ⟨fun i => (e i).1.1.1, fun i => (e i).1.1.2, fun i => (e i).1.2, fun i => (e i).2⟩

end General

section Exact

open Cert.Pre_spread_of_both Facts

/-- One of the two infinities. -/
def Inf (e : EReal) : Prop := e = ⊤ ∨ e = ⊥

theorem inf_or_real (e : EReal) : Inf e ∨ ∃ r : ℝ, e = (r : EReal) := by
  induction e using EReal.rec with
  | bot => exact .inl (.inr rfl)
  | top => exact .inl (.inl rfl)
  | coe r => exact .inr ⟨r, rfl⟩

theorem inf_add {e : EReal} (h : Inf e) (f : EReal) : Inf (e + f) := by
  rcases h with rfl | rfl
  · induction f using EReal.rec with
    | bot => exact .inr (EReal.add_bot _)
    | top => exact .inl EReal.top_add_top
    | coe r => exact .inl (EReal.top_add_coe r)
  · exact .inr (EReal.bot_add _)

theorem inf_sum {n : ℕ} (f : Fin n → EReal) (i : Fin n) (h : Inf (f i)) : Inf (∑ j, f j) := by
  rw [← Finset.add_sum_erase _ _ (Finset.mem_univ i)]
  exact inf_add h _

theorem inf_div {e : EReal} (h : Inf e) {n : ℝ} (hn : 0 < n) : Inf (Ideal.div e (n : EReal)) := by
  rcases h with rfl | rfl
  · exact .inl (Lid.top_div hn)
  · exact .inr (Lid.bot_div hn)

theorem inf_sub {e : EReal} (h : Inf e) (f : EReal) : Inf (f - e) := by
  rw [sub_eq_add_neg, add_comm]
  refine inf_add ?_ f
  rcases h with rfl | rfl
  · exact .inr EReal.neg_top
  · exact .inl EReal.neg_bot

theorem inf_sq {e : EReal} (h : Inf e) : e * e = ⊤ := by
  rcases h with rfl | rfl
  · exact EReal.top_mul_top
  · exact EReal.bot_mul_bot

theorem sq_nonneg (e : EReal) : 0 ≤ e * e := by
  rcases inf_or_real e with h | ⟨r, rfl⟩
  · rw [inf_sq h]; exact le_top
  · rw [← EReal.coe_mul]; exact_mod_cast mul_self_nonneg r

/-- No entry of a constant infinity differs from itself. -/
theorem none_differ [Facts] : Host.reduce IntOp.ori (cmpf (F := Ideal) (φ := .f32) .une (fun _ : S4096.Idx => (⊤ : EReal)) fun _ => (⊤ : EReal)) (constantI S_ 1 0#1)
    reducesTo_S4096_S_d0 h_S_ = fun _ => 0#1 := by
  have fold : ∀ l : List (Fin S4096.numel), l.foldl (fun (r : BitVec 1) (_ : Fin S4096.numel) => IntOp.ori r 0#1) 0#1 = 0#1 := fun l => by
    induction l with
    | nil => rfl
    | cons a l ih => exact ih
  have e : (cmpf (F := Ideal) (φ := .f32) .une (fun _ : S4096.Idx => (⊤ : EReal)) fun _ => (⊤ : EReal)) = fun _ => 0#1 := by
    funext i
    show BitVec.ofBool (decide ((⊤ : EReal) ≠ ⊤)) = 0#1
    rw [decide_eq_false (fun h => h rfl)]
    rfl
  rw [e]
  funext j
  exact fold _

/-- A sorted constant is that constant. -/
theorem sort_top : Host.sort S4096 0 (comparator_f32_d0 (F := Ideal)) (fun _ => (⊤ : EReal)) = fun _ => (⊤ : EReal) := by
  funext j
  unfold Host.sort
  split <;> rfl

/-- The quantile of a constant infinity is infinite. -/
theorem quantile_top [Facts] : fn_quantile (F := Ideal) (fun _ => (⊤ : EReal)) (constant S_ .f32 0x3F7AE148#32) ix0 = ⊤ := by
  have hs : ∀ w : FVec Ideal S4096 .f32, select (broadcastInDim S4096 ![0] bcast_S1_S4096_0 (broadcastInDim S1 ![] bcast_S_S1
      (Host.reduce IntOp.ori (cmpf (F := Ideal) (φ := .f32) .une (fun _ : S4096.Idx => (⊤ : EReal)) fun _ => (⊤ : EReal)) (constantI S_ 1 0#1) reducesTo_S4096_S_d0 h_S_)))
      w (fun _ => (⊤ : EReal)) = fun _ => (⊤ : EReal) := fun w => by
    rw [none_differ]; rfl
  have ht : ∀ k, Host.gather gather_S4096_S1_S__n_0_n_n_0_0_1 (fun _ : S4096.Idx => (⊤ : EReal)) (k : IVec S1 32) ix0 = ⊤ := fun k => rfl
  obtain ⟨q, -, eq⟩ := RefRead.ofBits_pos 0x3F7AE148#32 (by decide) (by decide) (by decide)
  obtain ⟨n, -, en⟩ := RefRead.ofBits_pos 0x45800000#32 (by decide) (by decide) (by decide)
  unfold fn_quantile fn_quantile_part1 fn_where
  pointwise
  rw [hs, sort_top, ht, ht, eq, en, ← EReal.coe_one, ← EReal.coe_sub, ← EReal.coe_mul]
  show (⊤ : EReal) * (((1 : ℝ) : EReal) - (((q * (n - 1) : ℝ) : EReal) - ((⌊q * (n - 1)⌋ : ℝ) : EReal)))
    + (⊤ : EReal) * (((q * (n - 1) : ℝ) : EReal) - ((⌊q * (n - 1)⌋ : ℝ) : EReal)) = ⊤
  rw [← EReal.coe_sub, ← EReal.coe_sub, EReal.top_mul_coe_of_pos (by have := Int.lt_floor_add_one (q * (n - 1)); linarith)]
  rcases (sub_nonneg.mpr (Int.floor_le (q * (n - 1)))).lt_or_eq with h | h
  · rw [EReal.top_mul_coe_of_pos h]; rfl
  · rw [← h, EReal.coe_zero, mul_zero, add_zero]

/-- Where an entry of `X` is infinite, so is the normaliser. -/
theorem spreadX_top [Facts] (x : FVec Ideal S4096x128 .f32) (i : Fin 4096) (c : Fin 128) (h : Inf (x (ix2 i c))) : spreadX x ix0 = ⊤ := by
  obtain ⟨n, hn, en⟩ := RefRead.ofBits_pos 0x45800000#32 (by decide) (by decide) (by decide)
  refine Eq.trans (congrArg (fun v => fn_quantile (F := Ideal) v (constant S_ .f32 0x3F7AE148#32) ix0) (?_ : _ = fun _ => (⊤ : EReal))) quantile_top
  funext k
  rw [eq_ix1 k]
  pointwise
  rw [en]
  have hm : Inf (Ideal.div (∑ j, x (ix2 j c)) (n : EReal)) := inf_div (inf_sum (fun j => x (ix2 j c)) i h) hn
  refine Eq.trans (congrArg Ideal.sqrt (top_le_iff.mp ?_)) rfl
  rw [← inf_sq (inf_sub hm (x (ix2 (k 0) c)))]
  exact Finset.single_le_sum (f := fun d => (x (ix2 (k 0) d) - Ideal.div (∑ j, x (ix2 j d)) (n : EReal)) * (x (ix2 (k 0) d) - Ideal.div (∑ j, x (ix2 j d)) (n : EReal)))
    (fun d _ => sq_nonneg _) (Finset.mem_univ c)

/-- On the extended reals: both normalisers are real numbers above zero, and with them the entries of `X` are real. -/
theorem reals [Facts] (x : FVec Ideal S4096x128 .f32) (z : FVec Ideal S4096x64 .f32) (h : fn x z = fun _ => 1#1) :
    (∀ i c, ∃ r : ℝ, x (ix2 i c) = (r : EReal)) ∧ (∃ r : ℝ, 0 < r ∧ spreadX x ix0 = (r : EReal)) ∧ ∃ r : ℝ, 0 < r ∧ spreadZ z ix0 = (r : EReal) := by
  obtain ⟨h3, h4, h5, h6⟩ := parts x z h
  have hn := RefRead.real_of _ h3 h4
  refine ⟨fun i c => (inf_or_real (x (ix2 i c))).resolve_left fun hi => ?_, hn, RefRead.real_of _ h5 h6⟩
  obtain ⟨r, -, e⟩ := hn
  rw [spreadX_top x i c hi] at e
  exact absurd e.symm (EReal.coe_ne_top r)

end Exact

end Cert.Proof.WholeRange

end
-- ==== Proof.WholeReferenceRead.lean ====
/-
  The whole reference on the extended reals: its top-k takes the positions the kernel's rounds take, and its result is the
  loss the kernel computes.
-/
module

public import proofs.«01_k».proof.Proof.Gen.WholeReferenceIdeal.Run
public import proofs.«01_k».proof.Proof.WholeRead
public import proofs.«01_k».proof.Proof.WholeSpread

@[expose] public section

noncomputable section

namespace Cert.Proof.WholeRef

open Cert.WholeReferenceIdeal Cert.WholeReferenceIdeal.Gen
open Idealize.ShloMosaic
open Idealize.ShloMosaic.TcCoe
open Cert.Proof.Near Cert.Proof.WholeVal

/-! ## The parts of the composed term -/

/-- The negated normalised distances of all pairs of rows of `X`. -/
def far (x : FVec Ideal S4096x128 .f32) (n : FVec Ideal S_ .f32) : FVec Ideal S4096x4096 .f32 :=
  let sq : FVec Ideal S4096 .f32 := Host.reduceAdd (mulf x x) (constant S_ .f32 0x00000000#32) reducesTo_S4096x128_S4096_d1 h_S_
  Host.negf (Host.divf (addf (Host.sqrt (maximumf (subf (addf (broadcastInDim S4096x4096 ![0, 1] bcast_S4096x1_S4096x4096_0_1 (broadcastInDim S4096x1 ![0] bcast_S4096_S4096x1_0 sq))
      (broadcastInDim S4096x4096 ![0, 1] bcast_S1x4096_S4096x4096_0_1 (broadcastInDim S1x4096 ![1] bcast_S4096_S1x4096_1 sq)))
      (mulf (broadcastInDim S4096x4096 ![] bcast_S_S4096x4096 (constant S_ .f32 0x40000000#32))
        (Host.dotGeneral dot_S4096x128_S128x4096_S4096x4096_1_0_0_1_n_n none x (transpose S128x4096 [1, 0] x transposes_S4096x128_S128x4096_1_0))))
      (broadcastInDim S4096x4096 ![] bcast_S_S4096x4096 (constant S_ .f32 0x2B8CBCCC#32))))
    (broadcastInDim S4096x4096 ![] bcast_S_S4096x4096 (constant S_ .f32 0x33D6BF95#32)))
    (broadcastInDim S4096x4096 ![] bcast_S_S4096x4096 n))

/-- The six greatest entries of each row, and their positions. -/
def six (v : FVec Ideal S4096x4096 .f32) : FVec Ideal S4096x6 .f32 × IVec S4096x6 32 :=
  Host.topK S4096x6 1 (FloatOps.cmpfTotal .gt) v sliceFits_S4096x4096_S4096x6

/-- The five nearest normalised distances, the nearest left out. -/
def vals (v : FVec Ideal S4096x4096 .f32) : FVec Ideal S4096x5 .f32 :=
  extractStridedSlice S4096x5 ![0, 1] (Host.negf (six v).1) slices_S4096x6_S4096x5_0_1
/-- Their positions. -/
def poss (v : FVec Ideal S4096x4096 .f32) : IVec S4096x5 32 := extractStridedSlice S4096x5 ![0, 1] (six v).2 slices_S4096x6_S4096x5_0_1

/-- The local dimension of each row from five distances. -/
def lids (e : FVec Ideal S4096x5 .f32) : FVec Ideal S4096 .f32 :=
  Host.negf (Host.reduceAdd (subf (Host.divf (Host.log e) (broadcastInDim S4096x5 ![] bcast_S_S4096x5 (constant S_ .f32 0x40135D8E#32)))
      (broadcastInDim S4096x5 ![0, 1] bcast_S4096x1_S4096x5_0_1 (Host.divf (Host.log (extractStridedSlice S4096x1 ![0, 4] e slices_S4096x5_S4096x1_0_4))
        (broadcastInDim S4096x1 ![] bcast_S_S4096x1 (constant S_ .f32 0x40135D8E#32)))))
      (constant S_ .f32 0x00000000#32) reducesTo_S4096x5_S4096_d1 h_S_)

/-- The loss from the distances of the rows of `X` and of `Z`. -/
def out (a e : FVec Ideal S4096x5 .f32) : FVec Ideal S_ .f32 :=
  let diff : FVec Ideal S4096 .f32 := subf (lids a) (lids e)
  Host.divf (Host.reduceAdd (mulf diff diff) (constant S_ .f32 0x00000000#32) reducesTo_S4096_S_d0 h_S_) (constant S_ .f32 0x48480000#32)

/-- The distances of `Z` gathered at the rows and the positions `k`. -/
def picked (z : FVec Ideal S4096x64 .f32) (n : FVec Ideal S_ .f32) (k : IVec S4096x5 32) : FVec Ideal S4096x5 .f32 :=
  let rows : IVec S4096x5 32 := broadcastInDim S4096x5 ![0, 1] bcast_S4096x1_S4096x5_0_1 (broadcastInDim S4096x1 ![0] bcast_S4096_S4096x1_0 (iotaInDim S4096 32 0))
  let zero : IVec S4096x5 32 := broadcastInDim S4096x5 ![] bcast_S_S4096x5 (constantI S_ 32 0#32)
  let many : IVec S4096x5 32 := broadcastInDim S4096x5 ![] bcast_S_S4096x5 (constantI S_ 32 4096#32)
  Host.gather gather_S4096x4096_S4096x5x2_S4096x5_n_01_n_n_01_2_11 (RefRead.dists z n)
    (concatenate S4096x5x2 2 [⟨S4096x5x1, broadcastInDim S4096x5x1 ![0, 1] bcast_S4096x5_S4096x5x1_0_1 (select (cmpi .slt rows zero) (addi rows many) rows)⟩,
      ⟨S4096x5x1, broadcastInDim S4096x5x1 ![0, 1] bcast_S4096x5_S4096x5x1_0_1 (select (cmpi .slt k zero) (addi k many) k)⟩]
      concatenates_S4096x5x1_S4096x5x1_S4096x5x2_d2)

theorem picked_eq (z : FVec Ideal S4096x64 .f32) (n : FVec Ideal S_ .f32) (i8 : IVec Cert.ReferenceIdeal.S4096x8 32) :
    picked z n (extractStridedSlice S4096x5 ![0, 0] i8 Cert.ReferenceIdeal.Gen.facts.slices_S4096x8_S4096x5_0_0)
      = Host.gather Cert.ReferenceIdeal.gather_S4096x4096_S4096x5x2_S4096x5_n_01_n_n_01_2_11 (RefRead.dists z n) (RefRead.starts i8) := rfl

section Parts
variable (V : Valuation τ sig (Elt Ideal))

set_option maxRecDepth 8192 in
theorem v41_eq : Value.res_main_v41 V = far (V (Proc.devRef .tc main_arg0)) (WholeRange.spreadX (V (Proc.devRef .tc main_arg0))) := by
  unfold Value.res_main_v41
  rfl
theorem v43_eq : Value.res_main_v43 V = vals (Value.res_main_v41 V) := rfl
theorem v44_eq : Value.res_main_v44 V = poss (Value.res_main_v41 V) := rfl
set_option maxRecDepth 8192 in
theorem v93_eq : Value.res_main_v93 V = picked (V (Proc.devRef .tc main_arg1)) (WholeRange.spreadZ (V (Proc.devRef .tc main_arg1))) (Value.res_main_v44 V) := by
  unfold Value.res_main_v93
  rfl
set_option maxRecDepth 8192 in
theorem res_eq : Host.divf (Host.reduceAdd (mulf (Value.res_main_v105 V) (Value.res_main_v105 V)) (constant S_ .f32 0x00000000#32) reducesTo_S4096_S_d0 h_S_) (constant S_ .f32 0x48480000#32)
    = out (Value.res_main_v43 V) (Value.res_main_v93 V) := rfl
end Parts

/-! ## The parts, entry by entry -/

/-- The distance of row `i` to row `k`, and the floor under it. -/
def distX (x : S4096x128.Idx → EReal) (i k : Fin 4096) : EReal := Ideal.sqrt (sqd x i k) + Ideal.ofBits FTy.f32 0x33D6BF95#32

theorem far_apply (x : FVec Ideal S4096x128 .f32) (n : FVec Ideal S_ .f32) (i k : Fin 4096) :
    far x n (ix2 i k) = -(Ideal.div (distX x i k) (n ix0)) := by
  pointwise [far]
  rfl

theorem lids_apply (e : FVec Ideal S4096x5 .f32) (i : Fin 4096) :
    lids e (ix1 i) = Lid.refLid (Ideal.ofBits FTy.f32 0x40135D8E#32) fun j => Ideal.log (e (ix2 i j)) := by
  pointwise [lids, Lid.refLid]

theorem out_apply (a e : FVec Ideal S4096x5 .f32) (o : S_.Idx) :
    out a e o = Ideal.div (∑ i : Fin 4096, (lids a (ix1 i) - lids e (ix1 i)) * (lids a (ix1 i) - lids e (ix1 i))) (Ideal.ofBits FTy.f32 0x48480000#32) := by
  pointwise [out]

theorem vals_apply (v : FVec Ideal S4096x4096 .f32) (i : Fin 4096) (j : Fin 5) : vals v (ix2 i j) = -(six v).1 (ix2 i ⟨1 + j.val, by omega⟩) := by
  pointwise [vals]
theorem poss_apply (v : FVec Ideal S4096x4096 .f32) (i : Fin 4096) (j : Fin 5) : poss v (ix2 i j) = (six v).2 (ix2 i ⟨1 + j.val, by omega⟩) := by
  pointwise [poss]

theorem along_row (i j k : Fin 4096) : (ix2 i j : S4096x4096.Idx).along 1 k = ix2 i k := by
  funext a
  match a with
  | ⟨0, _⟩ => rfl
  | ⟨1, _⟩ => rfl

theorem cut_apply {α : Type} (w : S4096x4096.Idx → α) (h : S4096x4096.Slices (fun _ => 0) S4096x6) (i : Fin 4096) (t : Fin 6) :
    extractStridedSlice S4096x6 (fun _ => 0) w h (ix2 i t) = w (ix2 i (t.castLE (by decide))) := by
  unfold extractStridedSlice
  refine congrArg w ?_
  funext a
  refine Fin.ext ?_
  match a with
  | ⟨0, _⟩ => show 0 + i.val = i.val; omega
  | ⟨1, _⟩ => show 0 + t.val = t.val; omega

/-- An entry of the six, from the position the stable sort puts there. -/
theorem six_apply (v : FVec Ideal S4096x4096 .f32) (i : Fin 4096) (t : Fin 6) (s : Fin 4096)
    (hs : sortedFrom (fun k k' => (FloatOps.cmpfTotal (F := Ideal) (φ := .f32) .gt (v (ix2 i k)) (v (ix2 i k'))) == 1#1) (t.castLE (by decide)) = s) :
    (six v).1 (ix2 i t) = v (ix2 i s) ∧ (six v).2 (ix2 i t) = BitVec.ofNat 32 s.val := by
  have e : ∀ k, (ix2 i (t.castLE (by decide)) : S4096x4096.Idx).along 1 k = ix2 i k := fun k => along_row i _ k
  have hf : (fun k k' : Fin 4096 => (FloatOps.cmpfTotal (F := Ideal) (φ := .f32) .gt (v ((ix2 i (t.castLE (by decide)) : S4096x4096.Idx).along 1 k))
      (v ((ix2 i (t.castLE (by decide)) : S4096x4096.Idx).along 1 k'))) == 1#1)
      = fun k k' => (FloatOps.cmpfTotal (F := Ideal) (φ := .f32) .gt (v (ix2 i k)) (v (ix2 i k'))) == 1#1 := by
    funext k k'
    exact congrArg₂ (fun a b => FloatOps.cmpfTotal (F := Ideal) (φ := .f32) .gt (v a) (v b) == 1#1) (e k) (e k')
  have hs' := (congrArg (fun B => @sortedFrom 4096 B (t.castLE (by decide))) hf).trans hs
  unfold six Host.topK
  dsimp only
  rw [cut_apply, cut_apply]
  unfold Host.sort2
  rw [dif_pos (show 1 < S4096x4096.rank by decide)]
  refine ⟨(congrArg v ((congrArg _ hs').trans (e s))), ?_⟩
  refine Eq.trans (congrArg (fun j : S4096x4096.Idx => BitVec.ofNat 32 (j 1).val) ((congrArg _ hs').trans (e s))) rfl

/-! ## Finite rows -/

section Finite

variable {x : S4096x128.Idx → EReal} (hx : ∀ i c, ∃ r : ℝ, x (ix2 i c) = (r : EReal))
include hx

theorem sum_real (i k : Fin 4096) : ∃ r : ℝ, ∑ c : Fin 128, x (ix2 i c) * x (ix2 k c) = (r : EReal) := by
  refine Finset.sum_induction _ (fun e : EReal => ∃ r : ℝ, e = (r : EReal)) ?_ ⟨0, rfl⟩ fun c _ => ?_
  · rintro _ _ ⟨a, rfl⟩ ⟨b, rfl⟩
    exact ⟨a + b, (EReal.coe_add a b).symm⟩
  · obtain ⟨a, ha⟩ := hx i c
    obtain ⟨b, hb⟩ := hx k c
    exact ⟨a * b, by rw [ha, hb, EReal.coe_mul]⟩

/-- A squared distance is a positive real. -/
theorem sqd_real (i k : Fin 4096) : ∃ r : ℝ, 0 < r ∧ sqd x i k = (r : EReal) := by
  obtain ⟨a, ha⟩ := sum_real hx i i
  obtain ⟨b, hb⟩ := sum_real hx k k
  obtain ⟨c, hc⟩ := sum_real hx i k
  obtain ⟨u, hu, eu⟩ := RefRead.ofBits_pos 0x2B8CBCCC#32 (by decide) (by decide) (by decide)
  obtain ⟨w, hw, ew⟩ := RefRead.ofBits_pos 0x40000000#32 (by decide) (by decide) (by decide)
  refine ⟨max (a + b - w * c) u, lt_max_of_lt_right hu, ?_⟩
  unfold sqd
  rw [ha, hb, hc, eu, ew, ← EReal.coe_mul, ← EReal.coe_add, ← EReal.coe_sub]
  exact (EReal.coe_strictMono.monotone.map_max).symm

theorem sqd_lt_top (i k : Fin 4096) : sqd x i k < ⊤ := by
  obtain ⟨r, -, e⟩ := sqd_real hx i k
  rw [e]; exact EReal.coe_lt_top r

/-- A normalised distance is less exactly where the squared distance is. -/
theorem div_lt {n : EReal} (hn : ∃ r : ℝ, 0 < r ∧ n = (r : EReal)) (i k k' : Fin 4096) :
    Ideal.div (distX x i k) n < Ideal.div (distX x i k') n ↔ sqd x i k < sqd x i k' := by
  obtain ⟨n, hn, rfl⟩ := hn
  obtain ⟨a, ha, ea⟩ := sqd_real hx i k
  obtain ⟨b, hb, eb⟩ := sqd_real hx i k'
  obtain ⟨w, hw, ew⟩ := RefRead.ofBits_pos 0x33D6BF95#32 (by decide) (by decide) (by decide)
  have sq : ∀ {r : ℝ}, 0 < r → Ideal.sqrt (r : EReal) = (Real.sqrt r : EReal) := fun {r} hr => by
    show (if r < 0 then ⊥ else (Real.sqrt r : EReal)) = _
    rw [if_neg hr.not_gt]
  unfold distX
  rw [ea, eb, ew, sq ha, sq hb, ← EReal.coe_add, ← EReal.coe_add, Lid.coe_div _ hn, Lid.coe_div _ hn, EReal.coe_lt_coe_iff, EReal.coe_lt_coe_iff,
    div_lt_div_iff_of_pos_right hn, add_lt_add_iff_right, Real.sqrt_lt_sqrt_iff ha.le]

variable {n : FVec Ideal S_ .f32} (hn : ∃ r : ℝ, 0 < r ∧ n ix0 = (r : EReal))
include hn

/-- The six are the positions taken in the first six rounds. -/
theorem six_far (i : Fin 4096) (t : Fin 6) : (six (far x n)).1 (ix2 i t) = -(Ideal.div (distX x i (sel (sqd x i) t.val)) (n ix0))
    ∧ (six (far x n)).2 (ix2 i t) = BitVec.ofNat 32 (sel (sqd x i) t.val).val := by
  rw [← far_apply]
  refine six_apply _ _ _ _ (sorted_sel (sqd x i) (sqd_lt_top hx i) _ (fun k k' => ?_) t)
  rw [far_apply, far_apply]
  have h : (-(Ideal.div (distX x i k') (n ix0)) < -(Ideal.div (distX x i k) (n ix0))) ↔ sqd x i k < sqd x i k' :=
    EReal.neg_lt_neg_iff.trans (div_lt hx hn i k k')
  show (BitVec.ofBool (decide (-(Ideal.div (distX x i k') (n ix0)) < -(Ideal.div (distX x i k) (n ix0)))) == 1#1) = _
  rw [decide_eq_decide.mpr h]
  cases decide (sqd x i k < sqd x i k') <;> rfl

theorem vals_far (i : Fin 4096) (j : Fin 5) : vals (far x n) (ix2 i j) = Ideal.div (distX x i (sel (sqd x i) (1 + j.val))) (n ix0) := by
  rw [vals_apply, (six_far hx hn i _).1, neg_neg]

theorem poss_far (i : Fin 4096) (j : Fin 5) : poss (far x n) (ix2 i j) = BitVec.ofNat 32 (sel (sqd x i) (1 + j.val)).val := by
  rw [poss_apply, (six_far hx hn i _).2]

/-- The reference's positions are the kernel's first five index columns. -/
theorem poss_near : poss (far x n) = extractStridedSlice S4096x5 ![0, 0] (WholeRun.nearIdx (F := Ideal) x) Cert.ReferenceIdeal.Gen.facts.slices_S4096x8_S4096x5_0_0 := by
  have h : ∀ (i : Fin 4096) (j : Fin 5), poss (far x n) (ix2 i j)
      = extractStridedSlice S4096x5 ![0, 0] (WholeRun.nearIdx (F := Ideal) x) Cert.ReferenceIdeal.Gen.facts.slices_S4096x8_S4096x5_0_0 (ix2 i j) := fun i j => by
    rw [poss_far hx hn, Nat.add_comm, ← nearIdx_apply]
    unfold extractStridedSlice
    refine congrArg (WholeRun.nearIdx (F := Ideal) x) ?_
    funext a
    refine Fin.ext ?_
    match a with
    | ⟨0, _⟩ => show i.val = 0 + i.val; omega
    | ⟨1, _⟩ => show j.val = 0 + j.val; omega
  funext y
  rw [eq_ix2 y]
  exact h _ _

theorem distX_pos (i k : Fin 4096) : 0 < distX x i k :=
  lt_of_lt_of_le RefRead.floor_pos (le_add_of_nonneg_left (RefRead.sqrt_nonneg (lt_max_of_lt_right RefRead.under_pos)))

/-- The reference's local dimensions of `X` are the kernel's. -/
theorem lids_near (i : Fin 4096) : lids (vals (far x n)) (ix1 i) = WholeRun.nearLid (F := Ideal) x (ix2 i 0) := by
  rw [lids_apply, nearLid_apply]
  simp only [vals_far hx hn]
  rw [← Lid.kernelLid_eq_refLid RefRead.ln10_pos RefRead.five_eq hn (fun j => distX x i (sel (sqd x i) (1 + j.val))) fun j => distX_pos hx hn i _]
  have e : ∀ t : ℕ, t < 4096 → Ideal.log (distX x i (sel (sqd x i) t)) = logAt (sqd x i) t := fun t ht => by
    unfold logAt distX
    rw [sel_val _ (sqd_lt_top hx i) ht]
  rw [← e 1 (by decide), ← e 2 (by decide), ← e 3 (by decide), ← e 4 (by decide), ← e 5 (by decide)]
  rfl

/-- The whole reference's result is the loss the kernel computes. -/
theorem out_far (z : FVec Ideal S4096x64 .f32) {n' : FVec Ideal S_ .f32} (hn' : ∃ r : ℝ, 0 < r ∧ n' ix0 = (r : EReal)) (o : S_.Idx) :
    out (vals (far x n)) (picked z n' (poss (far x n))) o
      = Lid.lossOf z (Lid.nb (WholeRun.nearIdx (F := Ideal) x)) fun i => WholeRun.nearLid (F := Ideal) x (ix2 i 0) := by
  have hi : ∀ i (j : Fin 5), (WholeRun.nearIdx (F := Ideal) x (ix2 i ⟨j.val, by omega⟩)).toNat < 4096 := fun i j =>
    (nearIdx_lt x i j).trans_lt (sel _ _).isLt
  have g (i : Fin 4096) (j : Fin 5) : picked z n' (poss (far x n)) (ix2 i j)
      = Ideal.div (Lid.dist z i (Lid.nb (WholeRun.nearIdx (F := Ideal) x) i j)) (n' ix0) := by
    rw [poss_near hx hn, picked_eq, RefRead.gather_apply _ _ i j i (Lid.nb (WholeRun.nearIdx (F := Ideal) x) i j) (RefRead.starts_row _ i j)
      ((RefRead.starts_col _ i j (hi i j)).trans (Nat.mod_eq_of_lt (hi i j)).symm), RefRead.dists_apply]
  have k (i : Fin 4096) := Lid.kernelLid_eq_refLid RefRead.ln10_pos RefRead.five_eq hn' (fun j => Lid.dist z i (Lid.nb (WholeRun.nearIdx (F := Ideal) x) i j))
    fun j => RefRead.dist_pos z i _
  rw [out_apply]
  simp only [lids_near hx hn, lids_apply (picked _ _ _), g, ← k]
  rfl

end Finite

end Cert.Proof.WholeRef

end
-- ==== Proof.lean ====
/-
  The proof of `Cert.Claim`.
-/
module

public import proofs.«01_k».proof.Defs
public import proofs.«01_k».proof.Proof.Gen.ReferenceIdeal.Run
public import proofs.«01_k».proof.Proof.Range
public import proofs.«01_k».proof.Proof.Gen.Pre_neighbours_in_range_and_spread
public import proofs.«01_k».proof.Proof.KernelEnd
public import proofs.«01_k».proof.Proof.KernelIdealEnd
public import proofs.«01_k».proof.Proof.Gen.WholeIdeal.Launch
public import proofs.«01_k».proof.Proof.Gen.WholeIdeal.Skeleton
public import proofs.«01_k».proof.Proof.Gen.WholeReferenceIdeal.Run
public import proofs.«01_k».proof.Proof.Gen.Pre_spread_of_both
public import proofs.«01_k».proof.Proof.KernelRead
public import proofs.«01_k».proof.Proof.ReferenceRead
public import proofs.«01_k».proof.Proof.WholeEnd
public import proofs.«01_k».proof.Proof.WholeKernelRead
public import proofs.«01_k».proof.Proof.WholeReferenceRead

@[expose] public section

noncomputable section

namespace Cert.Proof

open Idealize.ShloMosaic Idealize.SL.Sem

/-- The frame of the kernel as printed. -/
theorem frame_kernel : quiescent_Kernel := fun m g hpre =>
  KernelRun.run_frame m g (KernelRun.preOK_of m fun d j => Range.lt_of_range _ _ _ (hpre d) j)

/-- The frame of the idealized kernel. -/
theorem frame_kernelIdeal : quiescent_KernelIdeal := fun m g hpre =>
  KernelIdealRun.run_frame m g (KernelIdealRun.preOK_of m fun d j => Range.lt_of_range _ _ _ (hpre d) j)

/-- A run of the reference keeps the arguments and has no semaphore to leave raised. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- The frame of the idealized reference. -/
theorem frame_referenceIdeal : quiescent_ReferenceIdeal := fun m g _ => run_reference m g

/-- What the second precondition says of the indices, as the kernel's run asks for it. -/
theorem preOK_spread (m : (ℓ : Loc Cert.KernelIdeal.nD Cert.KernelIdeal.τ Cert.KernelIdeal.sig) → Buf (Elt Ideal) ℓ)
    (hpre : Pre_KernelIdeal_neighbours_in_range_and_spread m) : KernelIdealRun.PreOK (F := Ideal) (KernelIdealRun.idxM m) :=
  KernelIdealRun.preOK_of m fun d j => (Range.of_spread _ _ _ (hpre d)).1 j

/-- From equal arguments the idealized kernel and the idealized reference leave equal losses. -/
theorem algebraic : algebraic_KernelIdeal_ReferenceIdeal_pre_neighbours_in_range_and_spread := by
  intro m g m' g' hpre hm
  refine ⟨_, KernelIdealRun.run_value m g (preOK_spread m hpre), (θ_run _ _ _).mono (fun r h c => ⟨(h c).1.trans ?_, (h c).2⟩)
    (Cert.ReferenceIdeal.Value.run m' g')⟩
  obtain ⟨hi, h0, h1⟩ := Range.of_spread _ _ _ (hpre c)
  rw [RefRead.res_eq, (hm c).1, (hm c).2.1, (hm c).2.2]
  funext o
  rw [RefRead.res_apply _ _ _ _ ?_ (RefRead.real_of _ h0 h1)]
  · exact (Lid.resVal_apply _ _ _ o).symm
  · intro i j
    have := hi (ix2 i j)
    pointwise at this
    exact this

/-! ## The whole kernel -/

/-- The index list of the whole kernel's gather is in range, whatever its arguments hold. -/
theorem preOK_whole (m : (ℓ : Loc Cert.WholeIdeal.nD Cert.WholeIdeal.τ Cert.WholeIdeal.sig) → Buf (Elt Ideal) ℓ) :
    WholeRun.PreOK (F := Ideal) (WholeRun.idxM m) := by
  have h : ∀ (X : Cert.WholeIdeal.S4096x128.Idx → Elt Ideal .f32) (i : Fin 4096) (j : Fin 5),
      (extractStridedSlice Cert.WholeIdeal.S4096x5 ![0, 0] (WholeRun.nearIdx X) Cert.WholeIdeal.Gen.facts.slices_S4096x8_S4096x5_0_0 (ix2 i j) : BitVec 32).toNat < 4096 := fun X i j => by
    refine lt_of_eq_of_lt (congrArg (fun y => (WholeRun.nearIdx (F := Ideal) X y : BitVec 32).toNat) (?_ : _ = ix2 i (j.castLE (by decide))))
      ((WholeVal.nearIdx_lt X i j).trans_lt (Near.sel _ _).isLt)
    funext a
    refine Fin.ext ?_
    match a with
    | ⟨0, _⟩ => show 0 + i.val = i.val; omega
    | ⟨1, _⟩ => show 0 + j.val = j.val; omega
  exact WholeRun.preOK_of m fun X y => by rw [eq_ix2 y]; exact h X _ _

/-- The frame of the idealized whole kernel. -/
theorem frame_wholeIdeal : quiescent_WholeIdeal := fun m g _ => WholeRun.run_frame m g (preOK_whole m)

/-- A run of the whole reference keeps the arguments and has no semaphore to leave raised. -/
theorem run_wholeReference (m : (ℓ : Loc Cert.WholeReferenceIdeal.nD Cert.WholeReferenceIdeal.τ Cert.WholeReferenceIdeal.sig) → Buf (Elt Ideal) ℓ)
    (g : Dev Cert.WholeReferenceIdeal.nD → PrngReg) :
    θ_run (Cert.WholeReferenceIdeal.defs (F := Ideal)) (onTc (τ := Cert.WholeReferenceIdeal.τ) (Cert.WholeReferenceIdeal.main (F := Ideal))) ⟨m, fun _ => 0, g⟩
      (fun r => (∀ c : Dev Cert.WholeReferenceIdeal.nD,
        r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
        ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
        ∧ r.2.sem = fun _ => 0) :=
  (θ_run _ _ _).mono (fun r h => ⟨fun c => (h c).2, sem_eq_zero_of_no_sems (by decide) r.2⟩) (Cert.WholeReferenceIdeal.Value.run m g)

/-- From equal arguments the idealized whole kernel and the idealized whole reference leave equal losses. -/
theorem algebraic_whole : algebraic_WholeIdeal_WholeReferenceIdeal_pre_spread_of_both := by
  intro m g m' g' hpre hm
  refine ⟨_, WholeRun.run_value m g (preOK_whole m), (θ_run _ _ _).mono (fun r h c => ⟨(h c).1.trans ?_, (h c).2⟩)
    (Cert.WholeReferenceIdeal.Value.run m' g')⟩
  obtain ⟨hx, hn, hn'⟩ := WholeRange.reals _ _ (hpre c)
  have e0 : StableHlo.launchContents m' c (Proc.devRef .tc Cert.WholeReferenceIdeal.main_arg0) = m' ((c.tc : Thread Cert.WholeReferenceIdeal.nD Cert.WholeReferenceIdeal.τ).loc Cert.WholeReferenceIdeal.main_arg0) := rfl
  have e1 : StableHlo.launchContents m' c (Proc.devRef .tc Cert.WholeReferenceIdeal.main_arg1) = m' ((c.tc : Thread Cert.WholeReferenceIdeal.nD Cert.WholeReferenceIdeal.τ).loc Cert.WholeReferenceIdeal.main_arg1) := rfl
  rw [WholeRef.res_eq, WholeRef.v43_eq, WholeRef.v93_eq, WholeRef.v44_eq, WholeRef.v41_eq, e0, e1, (hm c).1, (hm c).2]
  funext o
  exact (WholeRef.out_far hx hn _ hn' o).trans (WholeVal.resVal_apply _ _ _ o).symm

theorem claim : Cert.Claim :=
  ⟨Cert.Kernel.Gen.facts, Cert.KernelIdeal.Gen.facts, Cert.ReferenceIdeal.Gen.facts, Cert.WholeIdeal.Gen.facts, Cert.WholeReferenceIdeal.Gen.facts,
    Cert.Pre_neighbours_in_range.Gen.facts, Cert.Pre_neighbours_in_range_and_spread.Gen.facts, Cert.Pre_spread_of_both.Gen.facts,
    frame_kernel, frame_kernelIdeal, fun m g hpre => KernelIdealRun.run_frame m g (preOK_spread m hpre),
    frame_referenceIdeal, fun m g _ => run_reference m g, frame_wholeIdeal, fun m g _ => WholeRun.run_frame m g (preOK_whole m),
    fun m g _ => run_wholeReference m g, fun m g _ => run_wholeReference m g, trivial, algebraic, algebraic_whole⟩

end Cert.Proof

end
